-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v77) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v64) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v31) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_v32) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v41)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v41) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v147) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)) →
    ∃ (v0 : (c : Dev Cert.Kernel7Ideal.nD) → Buf (Elt Ideal) ((c.tc : Thread Cert.Kernel7Ideal.nD Cert.Kernel7Ideal.τ).loc Cert.Kernel7Ideal.main_v31_0)) (v1 : (c : Dev Cert.Kernel7Ideal.nD) → Buf (Elt Ideal) ((c.tc : Thread Cert.Kernel7Ideal.nD Cert.Kernel7Ideal.τ).loc Cert.Kernel7Ideal.main_v31_1)) (v2 : (c : Dev Cert.Kernel7Ideal.nD) → Buf (Elt Ideal) ((c.tc : Thread Cert.Kernel7Ideal.nD Cert.Kernel7Ideal.τ).loc Cert.Kernel7Ideal.main_v31_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v31_0) = v0 c
          ∧ r.2.mem ((c.tc : Thread Cert.Kernel7Ideal.nD Cert.Kernel7Ideal.τ).loc Cert.Kernel7Ideal.main_v31_1) = v1 c
          ∧ r.2.mem ((c.tc : Thread Cert.Kernel7Ideal.nD Cert.Kernel7Ideal.τ).loc Cert.Kernel7Ideal.main_v31_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v30) = v0 c
          ∧ r.2.mem ((c.tc : Thread Cert.Reference7Ideal.nD Cert.Reference7Ideal.τ).loc Cert.Reference7Ideal.main_v42) = v1 c
          ∧ r.2.mem ((c.tc : Thread Cert.Reference7Ideal.nD Cert.Reference7Ideal.τ).loc Cert.Reference7Ideal.main_v54) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_scores.lean ====
abbrev S16384x3072 : Shape := ⟨2, ![16384, 3072]⟩
abbrev S1024x3072 : Shape := ⟨2, ![1024, 3072]⟩
abbrev S16384x2048 : Shape := ⟨2, ![16384, 2048]⟩
abbrev S4x8x2048 : Shape := ⟨3, ![4, 8, 2048]⟩
abbrev S16 : Shape := ⟨1, ![16]⟩
abbrev S2x2048x2048 : Shape := ⟨3, ![2, 2048, 2048]⟩
abbrev S16384x2560 : Shape := ⟨2, ![16384, 2560]⟩
abbrev S_ : Shape := ⟨0, ![]⟩
abbrev S1024x512 : Shape := ⟨2, ![1024, 512]⟩

class Facts : Prop where
  slices_S16384x3072_S16384x2560_0_0 : S16384x3072.Slices ![0, 0] S16384x2560
  bitsLt_bf16_f32 : FTy.bits .bf16 < FTy.bits .f32
  bcast_S_S16384x2560 : S_.BroadcastsInDim S16384x2560 (![] : Fin 0 → Fin S16384x2560.rank)
  reducesTo_S16384x2560_S_d0_1 : S16384x2560.ReducesTo [0, 1] S_
  h_S_ : 0 < S_.numel
  slices_S1024x3072_S1024x512_0_2048 : S1024x3072.Slices ![0, 2048] S1024x512
  bcast_S_S1024x512 : S_.BroadcastsInDim S1024x512 (![] : Fin 0 → Fin S1024x512.rank)
  reducesTo_S1024x512_S_d0_1 : S1024x512.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S16384x3072 .bf16) (main_arg1 : FVec F S1024x3072 .bf16) (main_arg2 : FVec F S16384x2048 .f32) (main_arg3 : FVec F S4x8x2048 .f32) (main_arg4 : FVec F S16 .f32) (main_arg5 : FVec F S2x2048x2048 .bf16) : IVec S_ 1 :=
  let main_v0 : FVec F S16384x2560 .bf16 := (extractStridedSlice S16384x2560 ![0, 0] · slices_S16384x3072_S16384x2560_0_0) main_arg0
  let main_v1 : FVec F S16384x2560 .f32 := (extf .f32 · bitsLt_bf16_f32) main_v0
  let main_v2 : FVec F S16384x2560 .f32 := Host.absf main_v1
  let main_cst : FVec F S_ .f32 := constant S_ .f32 0x7F800000#32
  let main_v3 : FVec F S16384x2560 .f32 := broadcastInDim S16384x2560 ![] bcast_S_S16384x2560 main_cst
  let main_v4 : IVec S16384x2560 1 := cmpf .olt main_v2 main_v3
  let main_c : IVec S_ 1 := constantI S_ 1 1#1
  let main_v5 : IVec S_ 1 := (fun x v => Host.reduce IntOp.andi x v reducesTo_S16384x2560_S_d0_1 h_S_) main_v4 main_c
  let main_v6 : FVec F S1024x512 .bf16 := (extractStridedSlice S1024x512 ![0, 2048] · slices_S1024x3072_S1024x512_0_2048) main_arg1
  let main_v7 : FVec F S1024x512 .f32 := (extf .f32 · bitsLt_bf16_f32) main_v6
  let main_v8 : FVec F S1024x512 .f32 := Host.absf main_v7
  let main_cst_0 : FVec F S_ .f32 := constant S_ .f32 0x7F800000#32
  let main_v9 : FVec F S1024x512 .f32 := broadcastInDim S1024x512 ![] bcast_S_S1024x512 main_cst_0
  let main_v10 : IVec S1024x512 1 := cmpf .olt main_v8 main_v9
  let main_c_1 : IVec S_ 1 := constantI S_ 1 1#1
  let main_v11 : IVec S_ 1 := (fun x v => Host.reduce IntOp.andi x v reducesTo_S1024x512_S_d0_1 h_S_) main_v10 main_c_1
  let main_v12 : IVec S_ 1 := andi main_v5 main_v11
  let main_cst_2 : FVec F S_ .f32 := constant S_ .f32 0x7F800000#32
  let main_v13 : FVec F S16 .f32 := broadcastInDim S16 ![] bcast_S_S16 main_cst_2
  let main_v14 : IVec S16 1 := cmpf .olt main_arg4 main_v13
  let main_c_3 : IVec S_ 1 := constantI S_ 1 1#1
  let main_v15 : IVec S_ 1 := (fun x v => Host.reduce IntOp.andi x v reducesTo_S16_S_d0 h_S_) main_v14 main_c_3
  let main_v16 : IVec S_ 1 := andi main_v12 main_v15
  main_v16
-- ==== Kernel.lean ====
abbrev S16384x3072 : Shape := ⟨2, ![16384, 3072]⟩
abbrev S1024x3072 : Shape := ⟨2, ![1024, 3072]⟩
abbrev S16384x2048 : Shape := ⟨2, ![16384, 2048]⟩
abbrev S4x8x2048 : Shape := ⟨3, ![4, 8, 2048]⟩
abbrev S16 : Shape := ⟨1, ![16]⟩
abbrev S2x2048x2048 : Shape := ⟨3, ![2, 2048, 2048]⟩
abbrev S1x16 : Shape := ⟨2, ![1, 16]⟩
abbrev S512x2048 : Shape := ⟨2, ![512, 2048]⟩
abbrev S128x512 : Shape := ⟨2, ![128, 512]⟩
abbrev S512x512 : Shape := ⟨2, ![512, 512]⟩
abbrev S256x512 : Shape := ⟨2, ![256, 512]⟩
abbrev S1x8x2048 : Shape := ⟨3, ![1, 8, 2048]⟩
abbrev S1x2048x2048 : Shape := ⟨3, ![1, 2048, 2048]⟩
abbrev S768x512 : Shape := ⟨2, ![768, 512]⟩
abbrev S640x512 : Shape := ⟨2, ![640, 512]⟩
abbrev S128x128 : Shape := ⟨2, ![128, 128]⟩
abbrev S512x128 : Shape := ⟨2, ![512, 128]⟩
abbrev S384x128 : Shape := ⟨2, ![384, 128]⟩
abbrev S256x128 : Shape := ⟨2, ![256, 128]⟩
abbrev S640x128 : Shape := ⟨2, ![640, 128]⟩
abbrev S1x1 : Shape := ⟨2, ![1, 1]⟩
abbrev S1x128 : Shape := ⟨2, ![1, 128]⟩
abbrev S1x512 : Shape := ⟨2, ![1, 512]⟩
abbrev S512 : Shape := ⟨1, ![512]⟩
abbrev S128x2048 : Shape := ⟨2, ![128, 2048]⟩
abbrev S1x1x2048 : Shape := ⟨3, ![1, 1, 2048]⟩
abbrev S1x2048 : Shape := ⟨2, ![1, 2048]⟩
abbrev S2048x2048 : Shape := ⟨2, ![2048, 2048]⟩

abbrev nBuf : Space → Nat
  | .hbm => 8
  | .vmem => 26
  | .smem => 0
  | _ => 0

abbrev bufTy : (tb : Table) → Fin (tcTables nBuf tb) → BufTy
  | .hbm, ⟨0, _⟩ => ⟨S16384x3072, .bf16⟩
  | .hbm, ⟨1, _⟩ => ⟨S1024x3072, .bf16⟩
  | .hbm, ⟨2, _⟩ => ⟨S16384x2048, .f32⟩
  | .hbm, ⟨3, _⟩ => ⟨S4x8x2048, .f32⟩
  | .hbm, ⟨4, _⟩ => ⟨S16, .f32⟩
  | .hbm, ⟨5, _⟩ => ⟨S2x2048x2048, .bf16⟩
  | .hbm, ⟨6, _⟩ => ⟨S1x16, .f32⟩
  | .hbm, ⟨7, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S128x512, .bf16⟩
  | .local _ .vmem, ⟨3, _⟩ => ⟨S128x512, .bf16⟩
  | .local _ .vmem, ⟨4, _⟩ => ⟨S512x512, .bf16⟩
  | .local _ .vmem, ⟨5, _⟩ => ⟨S512x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S512x512, .bf16⟩
  | .local _ .vmem, ⟨11, _⟩ => ⟨S512x512, .bf16⟩
  | .local _ .vmem, ⟨12, _⟩ => ⟨S128x512, .bf16⟩
  | .local _ .vmem, ⟨13, _⟩ => ⟨S128x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S512x2048, .f32⟩
  | .local _ .vmem, ⟨19, _⟩ => ⟨S512x2048, .f32⟩
  | .local _ .vmem, ⟨20, _⟩ => ⟨S1x8x2048, .f32⟩
  | .local _ .vmem, ⟨21, _⟩ => ⟨S1x8x2048, .f32⟩
  | .local _ .vmem, ⟨22, _⟩ => ⟨S1x16, .f32⟩
  | .local _ .vmem, ⟨23, _⟩ => ⟨S1x2048x2048, .bf16⟩
  | .local _ .vmem, ⟨24, _⟩ => ⟨S512x2048, .f32⟩
  | .local _ .vmem, ⟨25, _⟩ => ⟨S512x2048, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c4_i32_0 : BitVec 32 := 4#32
  let c0_i32_1 : BitVec 32 := 0#32
  ![v2.toNat, c4_i32_0.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c127_i32 : BitVec 32 := 127#32
  let v2 : BitVec 32 := Scalar.minsi v1 c127_i32
  let c4_i32_0 : BitVec 32 := 4#32
  let c0_i32 : BitVec 32 := 0#32
  ![v2.toNat, c4_i32_0.toNat]

def cc0_transform_4 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c127_i32 : BitVec 32 := 127#32
  let v2 : BitVec 32 := Scalar.minsi v1 c127_i32
  let c5_i32 : BitVec 32 := 5#32
  let c0_i32 : BitVec 32 := 0#32
  ![v2.toNat, c5_i32.toNat]

def cc0_transform_7 (i : grid0.Coords) : Fin 2 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let c0_i32_4 : BitVec 32 := 0#32
  ![v17.toNat, c4_i32.toNat]

def cc0_transform_8 (i : grid0.Coords) : Fin 2 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c5_i32 : BitVec 32 := 5#32
  let c0_i32_4 : BitVec 32 := 0#32
  ![v17.toNat, c5_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S16384x3072 : Shape := ⟨2, ![16384, 3072]⟩
abbrev S1024x3072 : Shape := ⟨2, ![1024, 3072]⟩
abbrev S16384x2048 : Shape := ⟨2, ![16384, 2048]⟩
abbrev S4x8x2048 : Shape := ⟨3, ![4, 8, 2048]⟩
abbrev S16 : Shape := ⟨1, ![16]⟩
abbrev S2x2048x2048 : Shape := ⟨3, ![2, 2048, 2048]⟩
abbrev S4x256x3072 : Shape := ⟨3, ![4, 256, 3072]⟩
abbrev S4x256x2048 : Shape := ⟨3, ![4, 256, 2048]⟩
abbrev S4x256x512 : Shape := ⟨3, ![4, 256, 512]⟩
abbrev S4x256x4x128 : Shape := ⟨4, ![4, 256, 4, 128]⟩
abbrev S4x4096x3072 : Shape := ⟨3, ![4, 4096, 3072]⟩
abbrev S4x4096x2048 : Shape := ⟨3, ![4, 4096, 2048]⟩
abbrev S4x4096x512 : Shape := ⟨3, ![4, 4096, 512]⟩
abbrev S4x4096x4x128 : Shape := ⟨4, ![4, 4096, 4, 128]⟩
abbrev S4x4 : Shape := ⟨2, ![4, 4]⟩
abbrev S1x4x4x1x1 : Shape := ⟨5, ![1, 4, 4, 1, 1]⟩
abbrev S128x128x4x4x128 : Shape := ⟨5, ![128, 128, 4, 4, 128]⟩
abbrev S_ : Shape := ⟨0, ![]⟩
abbrev S4x4352x4x128 : Shape := ⟨4, ![4, 4352, 4, 128]⟩
abbrev S4x34x128x4x128 : Shape := ⟨5, ![4, 34, 128, 4, 128]⟩
abbrev S4x32x128x4x128 : Shape := ⟨5, ![4, 32, 128, 4, 128]⟩
abbrev S4x32x384x4x128 : Shape := ⟨5, ![4, 32, 384, 4, 128]⟩
abbrev S128x384x4x128 : Shape := ⟨4, ![128, 384, 4, 128]⟩
abbrev S4x32x256x4x128 : Shape := ⟨5, ![4, 32, 256, 4, 128]⟩
abbrev S128x256x4x128 : Shape := ⟨4, ![128, 256, 4, 128]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S128x1x1 : Shape := ⟨3, ![128, 1, 1]⟩
abbrev S1x1x384 : Shape := ⟨3, ![1, 1, 384]⟩
abbrev S128x1x384 : Shape := ⟨3, ![128, 1, 384]⟩
abbrev S1x128x384 : Shape := ⟨3, ![1, 128, 384]⟩
abbrev S128x128x384 : Shape := ⟨3, ![128, 128, 384]⟩
abbrev S128x1x1x128x384 : Shape := ⟨5, ![128, 1, 1, 128, 384]⟩
abbrev S128x4x384x128x4 : Shape := ⟨5, ![128, 4, 384, 128, 4]⟩
abbrev S128x4x4x128x384 : Shape := ⟨5, ![128, 4, 4, 128, 384]⟩
abbrev S128x4x256x128x4 : Shape := ⟨5, ![128, 4, 256, 128, 4]⟩
abbrev S128x4x4x128x256 : Shape := ⟨5, ![128, 4, 4, 128, 256]⟩
abbrev S128x4x4x128x640 : Shape := ⟨5, ![128, 4, 4, 128, 640]⟩
abbrev S128x4x4x128 : Shape := ⟨4, ![128, 4, 4, 128]⟩
abbrev S128x4x4x128x1 : Shape := ⟨5, ![128, 4, 4, 128, 1]⟩
abbrev S128x4x128x4x128 : Shape := ⟨5, ![128, 4, 128, 4, 128]⟩
abbrev S1x2048x2048 : Shape := ⟨3, ![1, 2048, 2048]⟩
abbrev S2048x2048 : Shape := ⟨2, ![2048, 2048]⟩
abbrev S4x1x2048 : Shape := ⟨3, ![4, 1, 2048]⟩
abbrev S4x2048 : Shape := ⟨2, ![4, 2048]⟩

abbrev nBuf : Space → Nat
  | .hbm => 157
  | .vmem => 0
  | .smem => 0
  | _ => 0

abbrev hbmTy0_0 (i : Nat) : BufTy := match i % 128 with
  | 0 => ⟨S16384x3072, .bf16⟩
  | 1 => ⟨S1024x3072, .bf16⟩
  | 2 => ⟨S16384x2048, .f32⟩
  | 3 => ⟨S4x8x2048, .f32⟩
  | 4 => ⟨S16, .f32⟩
  | 5 => ⟨S2x2048x2048, .bf16⟩
  | 6 => ⟨S1024x3072, .f32⟩
  | 7 => ⟨S4x256x3072, .f32⟩
  | 8 => ⟨S4x256x2048, .f32⟩
  | 9 => ⟨S4x256x512, .f32⟩
  | 10 => ⟨S4x256x512, .f32⟩
  | 11 => ⟨S4x256x4x128, .f32⟩
  | 12 => ⟨S4x256x4x128, .f32⟩
  | 13 => ⟨S16384x3072, .f32⟩
  | 14 => ⟨S4x4096x3072, .f32⟩
  | 15 => ⟨S4x4096x2048, .f32⟩
  | 16 => ⟨S4x4096x512, .f32⟩
  | 17 => ⟨S4x4096x512, .f32⟩
  | 18 => ⟨S4x4096x4x128, .f32⟩
  | 19 => ⟨S4x4096x4x128, .f32⟩
  | 20 => ⟨S4x4, .f32⟩
  | 21 => ⟨S1x4x4x1x1, .f32⟩
  | 22 => ⟨S128x128x4x4x128, .f32⟩
  | 23 => ⟨S_, .i32⟩
  | 24 => ⟨S_, .f32⟩
  | 25 => ⟨S4x4352x4x128, .f32⟩
  | 26 => ⟨S4x34x128x4x128, .f32⟩
  | 27 => ⟨S4x32x128x4x128, .f32⟩
  | 28 => ⟨S4x32x128x4x128, .f32⟩
  | 29 => ⟨S4x32x128x4x128, .f32⟩
  | 30 => ⟨S4x32x384x4x128, .f32⟩
  | 31 => ⟨S128x384x4x128, .f32⟩
  | 32 => ⟨S_, .i32⟩
  | 33 => ⟨S_, .f32⟩
  | 34 => ⟨S4x4352x4x128, .f32⟩
  | 35 => ⟨S4x34x128x4x128, .f32⟩
  | 36 => ⟨S4x32x128x4x128, .f32⟩
  | 37 => ⟨S4x32x128x4x128, .f32⟩
  | 38 => ⟨S4x32x128x4x128, .f32⟩
  | 39 => ⟨S4x32x384x4x128, .f32⟩
  | 40 => ⟨S128x384x4x128, .f32⟩
  | 41 => ⟨S4x32x256x4x128, .f32⟩
  | 42 => ⟨S128x256x4x128, .f32⟩
  | 43 => ⟨S4x32x256x4x128, .f32⟩
  | 44 => ⟨S128x256x4x128, .f32⟩
  | 45 => ⟨S128, .i32⟩
  | 46 => ⟨S128x1, .i32⟩
  | 47 => ⟨S384, .i32⟩
  | 48 => ⟨S1x384, .i32⟩
  | 49 => ⟨S128x384, .i32⟩
  | 50 => ⟨S128x384, .i32⟩
  | 51 => ⟨S128x384, .i32⟩
  | 52 => ⟨S_, .i32⟩
  | 53 => ⟨S128x384, .i32⟩
  | 54 => ⟨S128x384, .i32⟩
  | 55 => ⟨S128x384, .i32⟩
  | 56 => ⟨S_, .i32⟩
  | 57 => ⟨S128x384, .i32⟩
  | 58 => ⟨S128x384, .i1⟩
  | 59 => ⟨S128, .i32⟩
  | 60 => ⟨S128x1x1, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S128x1x1, .i32⟩
  | 68 => ⟨S128x1x1, .i32⟩
  | 69 => ⟨S_, .i32⟩
  | 70 => ⟨S128x1x1, .i32⟩
  | 71 => ⟨S128x1x1, .i1⟩
  | 72 => ⟨S_, .i32⟩
  | 73 => ⟨S128x1x1, .i32⟩
  | 74 => ⟨S128x1x1, .i1⟩
  | 75 => ⟨S_, .i32⟩
  | 76 => ⟨S_, .i1⟩
  | 77 => ⟨S128x1x1, .i1⟩
  | 78 => ⟨S128x1x1, .i1⟩
  | 79 => ⟨S128x1x1, .i1⟩
  | 80 => ⟨S128x1x1, .i32⟩
  | 81 => ⟨S128x1x1, .i32⟩
  | 82 => ⟨S128x1x1, .i32⟩
  | 83 => ⟨S_, .i32⟩
  | 84 => ⟨S128x1x1, .i32⟩
  | 85 => ⟨S128x1x1, .i32⟩
  | 86 => ⟨S_, .i32⟩
  | 87 => ⟨S128x1x1, .i32⟩
  | 88 => ⟨S128x1x1, .i32⟩
  | 89 => ⟨S1x1x384, .i32⟩
  | 90 => ⟨S128x1x384, .i32⟩
  | 91 => ⟨S128x1x384, .i32⟩
  | 92 => ⟨S128x1x384, .i32⟩
  | 93 => ⟨S_, .i32⟩
  | 94 => ⟨S128x1x384, .i32⟩
  | 95 => ⟨S128x1x384, .i1⟩
  | 96 => ⟨S1x128x384, .i1⟩
  | 97 => ⟨S128x128x384, .i1⟩
  | 98 => ⟨S128x128x384, .i1⟩
  | 99 => ⟨S128x128x384, .i1⟩
  | 100 => ⟨S_, .i32⟩
  | 101 => ⟨S128x1x384, .i32⟩
  | 102 => ⟨S128x1x384, .i1⟩
  | 103 => ⟨S128x128x384, .i1⟩
  | 104 => ⟨S128x128x384, .i1⟩
  | 105 => ⟨S128x1x1x128x384, .i1⟩
  | 106 => ⟨S128x4x384x128x4, .f32⟩
  | 107 => ⟨S128x4x4x128x384, .f32⟩
  | 108 => ⟨S_, .f32⟩
  | 109 => ⟨S128x4x4x128x384, .f32⟩
  | 110 => ⟨S128x4x4x128x384, .f32⟩
  | 111 => ⟨S_, .f32⟩
  | 112 => ⟨S_, .f32⟩
  | 113 => ⟨S128x4x4x128x384, .i1⟩
  | 114 => ⟨S128x4x4x128x384, .f32⟩
  | 115 => ⟨S128x4x4x128x384, .f32⟩
  | 116 => ⟨S128x4x256x128x4, .f32⟩
  | 117 => ⟨S128x4x4x128x256, .f32⟩
  | 118 => ⟨S_, .f32⟩
  | 119 => ⟨S128x4x4x128x256, .f32⟩
  | 120 => ⟨S128x4x4x128x256, .f32⟩
  | 121 => ⟨S128x4x4x128x640, .f32⟩
  | 122 => ⟨S_, .f32⟩
  | 123 => ⟨S128x4x4x128, .f32⟩
  | 124 => ⟨S128x4x4x128x1, .f32⟩
  | 125 => ⟨S128x4x4x128x1, .f32⟩
  | 126 => ⟨S128x4x4x128x1, .f32⟩
  | 127 => ⟨S128x4x4x128x640, .f32⟩
  | _ => ⟨S16384x3072, .bf16⟩

abbrev hbmTy0_1 (i : Nat) : BufTy := match i % 128 with
  | 0 => ⟨S128x4x4x128x640, .f32⟩
  | 1 => ⟨S128x4x4x128x640, .f32⟩
  | 2 => ⟨S_, .f32⟩
  | 3 => ⟨S128x4x4x128, .f32⟩
  | 4 => ⟨S128x4x4x128x1, .f32⟩
  | 5 => ⟨S128x4x4x128x1, .f32⟩
  | 6 => ⟨S128x4x4x128x1, .f32⟩
  | 7 => ⟨S128x4x4x128x1, .f32⟩
  | 8 => ⟨S128x4x4x128x1, .f32⟩
  | 9 => ⟨S128x4x4x128x640, .f32⟩
  | 10 => ⟨S128x4x4x128x640, .f32⟩
  | 11 => ⟨S128x4x4x128x384, .f32⟩
  | 12 => ⟨S128x4x128x4x128, .f32⟩
  | 13 => ⟨S128x128x4x4x128, .f32⟩
  | 14 => ⟨S128x4x4x128x256, .f32⟩
  | 15 => ⟨S128x4x128x4x128, .f32⟩
  | 16 => ⟨S128x128x4x4x128, .f32⟩
  | 17 => ⟨S128x128x4x4x128, .f32⟩
  | 18 => ⟨S16384x2048, .f32⟩
  | 19 => ⟨S1x2048x2048, .bf16⟩
  | 20 => ⟨S2048x2048, .bf16⟩
  | 21 => ⟨S2048x2048, .f32⟩
  | 22 => ⟨S16384x2048, .f32⟩
  | 23 => ⟨S4x1x2048, .f32⟩
  | 24 => ⟨S4x2048, .f32⟩
  | 25 => ⟨S4x4096x2048, .f32⟩
  | 26 => ⟨S16384x2048, .f32⟩
  | 27 => ⟨S16384x2048, .f32⟩
  | 28 => ⟨S16384x2048, .f32⟩
  | _ => ⟨S16384x3072, .bf16⟩

abbrev hbmTy (i : Nat) : BufTy := match i / 128 with
  | 0 => hbmTy0_0 i
  | 1 => hbmTy0_1 i
  | _ => ⟨S16384x3072, .bf16⟩

abbrev bufTy : (tb : Table) → Fin (tcTables nBuf tb) → BufTy
  | .hbm, ⟨i, _⟩ => hbmTy i
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_0 : Ref sig .tc := ⟨.hbm, 32, rfl⟩
abbrev main_call1_v0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_c_1 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_c_2 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c_3 : Ref sig .tc := ⟨.hbm, 61, rfl⟩
abbrev main_call2_v0 : Ref sig .tc := ⟨.hbm, 62, rfl⟩
abbrev main_call2_c : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_c_1 : Ref sig .tc := ⟨.hbm, 69, rfl⟩
abbrev main_call2_v5 : Ref sig .tc := ⟨.hbm, 70, rfl⟩
abbrev main_call2_v6 : Ref sig .tc := ⟨.hbm, 71, rfl⟩
abbrev main_call2_c_2 : Ref sig .tc := ⟨.hbm, 72, rfl⟩
abbrev main_call2_v7 : Ref sig .tc := ⟨.hbm, 73, rfl⟩
abbrev main_call2_v8 : Ref sig .tc := ⟨.hbm, 74, rfl⟩
abbrev main_call2_c_3 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_v49 : Ref sig .tc := ⟨.hbm, 82, rfl⟩
abbrev main_c_4 : Ref sig .tc := ⟨.hbm, 83, rfl⟩
abbrev main_v50 : Ref sig .tc := ⟨.hbm, 84, rfl⟩
abbrev main_v51 : Ref sig .tc := ⟨.hbm, 85, rfl⟩
abbrev main_c_5 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_c_6 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_c_7 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst : Ref sig .tc := ⟨.hbm, 108, rfl⟩
abbrev main_v71 : Ref sig .tc := ⟨.hbm, 109, rfl⟩
abbrev main_v72 : Ref sig .tc := ⟨.hbm, 110, rfl⟩
abbrev main_cst_8 : Ref sig .tc := ⟨.hbm, 111, rfl⟩
abbrev main_call3_v0 : Ref sig .tc := ⟨.hbm, 112, rfl⟩
abbrev main_call3_v1 : Ref sig .tc := ⟨.hbm, 113, rfl⟩
abbrev main_call3_v2 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_9 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_cst_10 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_cst_11 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩

abbrev nD : Nat := 1
abbrev τ : Topo := Topo.v7x

variable {F : FTy → Type} [FloatOps F]
-- ==== Kernel2.lean ====
abbrev S16384x2048 : Shape := ⟨2, ![16384, 2048]⟩
abbrev S4x8x2048 : Shape := ⟨3, ![4, 8, 2048]⟩
abbrev S2048 : Shape := ⟨1, ![2048]⟩
abbrev S4x2048x11264 : Shape := ⟨3, ![4, 2048, 11264]⟩
abbrev S3x11264 : Shape := ⟨2, ![3, 11264]⟩
abbrev S11264 : Shape := ⟨1, ![11264]⟩
abbrev S4x5632x2048 : Shape := ⟨3, ![4, 5632, 2048]⟩
abbrev S1x11264 : Shape := ⟨2, ![1, 11264]⟩
abbrev S1x2048 : Shape := ⟨2, ![1, 2048]⟩
abbrev S8x2048 : Shape := ⟨2, ![8, 2048]⟩
abbrev S1024x2048 : Shape := ⟨2, ![1024, 2048]⟩
abbrev S1x8x2048 : Shape := ⟨3, ![1, 8, 2048]⟩
abbrev S1x2048x512 : Shape := ⟨3, ![1, 2048, 512]⟩
abbrev S1x512x2048 : Shape := ⟨3, ![1, 512, 2048]⟩
abbrev S1040x2048 : Shape := ⟨2, ![1040, 2048]⟩
abbrev S1040x512 : Shape := ⟨2, ![1040, 512]⟩
abbrev S1024x512 : Shape := ⟨2, ![1024, 512]⟩
abbrev S1x1x2048 : Shape := ⟨3, ![1, 1, 2048]⟩
abbrev S8 : Shape := ⟨1, ![8]⟩
abbrev S8x1 : Shape := ⟨2, ![8, 1]⟩
abbrev S256x2048 : Shape := ⟨2, ![256, 2048]⟩
abbrev S256 : Shape := ⟨1, ![256]⟩
abbrev S256x1 : Shape := ⟨2, ![256, 1]⟩
abbrev S2048x512 : Shape := ⟨2, ![2048, 512]⟩
abbrev S3x512 : Shape := ⟨2, ![3, 512]⟩
abbrev S1x512 : Shape := ⟨2, ![1, 512]⟩
abbrev S256x512 : Shape := ⟨2, ![256, 512]⟩
abbrev S1x512x512 : Shape := ⟨3, ![1, 512, 512]⟩
abbrev S512x512 : Shape := ⟨2, ![512, 512]⟩
abbrev S128x2048 : Shape := ⟨2, ![128, 2048]⟩
abbrev S128 : Shape := ⟨1, ![128]⟩
abbrev S128x1 : Shape := ⟨2, ![128, 1]⟩

abbrev nBuf : Space → Nat
  | .hbm => 12
  | .vmem => 24
  | .smem => 0
  | _ => 0

abbrev bufTy : (tb : Table) → Fin (tcTables nBuf tb) → BufTy
  | .hbm, ⟨0, _⟩ => ⟨S16384x2048, .f32⟩
  | .hbm, ⟨1, _⟩ => ⟨S4x8x2048, .f32⟩
  | .hbm, ⟨2, _⟩ => ⟨S2048, .f32⟩
  | .hbm, ⟨3, _⟩ => ⟨S4x2048x11264, .bf16⟩
  | .hbm, ⟨4, _⟩ => ⟨S3x11264, .f32⟩
  | .hbm, ⟨5, _⟩ => ⟨S11264, .f32⟩
  | .hbm, ⟨6, _⟩ => ⟨S4x5632x2048, .bf16⟩
  | .hbm, ⟨7, _⟩ => ⟨S2048, .f32⟩
  | .hbm, ⟨8, _⟩ => ⟨S1x11264, .f32⟩
  | .hbm, ⟨9, _⟩ => ⟨S1x2048, .f32⟩
  | .hbm, ⟨10, _⟩ => ⟨S1x2048, .f32⟩
  | .hbm, ⟨11, _⟩ => ⟨S16384x2048, .f32⟩
  | .local _ .vmem, ⟨0, _⟩ => ⟨S8x2048, .f32⟩
  | .local _ .vmem, ⟨1, _⟩ => ⟨S8x2048, .f32⟩
  | .local _ .vmem, ⟨2, _⟩ => ⟨S1024x2048, .f32⟩
  | .local _ .vmem, ⟨3, _⟩ => ⟨S1024x2048, .f32⟩
  | .local _ .vmem, ⟨4, _⟩ => ⟨S8x2048, .f32⟩
  | .local _ .vmem, ⟨5, _⟩ => ⟨S8x2048, .f32⟩
  | .local _ .vmem, ⟨6, _⟩ => ⟨S1x8x2048, .f32⟩
  | .local _ .vmem, ⟨7, _⟩ => ⟨S1x8x2048, .f32⟩
  | .local _ .vmem, ⟨8, _⟩ => ⟨S1x2048, .f32⟩
  | .local _ .vmem, ⟨9, _⟩ => ⟨S1x2048, .f32⟩
  | .local _ .vmem, ⟨10, _⟩ => ⟨S1x2048x512, .bf16⟩
  | .local _ .vmem, ⟨11, _⟩ => ⟨S1x2048x512, .bf16⟩
  | .local _ .vmem, ⟨12, _⟩ => ⟨S1x2048x512, .bf16⟩
  | .local _ .vmem, ⟨13, _⟩ => ⟨S1x2048x512, .bf16⟩
  | .local _ .vmem, ⟨14, _⟩ => ⟨S3x11264, .f32⟩
  | .local _ .vmem, ⟨15, _⟩ => ⟨S1x11264, .f32⟩
  | .local _ .vmem, ⟨16, _⟩ => ⟨S1x512x2048, .bf16⟩
  | .local _ .vmem, ⟨17, _⟩ => ⟨S1x512x2048, .bf16⟩
  | .local _ .vmem, ⟨18, _⟩ => ⟨S1024x2048, .f32⟩
  | .local _ .vmem, ⟨19, _⟩ => ⟨S1024x2048, .f32⟩
  | .local _ .vmem, ⟨20, _⟩ => ⟨S1040x2048, .bf16⟩
  | .local _ .vmem, ⟨21, _⟩ => ⟨S1040x512, .f32⟩
  | .local _ .vmem, ⟨22, _⟩ => ⟨S1040x512, .f32⟩
  | .local _ .vmem, ⟨23, _⟩ => ⟨S1024x512, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![16, 11], ![false, false]⟩

def k0_mult1 (i : grid0.Coords) : BitVec 32 :=
  let arg1 : BitVec 32 := BitVec.ofNat 32 (i 1).val
  let c512_i32 : BitVec 32 := 512#32
  let v16 : BitVec 32 := Scalar.muli arg1 c512_i32
  v16
def k0_mult2 (i : grid0.Coords) : BitVec 32 :=
  let c11_i32 : BitVec 32 := 11#32
  let arg1 : BitVec 32 := BitVec.ofNat 32 (i 1).val
  let v18 : BitVec 32 := Scalar.addi c11_i32 arg1
  let c512_i32_13 : BitVec 32 := 512#32
  let v19 : BitVec 32 := Scalar.muli v18 c512_i32_13
  v19
def k0_off1 (i : grid0.Coords) : Fin 2 → Nat :=
  let c0_14 : Index := 0#32
  let arg1 : BitVec 32 := BitVec.ofNat 32 (i 1).val
  let c512_i32 : BitVec 32 := 512#32
  let v16 : BitVec 32 := Scalar.muli arg1 c512_i32
  let v17 : BitVec 32 := v16
  let v21 : Index := Scalar.indexCast v17
  ![0, v21.toNat]
def k0_off2 (i : grid0.Coords) : Fin 2 → Nat :=
  let c0_15 : Index := 0#32
  let arg1 : BitVec 32 := BitVec.ofNat 32 (i 1).val
  let c512_i32 : BitVec 32 := 512#32
  let v16 : BitVec 32 := Scalar.muli arg1 c512_i32
  let v17 : BitVec 32 := v16
  let v23 : Index := Scalar.indexCast v17
  ![0, v23.toNat]
def k0_off3 (i : grid0.Coords) : Fin 2 → Nat :=
  let c0_16 : Index := 0#32
  let c11_i32 : BitVec 32 := 11#32
  let arg1 : BitVec 32 := BitVec.ofNat 32 (i 1).val
  let v18 : BitVec 32 := Scalar.addi c11_i32 arg1
  let c512_i32_13 : BitVec 32 := 512#32
  let v19 : BitVec 32 := Scalar.muli v18 c512_i32_13
  let v20 : BitVec 32 := v19
  let v26 : Index := Scalar.indexCast v20
  ![0, v26.toNat]
def k0_off4 (i : grid0.Coords) : Fin 2 → Nat :=
  let c0_17 : Index := 0#32
  let c11_i32 : BitVec 32 := 11#32
  let arg1 : BitVec 32 := BitVec.ofNat 32 (i 1).val
  let v18 : BitVec 32 := Scalar.addi c11_i32 arg1
  let c512_i32_13 : BitVec 32 := 512#32
  let v19 : BitVec 32 := Scalar.muli v18 c512_i32_13
  let v20 : BitVec 32 := v19
  let v28 : Index := Scalar.indexCast v20
  ![0, v28.toNat]
def k0_cond2 (i : grid0.Coords) : BitVec 1 :=
  let arg1 : BitVec 32 := BitVec.ofNat 32 (i 1).val
  let c10_i32 : BitVec 32 := 10#32
  let v240 : BitVec 1 := Scalar.cmpi .eq arg1 c10_i32
  let v241 : BitVec 32 := Scalar.extui v240
  let c0_i32_103 : BitVec 32 := 0#32
  let v242 : BitVec 1 := Scalar.cmpi .ne v241 c0_i32_103
  v242

@[reducible] def k0_t1_loop : Scf.Loop 32 :=
  let c0_i32_104 : BitVec 32 := 0#32
  let c8_i32 : BitVec 32 := 8#32
  let v243 : BitVec 32 := Scalar.addi c0_i32_104 c8_i32
  let c1_i32 : BitVec 32 := 1#32
  ⟨c0_i32_104, v243, c1_i32⟩
def k0_mult3 (k0_t1 : Fin k0_t1_loop.trips) : BitVec 32 :=
  let c0_i32_104 : BitVec 32 := 0#32
  let c1_i32 : BitVec 32 := 1#32
  let arg18 : BitVec 32 := Scf.iv c0_i32_104 c1_i32 k0_t1
  let c128_i32 : BitVec 32 := 128#32
  let v244 : BitVec 32 := Scalar.muli arg18 c128_i32
  v244
def k0_off5 (k0_t1 : Fin k0_t1_loop.trips) : Fin 2 → Nat :=
  let c0_i32_104 : BitVec 32 := 0#32
  let c1_i32 : BitVec 32 := 1#32
  let arg18 : BitVec 32 := Scf.iv c0_i32_104 c1_i32 k0_t1
  let c128_i32 : BitVec 32 := 128#32
  let v244 : BitVec 32 := Scalar.muli arg18 c128_i32
  let v245 : BitVec 32 := v244
  let v246 : Index := Scalar.indexCast v245
  let c0_106 : Index := 0#32
  ![v246.toNat, 0]
def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c128_i32 : BitVec 32 := 128#32
  let v1 : BitVec 32 := Scalar.muli v0 c128_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c3_i32 : BitVec 32 := 3#32
  let c0_i32 : BitVec 32 := 0#32
  let c0_i32_0 : BitVec 32 := 0#32
  ![c3_i32.toNat, c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S3x11264 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x11264 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1024x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference2Ideal.lean ====
abbrev S16384x2048 : Shape := ⟨2, ![16384, 2048]⟩
abbrev S4x8x2048 : Shape := ⟨3, ![4, 8, 2048]⟩
abbrev S2048 : Shape := ⟨1, ![2048]⟩
abbrev S4x2048x11264 : Shape := ⟨3, ![4, 2048, 11264]⟩
abbrev S3x11264 : Shape := ⟨2, ![3, 11264]⟩
abbrev S11264 : Shape := ⟨1, ![11264]⟩
abbrev S4x5632x2048 : Shape := ⟨3, ![4, 5632, 2048]⟩
abbrev S4x4096x2048 : Shape := ⟨3, ![4, 4096, 2048]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S1x2048x11264 : Shape := ⟨3, ![1, 2048, 11264]⟩
abbrev S2048x11264 : Shape := ⟨2, ![2048, 11264]⟩
abbrev S4x4096x11264 : Shape := ⟨3, ![4, 4096, 11264]⟩
abbrev S4x4098x11264 : Shape := ⟨3, ![4, 4098, 11264]⟩
abbrev S1x11264 : Shape := ⟨2, ![1, 11264]⟩
abbrev S1x1x11264 : Shape := ⟨3, ![1, 1, 11264]⟩
abbrev S4x4096x5632 : Shape := ⟨3, ![4, 4096, 5632]⟩
abbrev S1x5632x2048 : Shape := ⟨3, ![1, 5632, 2048]⟩
abbrev S5632x2048 : Shape := ⟨2, ![5632, 2048]⟩

abbrev nBuf : Space → Nat
  | .hbm => 104
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x8x2048, .f32⟩
  | .hbm, ⟨2, _⟩ => ⟨S2048, .f32⟩
  | .hbm, ⟨3, _⟩ => ⟨S4x2048x11264, .bf16⟩
  | .hbm, ⟨4, _⟩ => ⟨S3x11264, .f32⟩
  | .hbm, ⟨5, _⟩ => ⟨S11264, .f32⟩
  | .hbm, ⟨6, _⟩ => ⟨S4x5632x2048, .bf16⟩
  | .hbm, ⟨7, _⟩ => ⟨S2048, .f32⟩
  | .hbm, ⟨8, _⟩ => ⟨S4x4096x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S4x4096x2048, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x2048, .f32⟩
  | .hbm, ⟨24, _⟩ => ⟨S4x4096x2048, .f32⟩
  | .hbm, ⟨25, _⟩ => ⟨S1x1x2048, .f32⟩
  | .hbm, ⟨26, _⟩ => ⟨S4x4096x2048, .f32⟩
  | .hbm, ⟨27, _⟩ => ⟨S4x4096x2048, .f32⟩
  | .hbm, ⟨28, _⟩ => ⟨S_, .f32⟩
  | .hbm, ⟨29, _⟩ => ⟨S4x1x2048, .f32⟩
  | .hbm, ⟨30, _⟩ => ⟨S4x1x2048, .f32⟩
  | .hbm, ⟨31, _⟩ => ⟨S4x4096x2048, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S1x2048x11264, .bf16⟩
  | .hbm, ⟨36, _⟩ => ⟨S2048x11264, .bf16⟩
  | .hbm, ⟨37, _⟩ => ⟨S2048x11264, .f32⟩
  | .hbm, ⟨38, _⟩ => ⟨S4x4096x11264, .f32⟩
  | .hbm, ⟨39, _⟩ => ⟨S_, .i32⟩
  | .hbm, ⟨40, _⟩ => ⟨S_, .f32⟩
  | .hbm, ⟨41, _⟩ => ⟨S4x4098x11264, .f32⟩
  | .hbm, ⟨42, _⟩ => ⟨S1x11264, .f32⟩
  | .hbm, ⟨43, _⟩ => ⟨S11264, .f32⟩
  | .hbm, ⟨44, _⟩ => ⟨S4x4096x11264, .f32⟩
  | .hbm, ⟨45, _⟩ => ⟨S1x1x11264, .f32⟩
  | .hbm, ⟨46, _⟩ => ⟨S4x4096x11264, .f32⟩
  | .hbm, ⟨47, _⟩ => ⟨S4x4096x11264, .f32⟩
  | .hbm, ⟨48, _⟩ => ⟨S_, .f32⟩
  | .hbm, ⟨49, _⟩ => ⟨S4x4096x11264, .f32⟩
  | .hbm, ⟨50, _⟩ => ⟨S4x4096x11264, .f32⟩
  | .hbm, ⟨51, _⟩ => ⟨S1x11264, .f32⟩
  | .hbm, ⟨52, _⟩ => ⟨S11264, .f32⟩
  | .hbm, ⟨53, _⟩ => ⟨S4x4096x11264, .f32⟩
  | .hbm, ⟨54, _⟩ => ⟨S1x1x11264, .f32⟩
  | .hbm, ⟨55, _⟩ => ⟨S4x4096x11264, .f32⟩
  | .hbm, ⟨56, _⟩ => ⟨S4x4096x11264, .f32⟩
  | .hbm, ⟨57, _⟩ => ⟨S4x4096x11264, .f32⟩
  | .hbm, ⟨58, _⟩ => ⟨S1x11264, .f32⟩
  | .hbm, ⟨59, _⟩ => ⟨S11264, .f32⟩
  | .hbm, ⟨60, _⟩ => ⟨S4x4096x11264, .f32⟩
  | .hbm, ⟨61, _⟩ => ⟨S1x1x11264, .f32⟩
  | .hbm, ⟨62, _⟩ => ⟨S4x4096x11264, .f32⟩
  | .hbm, ⟨63, _⟩ => ⟨S4x4096x11264, .f32⟩
  | .hbm, ⟨64, _⟩ => ⟨S4x4096x11264, .f32⟩
  | .hbm, ⟨65, _⟩ => ⟨S1x1x11264, .f32⟩
  | .hbm, ⟨66, _⟩ => ⟨S4x4096x11264, .f32⟩
  | .hbm, ⟨67, _⟩ => ⟨S4x4096x11264, .f32⟩
  | .hbm, ⟨68, _⟩ => ⟨S4x4096x5632, .f32⟩
  | .hbm, ⟨69, _⟩ => ⟨S4x4096x5632, .f32⟩
  | .hbm, ⟨70, _⟩ => ⟨S4x4096x5632, .f32⟩
  | .hbm, ⟨71, _⟩ => ⟨S4x4096x5632, .f32⟩
  | .hbm, ⟨72, _⟩ => ⟨S_, .f32⟩
  | .hbm, ⟨73, _⟩ => ⟨S4x4096x5632, .f32⟩
  | .hbm, ⟨74, _⟩ => ⟨S4x4096x5632, .f32⟩
  | .hbm, ⟨75, _⟩ => ⟨S_, .f32⟩
  | .hbm, ⟨76, _⟩ => ⟨S4x4096x5632, .f32⟩
  | .hbm, ⟨77, _⟩ => ⟨S4x4096x5632, .f32⟩
  | .hbm, ⟨78, _⟩ => ⟨S4x4096x5632, .f32⟩
  | .hbm, ⟨79, _⟩ => ⟨S4x4096x5632, .f32⟩
  | .hbm, ⟨80, _⟩ => ⟨S1x5632x2048, .bf16⟩
  | .hbm, ⟨81, _⟩ => ⟨S5632x2048, .bf16⟩
  | .hbm, ⟨82, _⟩ => ⟨S5632x2048, .f32⟩
  | .hbm, ⟨83, _⟩ => ⟨S4x4096x2048, .f32⟩
  | .hbm, ⟨84, _⟩ => ⟨S4x4096x2048, .f32⟩
  | .hbm, ⟨85, _⟩ => ⟨S4x4096x2048, .f32⟩
  | .hbm, ⟨86, _⟩ => ⟨S4x4096x2048, .f32⟩
  | .hbm, ⟨87, _⟩ => ⟨S4x4096x2048, .f32⟩
  | .hbm, ⟨88, _⟩ => ⟨S_, .f32⟩
  | .hbm, ⟨89, _⟩ => ⟨S4x4096, .f32⟩
  | .hbm, ⟨90, _⟩ => ⟨S4x4096x1, .f32⟩
  | .hbm, ⟨91, _⟩ => ⟨S_, .f32⟩
  | .hbm, ⟨92, _⟩ => ⟨S4x4096x1, .f32⟩
  | .hbm, ⟨93, _⟩ => ⟨S4x4096x1, .f32⟩
  | .hbm, ⟨94, _⟩ => ⟨S_, .f32⟩
  | .hbm, ⟨95, _⟩ => ⟨S4x4096x1, .f32⟩
  | .hbm, ⟨96, _⟩ => ⟨S4x4096x1, .f32⟩
  | .hbm, ⟨97, _⟩ => ⟨S4x4096x1, .f32⟩
  | .hbm, ⟨98, _⟩ => ⟨S4x4096x2048, .f32⟩
  | .hbm, ⟨99, _⟩ => ⟨S4x4096x2048, .f32⟩
  | .hbm, ⟨100, _⟩ => ⟨S1x1x2048, .f32⟩
  | .hbm, ⟨101, _⟩ => ⟨S4x4096x2048, .f32⟩
  | .hbm, ⟨102, _⟩ => ⟨S4x4096x2048, .f32⟩
  | .hbm, ⟨103, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c : Ref sig .tc := ⟨.hbm, 39, rfl⟩
abbrev main_call0_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_4 : Ref sig .tc := ⟨.hbm, 88, rfl⟩
abbrev main_v65 : Ref sig .tc := ⟨.hbm, 89, rfl⟩
abbrev main_v66 : Ref sig .tc := ⟨.hbm, 90, rfl⟩
abbrev main_cst_5 : Ref sig .tc := ⟨.hbm, 91, rfl⟩
abbrev main_v67 : Ref sig .tc := ⟨.hbm, 92, rfl⟩
abbrev main_v68 : Ref sig .tc := ⟨.hbm, 93, rfl⟩
abbrev main_cst_6 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩

abbrev nD : Nat := 1
abbrev τ : Topo := Topo.v7x

variable {F : FTy → Type} [FloatOps F]
-- ==== Kernel3.lean ====
abbrev S16384x2048 : Shape := ⟨2, ![16384, 2048]⟩
abbrev S4x8x2048 : Shape := ⟨3, ![4, 8, 2048]⟩
abbrev S2048 : Shape := ⟨1, ![2048]⟩
abbrev S4x2048x11264 : Shape := ⟨3, ![4, 2048, 11264]⟩
abbrev S3x11264 : Shape := ⟨2, ![3, 11264]⟩
abbrev S11264 : Shape := ⟨1, ![11264]⟩
abbrev S4x5632x2048 : Shape := ⟨3, ![4, 5632, 2048]⟩
abbrev S1x11264 : Shape := ⟨2, ![1, 11264]⟩
abbrev S1x2048 : Shape := ⟨2, ![1, 2048]⟩
abbrev S8x2048 : Shape := ⟨2, ![8, 2048]⟩
abbrev S1024x2048 : Shape := ⟨2, ![1024, 2048]⟩
abbrev S1x8x2048 : Shape := ⟨3, ![1, 8, 2048]⟩
abbrev S1x2048x512 : Shape := ⟨3, ![1, 2048, 512]⟩
abbrev S1x512x2048 : Shape := ⟨3, ![1, 512, 2048]⟩
abbrev S1040x2048 : Shape := ⟨2, ![1040, 2048]⟩
abbrev S1040x512 : Shape := ⟨2, ![1040, 512]⟩
abbrev S1024x512 : Shape := ⟨2, ![1024, 512]⟩
abbrev S1x1x2048 : Shape := ⟨3, ![1, 1, 2048]⟩
abbrev S8 : Shape := ⟨1, ![8]⟩
abbrev S8x1 : Shape := ⟨2, ![8, 1]⟩
abbrev S256x2048 : Shape := ⟨2, ![256, 2048]⟩
abbrev S256 : Shape := ⟨1, ![256]⟩
abbrev S256x1 : Shape := ⟨2, ![256, 1]⟩
abbrev S2048x512 : Shape := ⟨2, ![2048, 512]⟩
abbrev S3x512 : Shape := ⟨2, ![3, 512]⟩
abbrev S1x512 : Shape := ⟨2, ![1, 512]⟩
abbrev S256x512 : Shape := ⟨2, ![256, 512]⟩
abbrev S1x512x512 : Shape := ⟨3, ![1, 512, 512]⟩
abbrev S512x512 : Shape := ⟨2, ![512, 512]⟩
abbrev S128x2048 : Shape := ⟨2, ![128, 2048]⟩

abbrev nBuf : Space → Nat
  | .hbm => 11
  | .vmem => 24
  | .smem => 0
  | _ => 0

abbrev bufTy : (tb : Table) → Fin (tcTables nBuf tb) → BufTy
  | .hbm, ⟨0, _⟩ => ⟨S16384x2048, .f32⟩
  | .hbm, ⟨1, _⟩ => ⟨S4x8x2048, .f32⟩
  | .hbm, ⟨2, _⟩ => ⟨S2048, .f32⟩
  | .hbm, ⟨3, _⟩ => ⟨S4x2048x11264, .bf16⟩
  | .hbm, ⟨4, _⟩ => ⟨S3x11264, .f32⟩
  | .hbm, ⟨5, _⟩ => ⟨S11264, .f32⟩
  | .hbm, ⟨6, _⟩ => ⟨S4x5632x2048, .bf16⟩
  | .hbm, ⟨7, _⟩ => ⟨S1x11264, .f32⟩
  | .hbm, ⟨8, _⟩ => ⟨S1x2048, .f32⟩
  | .hbm, ⟨9, _⟩ => ⟨S1x2048, .f32⟩
  | .hbm, ⟨10, _⟩ => ⟨S16384x2048, .f32⟩
  | .local _ .vmem, ⟨0, _⟩ => ⟨S8x2048, .f32⟩
  | .local _ .vmem, ⟨1, _⟩ => ⟨S8x2048, .f32⟩
  | .local _ .vmem, ⟨2, _⟩ => ⟨S1024x2048, .f32⟩
  | .local _ .vmem, ⟨3, _⟩ => ⟨S1024x2048, .f32⟩
  | .local _ .vmem, ⟨4, _⟩ => ⟨S8x2048, .f32⟩
  | .local _ .vmem, ⟨5, _⟩ => ⟨S8x2048, .f32⟩
  | .local _ .vmem, ⟨6, _⟩ => ⟨S1x8x2048, .f32⟩
  | .local _ .vmem, ⟨7, _⟩ => ⟨S1x8x2048, .f32⟩
  | .local _ .vmem, ⟨8, _⟩ => ⟨S1x2048, .f32⟩
  | .local _ .vmem, ⟨9, _⟩ => ⟨S1x2048, .f32⟩
  | .local _ .vmem, ⟨10, _⟩ => ⟨S1x2048x512, .bf16⟩
  | .local _ .vmem, ⟨11, _⟩ => ⟨S1x2048x512, .bf16⟩
  | .local _ .vmem, ⟨12, _⟩ => ⟨S1x2048x512, .bf16⟩
  | .local _ .vmem, ⟨13, _⟩ => ⟨S1x2048x512, .bf16⟩
  | .local _ .vmem, ⟨14, _⟩ => ⟨S3x11264, .f32⟩
  | .local _ .vmem, ⟨15, _⟩ => ⟨S1x11264, .f32⟩
  | .local _ .vmem, ⟨16, _⟩ => ⟨S1x512x2048, .bf16⟩
  | .local _ .vmem, ⟨17, _⟩ => ⟨S1x512x2048, .bf16⟩
  | .local _ .vmem, ⟨18, _⟩ => ⟨S1024x2048, .f32⟩
  | .local _ .vmem, ⟨19, _⟩ => ⟨S1024x2048, .f32⟩
  | .local _ .vmem, ⟨20, _⟩ => ⟨S1040x2048, .bf16⟩
  | .local _ .vmem, ⟨21, _⟩ => ⟨S1040x512, .f32⟩
  | .local _ .vmem, ⟨22, _⟩ => ⟨S1040x512, .f32⟩
  | .local _ .vmem, ⟨23, _⟩ => ⟨S1024x512, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![16, 11], ![false, false]⟩

def k0_mult1 (i : grid0.Coords) : BitVec 32 :=
  let arg1 : BitVec 32 := BitVec.ofNat 32 (i 1).val
  let c512_i32 : BitVec 32 := 512#32
  let v16 : BitVec 32 := Scalar.muli arg1 c512_i32
  v16
def k0_mult2 (i : grid0.Coords) : BitVec 32 :=
  let c11_i32 : BitVec 32 := 11#32
  let arg1 : BitVec 32 := BitVec.ofNat 32 (i 1).val
  let v18 : BitVec 32 := Scalar.addi c11_i32 arg1
  let c512_i32_13 : BitVec 32 := 512#32
  let v19 : BitVec 32 := Scalar.muli v18 c512_i32_13
  v19
def k0_off1 (i : grid0.Coords) : Fin 2 → Nat :=
  let c0_14 : Index := 0#32
  let arg1 : BitVec 32 := BitVec.ofNat 32 (i 1).val
  let c512_i32 : BitVec 32 := 512#32
  let v16 : BitVec 32 := Scalar.muli arg1 c512_i32
  let v17 : BitVec 32 := v16
  let v21 : Index := Scalar.indexCast v17
  ![0, v21.toNat]
def k0_off2 (i : grid0.Coords) : Fin 2 → Nat :=
  let c0_15 : Index := 0#32
  let arg1 : BitVec 32 := BitVec.ofNat 32 (i 1).val
  let c512_i32 : BitVec 32 := 512#32
  let v16 : BitVec 32 := Scalar.muli arg1 c512_i32
  let v17 : BitVec 32 := v16
  let v23 : Index := Scalar.indexCast v17
  ![0, v23.toNat]
def k0_off3 (i : grid0.Coords) : Fin 2 → Nat :=
  let c0_16 : Index := 0#32
  let c11_i32 : BitVec 32 := 11#32
  let arg1 : BitVec 32 := BitVec.ofNat 32 (i 1).val
  let v18 : BitVec 32 := Scalar.addi c11_i32 arg1
  let c512_i32_13 : BitVec 32 := 512#32
  let v19 : BitVec 32 := Scalar.muli v18 c512_i32_13
  let v20 : BitVec 32 := v19
  let v26 : Index := Scalar.indexCast v20
  ![0, v26.toNat]
def k0_off4 (i : grid0.Coords) : Fin 2 → Nat :=
  let c0_17 : Index := 0#32
  let c11_i32 : BitVec 32 := 11#32
  let arg1 : BitVec 32 := BitVec.ofNat 32 (i 1).val
  let v18 : BitVec 32 := Scalar.addi c11_i32 arg1
  let c512_i32_13 : BitVec 32 := 512#32
  let v19 : BitVec 32 := Scalar.muli v18 c512_i32_13
  let v20 : BitVec 32 := v19
  let v28 : Index := Scalar.indexCast v20
  ![0, v28.toNat]
def k0_cond2 (i : grid0.Coords) : BitVec 1 :=
  let arg1 : BitVec 32 := BitVec.ofNat 32 (i 1).val
  let c10_i32 : BitVec 32 := 10#32
  let v240 : BitVec 1 := Scalar.cmpi .eq arg1 c10_i32
  let v241 : BitVec 32 := Scalar.extui v240
  let c0_i32_103 : BitVec 32 := 0#32
  let v242 : BitVec 1 := Scalar.cmpi .ne v241 c0_i32_103
  v242

@[reducible] def k0_t1_loop : Scf.Loop 32 :=
  let c0_i32_104 : BitVec 32 := 0#32
  let c8_i32 : BitVec 32 := 8#32
  let v243 : BitVec 32 := Scalar.addi c0_i32_104 c8_i32
  let c1_i32 : BitVec 32 := 1#32
  ⟨c0_i32_104, v243, c1_i32⟩
def k0_mult3 (k0_t1 : Fin k0_t1_loop.trips) : BitVec 32 :=
  let c0_i32_104 : BitVec 32 := 0#32
  let c1_i32 : BitVec 32 := 1#32
  let arg18 : BitVec 32 := Scf.iv c0_i32_104 c1_i32 k0_t1
  let c128_i32 : BitVec 32 := 128#32
  let v244 : BitVec 32 := Scalar.muli arg18 c128_i32
  v244
def k0_off5 (k0_t1 : Fin k0_t1_loop.trips) : Fin 2 → Nat :=
  let c0_i32_104 : BitVec 32 := 0#32
  let c1_i32 : BitVec 32 := 1#32
  let arg18 : BitVec 32 := Scf.iv c0_i32_104 c1_i32 k0_t1
  let c128_i32 : BitVec 32 := 128#32
  let v244 : BitVec 32 := Scalar.muli arg18 c128_i32
  let v245 : BitVec 32 := v244
  let v246 : Index := Scalar.indexCast v245
  let c0_106 : Index := 0#32
  ![v246.toNat, 0]
def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c128_i32 : BitVec 32 := 128#32
  let v1 : BitVec 32 := Scalar.muli v0 c128_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  let c0_i32_1 : BitVec 32 := 0#32
  ![c0_i32.toNat, c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S3x11264 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x11264 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1024x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference3Ideal.lean ====
abbrev S16384x2048 : Shape := ⟨2, ![16384, 2048]⟩
abbrev S4x8x2048 : Shape := ⟨3, ![4, 8, 2048]⟩
abbrev S2048 : Shape := ⟨1, ![2048]⟩
abbrev S4x2048x11264 : Shape := ⟨3, ![4, 2048, 11264]⟩
abbrev S3x11264 : Shape := ⟨2, ![3, 11264]⟩
abbrev S11264 : Shape := ⟨1, ![11264]⟩
abbrev S4x5632x2048 : Shape := ⟨3, ![4, 5632, 2048]⟩
abbrev S4x4096x2048 : Shape := ⟨3, ![4, 4096, 2048]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S1x2048x11264 : Shape := ⟨3, ![1, 2048, 11264]⟩
abbrev S2048x11264 : Shape := ⟨2, ![2048, 11264]⟩
abbrev S4x4096x11264 : Shape := ⟨3, ![4, 4096, 11264]⟩
abbrev S4x4098x11264 : Shape := ⟨3, ![4, 4098, 11264]⟩
abbrev S1x11264 : Shape := ⟨2, ![1, 11264]⟩
abbrev S1x1x11264 : Shape := ⟨3, ![1, 1, 11264]⟩
abbrev S4x4096x5632 : Shape := ⟨3, ![4, 4096, 5632]⟩
abbrev S1x5632x2048 : Shape := ⟨3, ![1, 5632, 2048]⟩
abbrev S5632x2048 : Shape := ⟨2, ![5632, 2048]⟩

abbrev nBuf : Space → Nat
  | .hbm => 87
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x8x2048, .f32⟩
  | .hbm, ⟨2, _⟩ => ⟨S2048, .f32⟩
  | .hbm, ⟨3, _⟩ => ⟨S4x2048x11264, .bf16⟩
  | .hbm, ⟨4, _⟩ => ⟨S3x11264, .f32⟩
  | .hbm, ⟨5, _⟩ => ⟨S11264, .f32⟩
  | .hbm, ⟨6, _⟩ => ⟨S4x5632x2048, .bf16⟩
  | .hbm, ⟨7, _⟩ => ⟨S4x4096x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x4096x2048, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x1, .f32⟩
  | .hbm, ⟨22, _⟩ => ⟨S4x4096x2048, .f32⟩
  | .hbm, ⟨23, _⟩ => ⟨S4x4096x2048, .f32⟩
  | .hbm, ⟨24, _⟩ => ⟨S1x1x2048, .f32⟩
  | .hbm, ⟨25, _⟩ => ⟨S4x4096x2048, .f32⟩
  | .hbm, ⟨26, _⟩ => ⟨S4x4096x2048, .f32⟩
  | .hbm, ⟨27, _⟩ => ⟨S_, .f32⟩
  | .hbm, ⟨28, _⟩ => ⟨S4x1x2048, .f32⟩
  | .hbm, ⟨29, _⟩ => ⟨S4x1x2048, .f32⟩
  | .hbm, ⟨30, _⟩ => ⟨S4x4096x2048, .f32⟩
  | .hbm, ⟨31, _⟩ => ⟨S4x4096x2048, .f32⟩
  | .hbm, ⟨32, _⟩ => ⟨S4x4096x2048, .f32⟩
  | .hbm, ⟨33, _⟩ => ⟨S4x4096x2048, .f32⟩
  | .hbm, ⟨34, _⟩ => ⟨S1x2048x11264, .bf16⟩
  | .hbm, ⟨35, _⟩ => ⟨S2048x11264, .bf16⟩
  | .hbm, ⟨36, _⟩ => ⟨S2048x11264, .f32⟩
  | .hbm, ⟨37, _⟩ => ⟨S4x4096x11264, .f32⟩
  | .hbm, ⟨38, _⟩ => ⟨S_, .i32⟩
  | .hbm, ⟨39, _⟩ => ⟨S_, .f32⟩
  | .hbm, ⟨40, _⟩ => ⟨S4x4098x11264, .f32⟩
  | .hbm, ⟨41, _⟩ => ⟨S1x11264, .f32⟩
  | .hbm, ⟨42, _⟩ => ⟨S11264, .f32⟩
  | .hbm, ⟨43, _⟩ => ⟨S4x4096x11264, .f32⟩
  | .hbm, ⟨44, _⟩ => ⟨S1x1x11264, .f32⟩
  | .hbm, ⟨45, _⟩ => ⟨S4x4096x11264, .f32⟩
  | .hbm, ⟨46, _⟩ => ⟨S4x4096x11264, .f32⟩
  | .hbm, ⟨47, _⟩ => ⟨S_, .f32⟩
  | .hbm, ⟨48, _⟩ => ⟨S4x4096x11264, .f32⟩
  | .hbm, ⟨49, _⟩ => ⟨S4x4096x11264, .f32⟩
  | .hbm, ⟨50, _⟩ => ⟨S1x11264, .f32⟩
  | .hbm, ⟨51, _⟩ => ⟨S11264, .f32⟩
  | .hbm, ⟨52, _⟩ => ⟨S4x4096x11264, .f32⟩
  | .hbm, ⟨53, _⟩ => ⟨S1x1x11264, .f32⟩
  | .hbm, ⟨54, _⟩ => ⟨S4x4096x11264, .f32⟩
  | .hbm, ⟨55, _⟩ => ⟨S4x4096x11264, .f32⟩
  | .hbm, ⟨56, _⟩ => ⟨S4x4096x11264, .f32⟩
  | .hbm, ⟨57, _⟩ => ⟨S1x11264, .f32⟩
  | .hbm, ⟨58, _⟩ => ⟨S11264, .f32⟩
  | .hbm, ⟨59, _⟩ => ⟨S4x4096x11264, .f32⟩
  | .hbm, ⟨60, _⟩ => ⟨S1x1x11264, .f32⟩
  | .hbm, ⟨61, _⟩ => ⟨S4x4096x11264, .f32⟩
  | .hbm, ⟨62, _⟩ => ⟨S4x4096x11264, .f32⟩
  | .hbm, ⟨63, _⟩ => ⟨S4x4096x11264, .f32⟩
  | .hbm, ⟨64, _⟩ => ⟨S1x1x11264, .f32⟩
  | .hbm, ⟨65, _⟩ => ⟨S4x4096x11264, .f32⟩
  | .hbm, ⟨66, _⟩ => ⟨S4x4096x11264, .f32⟩
  | .hbm, ⟨67, _⟩ => ⟨S4x4096x5632, .f32⟩
  | .hbm, ⟨68, _⟩ => ⟨S4x4096x5632, .f32⟩
  | .hbm, ⟨69, _⟩ => ⟨S4x4096x5632, .f32⟩
  | .hbm, ⟨70, _⟩ => ⟨S4x4096x5632, .f32⟩
  | .hbm, ⟨71, _⟩ => ⟨S_, .f32⟩
  | .hbm, ⟨72, _⟩ => ⟨S4x4096x5632, .f32⟩
  | .hbm, ⟨73, _⟩ => ⟨S4x4096x5632, .f32⟩
  | .hbm, ⟨74, _⟩ => ⟨S_, .f32⟩
  | .hbm, ⟨75, _⟩ => ⟨S4x4096x5632, .f32⟩
  | .hbm, ⟨76, _⟩ => ⟨S4x4096x5632, .f32⟩
  | .hbm, ⟨77, _⟩ => ⟨S4x4096x5632, .f32⟩
  | .hbm, ⟨78, _⟩ => ⟨S4x4096x5632, .f32⟩
  | .hbm, ⟨79, _⟩ => ⟨S1x5632x2048, .bf16⟩
  | .hbm, ⟨80, _⟩ => ⟨S5632x2048, .bf16⟩
  | .hbm, ⟨81, _⟩ => ⟨S5632x2048, .f32⟩
  | .hbm, ⟨82, _⟩ => ⟨S4x4096x2048, .f32⟩
  | .hbm, ⟨83, _⟩ => ⟨S4x4096x2048, .f32⟩
  | .hbm, ⟨84, _⟩ => ⟨S4x4096x2048, .f32⟩
  | .hbm, ⟨85, _⟩ => ⟨S4x4096x2048, .f32⟩
  | .hbm, ⟨86, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_call0_v0 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_call1_v0 : Ref sig .tc := ⟨.hbm, 69, rfl⟩
abbrev main_call1_v1 : Ref sig .tc := ⟨.hbm, 70, rfl⟩
abbrev main_call1_cst : Ref sig .tc := ⟨.hbm, 71, rfl⟩
abbrev main_call1_v2 : Ref sig .tc := ⟨.hbm, 72, rfl⟩
abbrev main_call1_v3 : Ref sig .tc := ⟨.hbm, 73, rfl⟩
abbrev main_call1_cst_0 : Ref sig .tc := ⟨.hbm, 74, rfl⟩
abbrev main_call1_v4 : Ref sig .tc := ⟨.hbm, 75, rfl⟩
abbrev main_call1_v5 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]
-- ==== Kernel4.lean ====
abbrev S16384x2048 : Shape := ⟨2, ![16384, 2048]⟩
abbrev S4x8x2048 : Shape := ⟨3, ![4, 8, 2048]⟩
abbrev S512 : Shape := ⟨1, ![512]⟩
abbrev S2x2048x2048 : Shape := ⟨3, ![2, 2048, 2048]⟩
abbrev S1x512 : Shape := ⟨2, ![1, 512]⟩
abbrev S512x2048 : Shape := ⟨2, ![512, 2048]⟩
abbrev S1x8x2048 : Shape := ⟨3, ![1, 8, 2048]⟩
abbrev S1x2048x2048 : Shape := ⟨3, ![1, 2048, 2048]⟩
abbrev S512x512 : Shape := ⟨2, ![512, 512]⟩
abbrev S512x1 : Shape := ⟨2, ![512, 1]⟩
abbrev S1x1x2048 : Shape := ⟨3, ![1, 1, 2048]⟩
abbrev S1x2048 : Shape := ⟨2, ![1, 2048]⟩
abbrev S2048x2048 : Shape := ⟨2, ![2048, 2048]⟩

abbrev nBuf : Space → Nat
  | .hbm => 9
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .bf16⟩
  | .hbm, ⟨3, _⟩ => ⟨S16384x2048, .f32⟩
  | .hbm, ⟨4, _⟩ => ⟨S4x8x2048, .f32⟩
  | .hbm, ⟨5, _⟩ => ⟨S512, .f32⟩
  | .hbm, ⟨6, _⟩ => ⟨S2x2048x2048, .bf16⟩
  | .hbm, ⟨7, _⟩ => ⟨S1x512, .f32⟩
  | .hbm, ⟨8, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | .local _ .vmem, ⟨7, _⟩ => ⟨S512x2048, .f32⟩
  | .local _ .vmem, ⟨8, _⟩ => ⟨S1x8x2048, .f32⟩
  | .local _ .vmem, ⟨9, _⟩ => ⟨S1x8x2048, .f32⟩
  | .local _ .vmem, ⟨10, _⟩ => ⟨S1x512, .f32⟩
  | .local _ .vmem, ⟨11, _⟩ => ⟨S1x2048x2048, .bf16⟩
  | .local _ .vmem, ⟨12, _⟩ => ⟨S512x2048, .f32⟩
  | .local _ .vmem, ⟨13, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S16384x2048 : Shape := ⟨2, ![16384, 2048]⟩
abbrev S4x8x2048 : Shape := ⟨3, ![4, 8, 2048]⟩
abbrev S512 : Shape := ⟨1, ![512]⟩
abbrev S2x2048x2048 : Shape := ⟨3, ![2, 2048, 2048]⟩
abbrev S4x4096x4x512 : Shape := ⟨4, ![4, 4096, 4, 512]⟩
abbrev S_ : Shape := ⟨0, ![]⟩
abbrev S4x4096x4 : Shape := ⟨3, ![4, 4096, 4]⟩
abbrev S4x4096x4x1 : Shape := ⟨4, ![4, 4096, 4, 1]⟩
abbrev S1x1x1x512 : Shape := ⟨4, ![1, 1, 1, 512]⟩
abbrev S4x4096x2048 : Shape := ⟨3, ![4, 4096, 2048]⟩
abbrev S1x2048x2048 : Shape := ⟨3, ![1, 2048, 2048]⟩
abbrev S2048x2048 : Shape := ⟨2, ![2048, 2048]⟩
abbrev S4x1x2048 : Shape := ⟨3, ![4, 1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .bf16⟩
  | .hbm, ⟨3, _⟩ => ⟨S16384x2048, .f32⟩
  | .hbm, ⟨4, _⟩ => ⟨S4x8x2048, .f32⟩
  | .hbm, ⟨5, _⟩ => ⟨S512, .f32⟩
  | .hbm, ⟨6, _⟩ => ⟨S2x2048x2048, .bf16⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S4x4096x4x512, .f32⟩
  | .hbm, ⟨11, _⟩ => ⟨S4x4096x4x512, .f32⟩
  | .hbm, ⟨12, _⟩ => ⟨S_, .f32⟩
  | .hbm, ⟨13, _⟩ => ⟨S4x4096x4, .f32⟩
  | .hbm, ⟨14, _⟩ => ⟨S4x4096x4x1, .f32⟩
  | .hbm, ⟨15, _⟩ => ⟨S_, .f32⟩
  | .hbm, ⟨16, _⟩ => ⟨S4x4096x4x1, .f32⟩
  | .hbm, ⟨17, _⟩ => ⟨S4x4096x4x1, .f32⟩
  | .hbm, ⟨18, _⟩ => ⟨S_, .f32⟩
  | .hbm, ⟨19, _⟩ => ⟨S4x4096x4x1, .f32⟩
  | .hbm, ⟨20, _⟩ => ⟨S4x4096x4x1, .f32⟩
  | .hbm, ⟨21, _⟩ => ⟨S4x4096x4x1, .f32⟩
  | .hbm, ⟨22, _⟩ => ⟨S4x4096x4x512, .f32⟩
  | .hbm, ⟨23, _⟩ => ⟨S4x4096x4x512, .f32⟩
  | .hbm, ⟨24, _⟩ => ⟨S1x1x1x512, .f32⟩
  | .hbm, ⟨25, _⟩ => ⟨S4x4096x4x512, .f32⟩
  | .hbm, ⟨26, _⟩ => ⟨S4x4096x4x512, .f32⟩
  | .hbm, ⟨27, _⟩ => ⟨S4x4096x2048, .f32⟩
  | .hbm, ⟨28, _⟩ => ⟨S16384x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S_, .f32⟩
  | .hbm, ⟨33, _⟩ => ⟨S4x4096x2048, .f32⟩
  | .hbm, ⟨34, _⟩ => ⟨S4x4096x2048, .f32⟩
  | .hbm, ⟨35, _⟩ => ⟨S_, .f32⟩
  | .hbm, ⟨36, _⟩ => ⟨S4x4096x2048, .f32⟩
  | .hbm, ⟨37, _⟩ => ⟨S4x4096x2048, .f32⟩
  | .hbm, ⟨38, _⟩ => ⟨S4x4096x2048, .f32⟩
  | .hbm, ⟨39, _⟩ => ⟨S4x4096x2048, .f32⟩
  | .hbm, ⟨40, _⟩ => ⟨S1x2048x2048, .bf16⟩
  | .hbm, ⟨41, _⟩ => ⟨S2048x2048, .bf16⟩
  | .hbm, ⟨42, _⟩ => ⟨S2048x2048, .f32⟩
  | .hbm, ⟨43, _⟩ => ⟨S4x4096x2048, .f32⟩
  | .hbm, ⟨44, _⟩ => ⟨S4x4096x2048, .f32⟩
  | .hbm, ⟨45, _⟩ => ⟨S4x1x2048, .f32⟩
  | .hbm, ⟨46, _⟩ => ⟨S4x4096x2048, .f32⟩
  | .hbm, ⟨47, _⟩ => ⟨S4x4096x2048, .f32⟩
  | .hbm, ⟨48, _⟩ => ⟨S4x4096x2048, .f32⟩
  | .hbm, ⟨49, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== Kernel5.lean ====
abbrev S16384x2048 : Shape := ⟨2, ![16384, 2048]⟩
abbrev S4x8x2048 : Shape := ⟨3, ![4, 8, 2048]⟩
abbrev S2048 : Shape := ⟨1, ![2048]⟩
abbrev S2x2048x6144 : Shape := ⟨3, ![2, 2048, 6144]⟩
abbrev S2x2048x4096 : Shape := ⟨3, ![2, 2048, 4096]⟩
abbrev S1x2048 : Shape := ⟨2, ![1, 2048]⟩
abbrev S512x2048 : Shape := ⟨2, ![512, 2048]⟩
abbrev S1x8x2048 : Shape := ⟨3, ![1, 8, 2048]⟩
abbrev S1x2048x4096 : Shape := ⟨3, ![1, 2048, 4096]⟩
abbrev S1x2048x1024 : Shape := ⟨3, ![1, 2048, 1024]⟩
abbrev S2048x1024 : Shape := ⟨2, ![2048, 1024]⟩
abbrev S512x1024 : Shape := ⟨2, ![512, 1024]⟩
abbrev S1x1x2048 : Shape := ⟨3, ![1, 1, 2048]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S4x8x2048, .f32⟩
  | .hbm, ⟨2, _⟩ => ⟨S2048, .f32⟩
  | .hbm, ⟨3, _⟩ => ⟨S2x2048x6144, .f32⟩
  | .hbm, ⟨4, _⟩ => ⟨S2x2048x4096, .f32⟩
  | .hbm, ⟨5, _⟩ => ⟨S2x2048x4096, .bf16⟩
  | .hbm, ⟨6, _⟩ => ⟨S1x2048, .f32⟩
  | .hbm, ⟨7, _⟩ => ⟨S16384x2048, .bf16⟩
  | .hbm, ⟨8, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x8x2048, .f32⟩
  | .local _ .vmem, ⟨3, _⟩ => ⟨S1x8x2048, .f32⟩
  | .local _ .vmem, ⟨4, _⟩ => ⟨S1x2048, .f32⟩
  | .local _ .vmem, ⟨5, _⟩ => ⟨S1x2048x4096, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c31_i32 : BitVec 32 := 31#32
  let v0 : BitVec 32 := Scalar.minsi arg0 c31_i32
  let c512_i32 : BitVec 32 := 512#32
  let v1 : BitVec 32 := Scalar.muli v0 c512_i32
  let c4096_i32 : BitVec 32 := 4096#32
  let v2 : BitVec 32 := Scalar.divsi v1 c4096_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S16384x2048 : Shape := ⟨2, ![16384, 2048]⟩
abbrev S4x8x2048 : Shape := ⟨3, ![4, 8, 2048]⟩
abbrev S2048 : Shape := ⟨1, ![2048]⟩
abbrev S2x2048x6144 : Shape := ⟨3, ![2, 2048, 6144]⟩
abbrev S4x4096x2048 : Shape := ⟨3, ![4, 4096, 2048]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S1x2048x6144 : Shape := ⟨3, ![1, 2048, 6144]⟩
abbrev S2048x6144 : Shape := ⟨2, ![2048, 6144]⟩
abbrev S4x4096x6144 : Shape := ⟨3, ![4, 4096, 6144]⟩
abbrev S4x4096x1024 : Shape := ⟨3, ![4, 4096, 1024]⟩

abbrev nBuf : Space → Nat
  | .hbm => 41
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x8x2048, .f32⟩
  | .hbm, ⟨2, _⟩ => ⟨S2048, .f32⟩
  | .hbm, ⟨3, _⟩ => ⟨S2x2048x6144, .f32⟩
  | .hbm, ⟨4, _⟩ => ⟨S4x4096x2048, .f32⟩
  | .hbm, ⟨5, _⟩ => ⟨S4x1x2048, .f32⟩
  | .hbm, ⟨6, _⟩ => ⟨S4x1x2048, .f32⟩
  | .hbm, ⟨7, _⟩ => ⟨S4x4096x2048, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x2048, .f32⟩
  | .hbm, ⟨19, _⟩ => ⟨S4x4096x2048, .f32⟩
  | .hbm, ⟨20, _⟩ => ⟨S1x1x2048, .f32⟩
  | .hbm, ⟨21, _⟩ => ⟨S4x4096x2048, .f32⟩
  | .hbm, ⟨22, _⟩ => ⟨S4x4096x2048, .f32⟩
  | .hbm, ⟨23, _⟩ => ⟨S_, .f32⟩
  | .hbm, ⟨24, _⟩ => ⟨S4x1x2048, .f32⟩
  | .hbm, ⟨25, _⟩ => ⟨S4x1x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S1x2048x6144, .f32⟩
  | .hbm, ⟨31, _⟩ => ⟨S2048x6144, .f32⟩
  | .hbm, ⟨32, _⟩ => ⟨S4x4096x6144, .f32⟩
  | .hbm, ⟨33, _⟩ => ⟨S4x4096x1024, .f32⟩
  | .hbm, ⟨34, _⟩ => ⟨S4x4096x1024, .f32⟩
  | .hbm, ⟨35, _⟩ => ⟨S4x4096x2048, .f32⟩
  | .hbm, ⟨36, _⟩ => ⟨S4x4096x2048, .f32⟩
  | .hbm, ⟨37, _⟩ => ⟨S16384x2048, .f32⟩
  | .hbm, ⟨38, _⟩ => ⟨S16384x2048, .bf16⟩
  | .hbm, ⟨39, _⟩ => ⟨S16384x2048, .f32⟩
  | .hbm, ⟨40, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Kernel6.lean ====
abbrev S16384x2048 : Shape := ⟨2, ![16384, 2048]⟩
abbrev S4x8x2048 : Shape := ⟨3, ![4, 8, 2048]⟩
abbrev S2048 : Shape := ⟨1, ![2048]⟩
abbrev S2x2048x3072 : Shape := ⟨3, ![2, 2048, 3072]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S1x2048 : Shape := ⟨2, ![1, 2048]⟩
abbrev S16384x3072 : Shape := ⟨2, ![16384, 3072]⟩
abbrev S512x2048 : Shape := ⟨2, ![512, 2048]⟩
abbrev S1x8x2048 : Shape := ⟨3, ![1, 8, 2048]⟩
abbrev S1x2048x3072 : Shape := ⟨3, ![1, 2048, 3072]⟩
abbrev S512x128 : Shape := ⟨2, ![512, 128]⟩
abbrev S512x3072 : Shape := ⟨2, ![512, 3072]⟩
abbrev S1x2048x1024 : Shape := ⟨3, ![1, 2048, 1024]⟩
abbrev S2048x1024 : Shape := ⟨2, ![2048, 1024]⟩
abbrev S512x1024 : Shape := ⟨2, ![512, 1024]⟩
abbrev S1x1x2048 : Shape := ⟨3, ![1, 1, 2048]⟩
abbrev S512 : Shape := ⟨1, ![512]⟩
abbrev S512x1 : Shape := ⟨2, ![512, 1]⟩

abbrev nBuf : Space → Nat
  | .hbm => 51
  | .vmem => 16
  | .smem => 0
  | _ => 0

abbrev bufTy : (tb : Table) → Fin (tcTables nBuf tb) → BufTy
  | .hbm, ⟨0, _⟩ => ⟨S16384x2048, .f32⟩
  | .hbm, ⟨1, _⟩ => ⟨S4x8x2048, .f32⟩
  | .hbm, ⟨2, _⟩ => ⟨S2048, .f32⟩
  | .hbm, ⟨3, _⟩ => ⟨S2x2048x3072, .f32⟩
  | .hbm, ⟨4, _⟩ => ⟨S2x2048x3072, .bf16⟩
  | .hbm, ⟨5, _⟩ => ⟨S64, .f32⟩
  | .hbm, ⟨6, _⟩ => ⟨S64x64, .f32⟩
  | .hbm, ⟨7, _⟩ => ⟨S4096, .f32⟩
  | .hbm, ⟨8, _⟩ => ⟨S64, .f32⟩
  | .hbm, ⟨9, _⟩ => ⟨S1x64, .f32⟩
  | .hbm, ⟨10, _⟩ => ⟨S64x64, .f32⟩
  | .hbm, ⟨11, _⟩ => ⟨S4096, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S4096x1, .f32⟩
  | .hbm, ⟨27, _⟩ => ⟨S1x32, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S4096x1, .f32⟩
  | .hbm, ⟨32, _⟩ => ⟨S1x32, .f32⟩
  | .hbm, ⟨33, _⟩ => ⟨S4096x32, .f32⟩
  | .hbm, ⟨34, _⟩ => ⟨S4096x32, .f32⟩
  | .hbm, ⟨35, _⟩ => ⟨S4096x32, .f32⟩
  | .hbm, ⟨36, _⟩ => ⟨S_, .f32⟩
  | .hbm, ⟨37, _⟩ => ⟨S4096x32, .f32⟩
  | .hbm, ⟨38, _⟩ => ⟨S4096x32, .f32⟩
  | .hbm, ⟨39, _⟩ => ⟨S4096x32, .f32⟩
  | .hbm, ⟨40, _⟩ => ⟨S4096x128, .f32⟩
  | .hbm, ⟨41, _⟩ => ⟨S4096x32, .f32⟩
  | .hbm, ⟨42, _⟩ => ⟨S4096x32, .f32⟩
  | .hbm, ⟨43, _⟩ => ⟨S4096x32, .f32⟩
  | .hbm, ⟨44, _⟩ => ⟨S4096x32, .f32⟩
  | .hbm, ⟨45, _⟩ => ⟨S4096x128, .f32⟩
  | .hbm, ⟨46, _⟩ => ⟨S4096x32, .f32⟩
  | .hbm, ⟨47, _⟩ => ⟨S4096x32, .f32⟩
  | .hbm, ⟨48, _⟩ => ⟨S4096x128, .f32⟩
  | .hbm, ⟨49, _⟩ => ⟨S1x2048, .f32⟩
  | .hbm, ⟨50, _⟩ => ⟨S16384x3072, .bf16⟩
  | .local _ .vmem, ⟨0, _⟩ => ⟨S512x2048, .f32⟩
  | .local _ .vmem, ⟨1, _⟩ => ⟨S512x2048, .f32⟩
  | .local _ .vmem, ⟨2, _⟩ => ⟨S1x8x2048, .f32⟩
  | .local _ .vmem, ⟨3, _⟩ => ⟨S1x8x2048, .f32⟩
  | .local _ .vmem, ⟨4, _⟩ => ⟨S1x2048, .f32⟩
  | .local _ .vmem, ⟨5, _⟩ => ⟨S1x2048x3072, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x3072, .bf16⟩
  | .local _ .vmem, ⟨13, _⟩ => ⟨S512x3072, .bf16⟩
  | .local _ .vmem, ⟨14, _⟩ => ⟨S512x2048, .bf16⟩
  | .local _ .vmem, ⟨15, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c31_i32 : BitVec 32 := 31#32
  let v0 : BitVec 32 := Scalar.minsi arg0 c31_i32
  let c512_i32 : BitVec 32 := 512#32
  let v1 : BitVec 32 := Scalar.muli v0 c512_i32
  let c4096_i32 : BitVec 32 := 4096#32
  let v2 : BitVec 32 := Scalar.divsi v1 c4096_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S16384x2048 : Shape := ⟨2, ![16384, 2048]⟩
abbrev S4x8x2048 : Shape := ⟨3, ![4, 8, 2048]⟩
abbrev S2048 : Shape := ⟨1, ![2048]⟩
abbrev S2x2048x3072 : Shape := ⟨3, ![2, 2048, 3072]⟩
abbrev S4x4096x2048 : Shape := ⟨3, ![4, 4096, 2048]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S1x2048x3072 : Shape := ⟨3, ![1, 2048, 3072]⟩
abbrev S2048x3072 : Shape := ⟨2, ![2048, 3072]⟩
abbrev S4x4096x3072 : Shape := ⟨3, ![4, 4096, 3072]⟩
abbrev S4x4096x512 : Shape := ⟨3, ![4, 4096, 512]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4x4096x4x4x128 : Shape := ⟨5, ![4, 4096, 4, 4, 128]⟩
abbrev S4x4096x4x4x64 : Shape := ⟨5, ![4, 4096, 4, 4, 64]⟩
abbrev S4096x1x1x32 : Shape := ⟨4, ![4096, 1, 1, 32]⟩
abbrev S4x4096x4x4x32 : Shape := ⟨5, ![4, 4096, 4, 4, 32]⟩
abbrev S1x4096x1x1x32 : Shape := ⟨5, ![1, 4096, 1, 1, 32]⟩
abbrev S4x4096x4x128 : Shape := ⟨4, ![4, 4096, 4, 128]⟩
abbrev S4x4096x4x64 : Shape := ⟨4, ![4, 4096, 4, 64]⟩
abbrev S4096x1x32 : Shape := ⟨3, ![4096, 1, 32]⟩
abbrev S4x4096x4x32 : Shape := ⟨4, ![4, 4096, 4, 32]⟩
abbrev S1x4096x1x32 : Shape := ⟨4, ![1, 4096, 1, 32]⟩
abbrev S16384x512 : Shape := ⟨2, ![16384, 512]⟩
abbrev S16384x3072 : Shape := ⟨2, ![16384, 3072]⟩

abbrev nBuf : Space → Nat
  | .hbm => 160
  | .vmem => 0
  | .smem => 0
  | _ => 0

abbrev hbmTy0_0 (i : Nat) : BufTy := match i % 128 with
  | 0 => ⟨S16384x2048, .f32⟩
  | 1 => ⟨S4x8x2048, .f32⟩
  | 2 => ⟨S2048, .f32⟩
  | 3 => ⟨S2x2048x3072, .f32⟩
  | 4 => ⟨S4x4096x2048, .f32⟩
  | 5 => ⟨S4x1x2048, .f32⟩
  | 6 => ⟨S4x1x2048, .f32⟩
  | 7 => ⟨S4x4096x2048, .f32⟩
  | 8 => ⟨S_, .f32⟩
  | 9 => ⟨S4x4096, .f32⟩
  | 10 => ⟨S4x4096x1, .f32⟩
  | 11 => ⟨S_, .f32⟩
  | 12 => ⟨S4x4096x1, .f32⟩
  | 13 => ⟨S4x4096x1, .f32⟩
  | 14 => ⟨S_, .f32⟩
  | 15 => ⟨S4x4096x1, .f32⟩
  | 16 => ⟨S4x4096x1, .f32⟩
  | 17 => ⟨S4x4096x1, .f32⟩
  | 18 => ⟨S4x4096x2048, .f32⟩
  | 19 => ⟨S4x4096x2048, .f32⟩
  | 20 => ⟨S1x1x2048, .f32⟩
  | 21 => ⟨S4x4096x2048, .f32⟩
  | 22 => ⟨S4x4096x2048, .f32⟩
  | 23 => ⟨S_, .f32⟩
  | 24 => ⟨S4x1x2048, .f32⟩
  | 25 => ⟨S4x1x2048, .f32⟩
  | 26 => ⟨S4x4096x2048, .f32⟩
  | 27 => ⟨S4x4096x2048, .f32⟩
  | 28 => ⟨S4x4096x2048, .f32⟩
  | 29 => ⟨S4x4096x2048, .f32⟩
  | 30 => ⟨S1x2048x3072, .f32⟩
  | 31 => ⟨S2048x3072, .f32⟩
  | 32 => ⟨S4x4096x3072, .f32⟩
  | 33 => ⟨S4x4096x2048, .f32⟩
  | 34 => ⟨S4x4096x512, .f32⟩
  | 35 => ⟨S4x4096x512, .f32⟩
  | 36 => ⟨S64, .f32⟩
  | 37 => ⟨S64x64, .f32⟩
  | 38 => ⟨S4096, .f32⟩
  | 39 => ⟨S64, .f32⟩
  | 40 => ⟨S1x64, .f32⟩
  | 41 => ⟨S64x64, .f32⟩
  | 42 => ⟨S4096, .f32⟩
  | 43 => ⟨S32, .f32⟩
  | 44 => ⟨S_, .f32⟩
  | 45 => ⟨S32, .f32⟩
  | 46 => ⟨S32, .f32⟩
  | 47 => ⟨S_, .f32⟩
  | 48 => ⟨S32, .f32⟩
  | 49 => ⟨S32, .f32⟩
  | 50 => ⟨S32, .f32⟩
  | 51 => ⟨S_, .f32⟩
  | 52 => ⟨S32, .f32⟩
  | 53 => ⟨S32, .f32⟩
  | 54 => ⟨S_, .f32⟩
  | 55 => ⟨S32, .f32⟩
  | 56 => ⟨S32, .f32⟩
  | 57 => ⟨S4096x1, .f32⟩
  | 58 => ⟨S1x32, .f32⟩
  | 59 => ⟨S4096x32, .f32⟩
  | 60 => ⟨S4096x32, .f32⟩
  | 61 => ⟨S4096x32, .f32⟩
  | 62 => ⟨S4096x1, .f32⟩
  | 63 => ⟨S1x32, .f32⟩
  | 64 => ⟨S4096x32, .f32⟩
  | 65 => ⟨S4096x32, .f32⟩
  | 66 => ⟨S4096x32, .f32⟩
  | 67 => ⟨S4096x32, .f32⟩
  | 68 => ⟨S4096x32, .f32⟩
  | 69 => ⟨S4096x32, .f32⟩
  | 70 => ⟨S4096x32, .f32⟩
  | 71 => ⟨S4x4096x4x4x128, .f32⟩
  | 72 => ⟨S4x4096x4x4x64, .f32⟩
  | 73 => ⟨S4x4096x4x4x64, .f32⟩
  | 74 => ⟨S4096x1x1x32, .f32⟩
  | 75 => ⟨S4096x1x1x32, .f32⟩
  | 76 => ⟨S4x4096x4x4x32, .f32⟩
  | 77 => ⟨S4x4096x4x4x32, .f32⟩
  | 78 => ⟨S1x4096x1x1x32, .f32⟩
  | 79 => ⟨S4x4096x4x4x32, .f32⟩
  | 80 => ⟨S4x4096x4x4x32, .f32⟩
  | 81 => ⟨S1x4096x1x1x32, .f32⟩
  | 82 => ⟨S4x4096x4x4x32, .f32⟩
  | 83 => ⟨S4x4096x4x4x32, .f32⟩
  | 84 => ⟨S4x4096x4x4x32, .f32⟩
  | 85 => ⟨S1x4096x1x1x32, .f32⟩
  | 86 => ⟨S4x4096x4x4x32, .f32⟩
  | 87 => ⟨S4x4096x4x4x32, .f32⟩
  | 88 => ⟨S1x4096x1x1x32, .f32⟩
  | 89 => ⟨S4x4096x4x4x32, .f32⟩
  | 90 => ⟨S4x4096x4x4x32, .f32⟩
  | 91 => ⟨S4x4096x4x4x32, .f32⟩
  | 92 => ⟨S4x4096x4x4x64, .f32⟩
  | 93 => ⟨S4096x1x1x32, .f32⟩
  | 94 => ⟨S4096x1x1x32, .f32⟩
  | 95 => ⟨S4x4096x4x4x32, .f32⟩
  | 96 => ⟨S4x4096x4x4x32, .f32⟩
  | 97 => ⟨S1x4096x1x1x32, .f32⟩
  | 98 => ⟨S4x4096x4x4x32, .f32⟩
  | 99 => ⟨S4x4096x4x4x32, .f32⟩
  | 100 => ⟨S1x4096x1x1x32, .f32⟩
  | 101 => ⟨S4x4096x4x4x32, .f32⟩
  | 102 => ⟨S4x4096x4x4x32, .f32⟩
  | 103 => ⟨S4x4096x4x4x32, .f32⟩
  | 104 => ⟨S1x4096x1x1x32, .f32⟩
  | 105 => ⟨S4x4096x4x4x32, .f32⟩
  | 106 => ⟨S4x4096x4x4x32, .f32⟩
  | 107 => ⟨S1x4096x1x1x32, .f32⟩
  | 108 => ⟨S4x4096x4x4x32, .f32⟩
  | 109 => ⟨S4x4096x4x4x32, .f32⟩
  | 110 => ⟨S4x4096x4x4x32, .f32⟩
  | 111 => ⟨S4x4096x4x4x64, .f32⟩
  | 112 => ⟨S4x4096x4x4x128, .f32⟩
  | 113 => ⟨S4x4096x4x128, .f32⟩
  | 114 => ⟨S4x4096x4x64, .f32⟩
  | 115 => ⟨S4x4096x4x64, .f32⟩
  | 116 => ⟨S4096x1x32, .f32⟩
  | 117 => ⟨S4096x1x32, .f32⟩
  | 118 => ⟨S4x4096x4x32, .f32⟩
  | 119 => ⟨S4x4096x4x32, .f32⟩
  | 120 => ⟨S1x4096x1x32, .f32⟩
  | 121 => ⟨S4x4096x4x32, .f32⟩
  | 122 => ⟨S4x4096x4x32, .f32⟩
  | 123 => ⟨S1x4096x1x32, .f32⟩
  | 124 => ⟨S4x4096x4x32, .f32⟩
  | 125 => ⟨S4x4096x4x32, .f32⟩
  | 126 => ⟨S4x4096x4x32, .f32⟩
  | 127 => ⟨S1x4096x1x32, .f32⟩
  | _ => ⟨S16384x2048, .f32⟩

abbrev hbmTy0_1 (i : Nat) : BufTy := match i % 128 with
  | 0 => ⟨S4x4096x4x32, .f32⟩
  | 1 => ⟨S4x4096x4x32, .f32⟩
  | 2 => ⟨S1x4096x1x32, .f32⟩
  | 3 => ⟨S4x4096x4x32, .f32⟩
  | 4 => ⟨S4x4096x4x32, .f32⟩
  | 5 => ⟨S4x4096x4x32, .f32⟩
  | 6 => ⟨S4x4096x4x64, .f32⟩
  | 7 => ⟨S4096x1x32, .f32⟩
  | 8 => ⟨S4096x1x32, .f32⟩
  | 9 => ⟨S4x4096x4x32, .f32⟩
  | 10 => ⟨S4x4096x4x32, .f32⟩
  | 11 => ⟨S1x4096x1x32, .f32⟩
  | 12 => ⟨S4x4096x4x32, .f32⟩
  | 13 => ⟨S4x4096x4x32, .f32⟩
  | 14 => ⟨S1x4096x1x32, .f32⟩
  | 15 => ⟨S4x4096x4x32, .f32⟩
  | 16 => ⟨S4x4096x4x32, .f32⟩
  | 17 => ⟨S4x4096x4x32, .f32⟩
  | 18 => ⟨S1x4096x1x32, .f32⟩
  | 19 => ⟨S4x4096x4x32, .f32⟩
  | 20 => ⟨S4x4096x4x32, .f32⟩
  | 21 => ⟨S1x4096x1x32, .f32⟩
  | 22 => ⟨S4x4096x4x32, .f32⟩
  | 23 => ⟨S4x4096x4x32, .f32⟩
  | 24 => ⟨S4x4096x4x32, .f32⟩
  | 25 => ⟨S4x4096x4x64, .f32⟩
  | 26 => ⟨S4x4096x4x128, .f32⟩
  | 27 => ⟨S16384x2048, .f32⟩
  | 28 => ⟨S16384x512, .f32⟩
  | 29 => ⟨S16384x512, .f32⟩
  | 30 => ⟨S16384x3072, .f32⟩
  | 31 => ⟨S16384x3072, .bf16⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩

abbrev nD : Nat := 1
abbrev τ : Topo := Topo.v7x

variable {F : FTy → Type} [FloatOps F]
-- ==== Kernel7.lean ====
abbrev S16384x2048 : Shape := ⟨2, ![16384, 2048]⟩
abbrev S4x8x2048 : Shape := ⟨3, ![4, 8, 2048]⟩
abbrev S2048 : Shape := ⟨1, ![2048]⟩
abbrev S2x2048x6144 : Shape := ⟨3, ![2, 2048, 6144]⟩
abbrev S2x2048x16 : Shape := ⟨3, ![2, 2048, 16]⟩
abbrev S2x16x1024 : Shape := ⟨3, ![2, 16, 1024]⟩
abbrev S2x1024 : Shape := ⟨2, ![2, 1024]⟩
abbrev S_ : Shape := ⟨0, ![]⟩
abbrev S2048x128 : Shape := ⟨2, ![2048, 128]⟩
abbrev S1x2048x16 : Shape := ⟨3, ![1, 2048, 16]⟩
abbrev S2048x16 : Shape := ⟨2, ![2048, 16]⟩
abbrev S1 : Shape := ⟨1, ![1]⟩
abbrev S128x1024 : Shape := ⟨2, ![128, 1024]⟩
abbrev S1x16x1024 : Shape := ⟨3, ![1, 16, 1024]⟩
abbrev S16x1024 : Shape := ⟨2, ![16, 1024]⟩
abbrev S1x1024 : Shape := ⟨2, ![1, 1024]⟩
abbrev S1024 : Shape := ⟨1, ![1024]⟩
abbrev S2x2048x2048 : Shape := ⟨3, ![2, 2048, 2048]⟩
abbrev S1x2048 : Shape := ⟨2, ![1, 2048]⟩
abbrev S16384x1024 : Shape := ⟨2, ![16384, 1024]⟩
abbrev S512x2048 : Shape := ⟨2, ![512, 2048]⟩
abbrev S1x8x2048 : Shape := ⟨3, ![1, 8, 2048]⟩
abbrev S1x2048x2048 : Shape := ⟨3, ![1, 2048, 2048]⟩
abbrev S512x1024 : Shape := ⟨2, ![512, 1024]⟩
abbrev S512x128 : Shape := ⟨2, ![512, 128]⟩
abbrev S1x2048x1024 : Shape := ⟨3, ![1, 2048, 1024]⟩
abbrev S2048x1024 : Shape := ⟨2, ![2048, 1024]⟩
abbrev S1x1x2048 : Shape := ⟨3, ![1, 1, 2048]⟩
abbrev S512 : Shape := ⟨1, ![512]⟩
abbrev S512x1 : Shape := ⟨2, ![512, 1]⟩

abbrev nBuf : Space → Nat
  | .hbm => 51
  | .vmem => 19
  | .smem => 0
  | _ => 0

abbrev bufTy : (tb : Table) → Fin (tcTables nBuf tb) → BufTy
  | .hbm, ⟨0, _⟩ => ⟨S16384x2048, .f32⟩
  | .hbm, ⟨1, _⟩ => ⟨S4x8x2048, .f32⟩
  | .hbm, ⟨2, _⟩ => ⟨S2048, .f32⟩
  | .hbm, ⟨3, _⟩ => ⟨S2x2048x6144, .f32⟩
  | .hbm, ⟨4, _⟩ => ⟨S2x2048x16, .f32⟩
  | .hbm, ⟨5, _⟩ => ⟨S2x16x1024, .f32⟩
  | .hbm, ⟨6, _⟩ => ⟨S2x1024, .f32⟩
  | .hbm, ⟨7, _⟩ => ⟨S2x2048x16, .f32⟩
  | .hbm, ⟨8, _⟩ => ⟨S2x16x1024, .f32⟩
  | .hbm, ⟨9, _⟩ => ⟨S2x1024, .f32⟩
  | .hbm, ⟨10, _⟩ => ⟨S_, .f32⟩
  | .hbm, ⟨11, _⟩ => ⟨S2048x128, .f32⟩
  | .hbm, ⟨12, _⟩ => ⟨S1x2048x16, .f32⟩
  | .hbm, ⟨13, _⟩ => ⟨S2048x16, .f32⟩
  | .hbm, ⟨14, _⟩ => ⟨S_, .i32⟩
  | .hbm, ⟨15, _⟩ => ⟨S1, .i32⟩
  | .hbm, ⟨16, _⟩ => ⟨S2048x128, .f32⟩
  | .hbm, ⟨17, _⟩ => ⟨S1x2048x16, .f32⟩
  | .hbm, ⟨18, _⟩ => ⟨S2048x16, .f32⟩
  | .hbm, ⟨19, _⟩ => ⟨S_, .i32⟩
  | .hbm, ⟨20, _⟩ => ⟨S1, .i32⟩
  | .hbm, ⟨21, _⟩ => ⟨S2048x128, .f32⟩
  | .hbm, ⟨22, _⟩ => ⟨S_, .f32⟩
  | .hbm, ⟨23, _⟩ => ⟨S128x1024, .f32⟩
  | .hbm, ⟨24, _⟩ => ⟨S1x16x1024, .f32⟩
  | .hbm, ⟨25, _⟩ => ⟨S16x1024, .f32⟩
  | .hbm, ⟨26, _⟩ => ⟨S_, .i32⟩
  | .hbm, ⟨27, _⟩ => ⟨S1, .i32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S1x16x1024, .f32⟩
  | .hbm, ⟨32, _⟩ => ⟨S16x1024, .f32⟩
  | .hbm, ⟨33, _⟩ => ⟨S_, .i32⟩
  | .hbm, ⟨34, _⟩ => ⟨S1, .i32⟩
  | .hbm, ⟨35, _⟩ => ⟨S128x1024, .f32⟩
  | .hbm, ⟨36, _⟩ => ⟨S2048x128, .bf16⟩
  | .hbm, ⟨37, _⟩ => ⟨S128x1024, .bf16⟩
  | .hbm, ⟨38, _⟩ => ⟨S128x1024, .bf16⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S1024, .f32⟩
  | .hbm, ⟨43, _⟩ => ⟨S2x2048x2048, .f32⟩
  | .hbm, ⟨44, _⟩ => ⟨S2x2048x2048, .bf16⟩
  | .hbm, ⟨45, _⟩ => ⟨S1x2048, .f32⟩
  | .hbm, ⟨46, _⟩ => ⟨S1x1024, .f32⟩
  | .hbm, ⟨47, _⟩ => ⟨S1x1024, .f32⟩
  | .hbm, ⟨48, _⟩ => ⟨S16384x2048, .f32⟩
  | .hbm, ⟨49, _⟩ => ⟨S16384x1024, .f32⟩
  | .hbm, ⟨50, _⟩ => ⟨S16384x1024, .f32⟩
  | .local _ .vmem, ⟨0, _⟩ => ⟨S512x2048, .f32⟩
  | .local _ .vmem, ⟨1, _⟩ => ⟨S512x2048, .f32⟩
  | .local _ .vmem, ⟨2, _⟩ => ⟨S1x8x2048, .f32⟩
  | .local _ .vmem, ⟨3, _⟩ => ⟨S1x8x2048, .f32⟩
  | .local _ .vmem, ⟨4, _⟩ => ⟨S1x2048, .f32⟩
  | .local _ .vmem, ⟨5, _⟩ => ⟨S1x2048x2048, .bf16⟩
  | .local _ .vmem, ⟨6, _⟩ => ⟨S2048x128, .bf16⟩
  | .local _ .vmem, ⟨7, _⟩ => ⟨S128x1024, .bf16⟩
  | .local _ .vmem, ⟨8, _⟩ => ⟨S128x1024, .bf16⟩
  | .local _ .vmem, ⟨9, _⟩ => ⟨S1x1024, .f32⟩
  | .local _ .vmem, ⟨10, _⟩ => ⟨S1x1024, .f32⟩
  | .local _ .vmem, ⟨11, _⟩ => ⟨S512x2048, .f32⟩
  | .local _ .vmem, ⟨12, _⟩ => ⟨S512x2048, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x2048, .bf16⟩
  | .local _ .vmem, ⟨18, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31_0 : Ref sig .tc := ⟨.hbm, 48, rfl⟩
abbrev main_v31_1 : Ref sig .tc := ⟨.hbm, 49, rfl⟩
abbrev main_v31_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c31_i32 : BitVec 32 := 31#32
  let v0 : BitVec 32 := Scalar.minsi arg0 c31_i32
  let c512_i32 : BitVec 32 := 512#32
  let v1 : BitVec 32 := Scalar.muli v0 c512_i32
  let c4096_i32 : BitVec 32 := 4096#32
  let v2 : BitVec 32 := Scalar.divsi v1 c4096_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference7Ideal.lean ====
abbrev S16384x2048 : Shape := ⟨2, ![16384, 2048]⟩
abbrev S4x8x2048 : Shape := ⟨3, ![4, 8, 2048]⟩
abbrev S2048 : Shape := ⟨1, ![2048]⟩
abbrev S2x2048x6144 : Shape := ⟨3, ![2, 2048, 6144]⟩
abbrev S2x2048x16 : Shape := ⟨3, ![2, 2048, 16]⟩
abbrev S2x16x1024 : Shape := ⟨3, ![2, 16, 1024]⟩
abbrev S2x1024 : Shape := ⟨2, ![2, 1024]⟩
abbrev S4x4096x2048 : Shape := ⟨3, ![4, 4096, 2048]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S1x2048x6144 : Shape := ⟨3, ![1, 2048, 6144]⟩
abbrev S2048x6144 : Shape := ⟨2, ![2048, 6144]⟩
abbrev S4x4096x6144 : Shape := ⟨3, ![4, 4096, 6144]⟩
abbrev S4x4096x1024 : Shape := ⟨3, ![4, 4096, 1024]⟩
abbrev S1x2048x16 : Shape := ⟨3, ![1, 2048, 16]⟩
abbrev S2048x16 : Shape := ⟨2, ![2048, 16]⟩
abbrev S1x16x1024 : Shape := ⟨3, ![1, 16, 1024]⟩
abbrev S16x1024 : Shape := ⟨2, ![16, 1024]⟩
abbrev S1x1024 : Shape := ⟨2, ![1, 1024]⟩
abbrev S1024 : Shape := ⟨1, ![1024]⟩
abbrev S4x4096x16 : Shape := ⟨3, ![4, 4096, 16]⟩
abbrev S1x1x1024 : Shape := ⟨3, ![1, 1, 1024]⟩
abbrev S16384x1024 : Shape := ⟨2, ![16384, 1024]⟩

abbrev nBuf : Space → Nat
  | .hbm => 69
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x8x2048, .f32⟩
  | .hbm, ⟨2, _⟩ => ⟨S2048, .f32⟩
  | .hbm, ⟨3, _⟩ => ⟨S2x2048x6144, .f32⟩
  | .hbm, ⟨4, _⟩ => ⟨S2x2048x16, .f32⟩
  | .hbm, ⟨5, _⟩ => ⟨S2x16x1024, .f32⟩
  | .hbm, ⟨6, _⟩ => ⟨S2x1024, .f32⟩
  | .hbm, ⟨7, _⟩ => ⟨S2x2048x16, .f32⟩
  | .hbm, ⟨8, _⟩ => ⟨S2x16x1024, .f32⟩
  | .hbm, ⟨9, _⟩ => ⟨S2x1024, .f32⟩
  | .hbm, ⟨10, _⟩ => ⟨S4x4096x2048, .f32⟩
  | .hbm, ⟨11, _⟩ => ⟨S4x1x2048, .f32⟩
  | .hbm, ⟨12, _⟩ => ⟨S4x1x2048, .f32⟩
  | .hbm, ⟨13, _⟩ => ⟨S4x4096x2048, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x2048, .f32⟩
  | .hbm, ⟨25, _⟩ => ⟨S4x4096x2048, .f32⟩
  | .hbm, ⟨26, _⟩ => ⟨S1x1x2048, .f32⟩
  | .hbm, ⟨27, _⟩ => ⟨S4x4096x2048, .f32⟩
  | .hbm, ⟨28, _⟩ => ⟨S4x4096x2048, .f32⟩
  | .hbm, ⟨29, _⟩ => ⟨S_, .f32⟩
  | .hbm, ⟨30, _⟩ => ⟨S4x1x2048, .f32⟩
  | .hbm, ⟨31, _⟩ => ⟨S4x1x2048, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S4x4096x2048, .f32⟩
  | .hbm, ⟨36, _⟩ => ⟨S1x2048x6144, .f32⟩
  | .hbm, ⟨37, _⟩ => ⟨S2048x6144, .f32⟩
  | .hbm, ⟨38, _⟩ => ⟨S4x4096x6144, .f32⟩
  | .hbm, ⟨39, _⟩ => ⟨S4x4096x1024, .f32⟩
  | .hbm, ⟨40, _⟩ => ⟨S4x4096x1024, .f32⟩
  | .hbm, ⟨41, _⟩ => ⟨S4x4096x2048, .f32⟩
  | .hbm, ⟨42, _⟩ => ⟨S4x4096x2048, .f32⟩
  | .hbm, ⟨43, _⟩ => ⟨S4x4096x2048, .f32⟩
  | .hbm, ⟨44, _⟩ => ⟨S16384x2048, .f32⟩
  | .hbm, ⟨45, _⟩ => ⟨S1x2048x16, .f32⟩
  | .hbm, ⟨46, _⟩ => ⟨S2048x16, .f32⟩
  | .hbm, ⟨47, _⟩ => ⟨S1x16x1024, .f32⟩
  | .hbm, ⟨48, _⟩ => ⟨S16x1024, .f32⟩
  | .hbm, ⟨49, _⟩ => ⟨S1x1024, .f32⟩
  | .hbm, ⟨50, _⟩ => ⟨S1024, .f32⟩
  | .hbm, ⟨51, _⟩ => ⟨S4x4096x16, .f32⟩
  | .hbm, ⟨52, _⟩ => ⟨S4x4096x1024, .f32⟩
  | .hbm, ⟨53, _⟩ => ⟨S1x1x1024, .f32⟩
  | .hbm, ⟨54, _⟩ => ⟨S4x4096x1024, .f32⟩
  | .hbm, ⟨55, _⟩ => ⟨S4x4096x1024, .f32⟩
  | .hbm, ⟨56, _⟩ => ⟨S16384x1024, .f32⟩
  | .hbm, ⟨57, _⟩ => ⟨S1x2048x16, .f32⟩
  | .hbm, ⟨58, _⟩ => ⟨S2048x16, .f32⟩
  | .hbm, ⟨59, _⟩ => ⟨S1x16x1024, .f32⟩
  | .hbm, ⟨60, _⟩ => ⟨S16x1024, .f32⟩
  | .hbm, ⟨61, _⟩ => ⟨S1x1024, .f32⟩
  | .hbm, ⟨62, _⟩ => ⟨S1024, .f32⟩
  | .hbm, ⟨63, _⟩ => ⟨S4x4096x16, .f32⟩
  | .hbm, ⟨64, _⟩ => ⟨S4x4096x1024, .f32⟩
  | .hbm, ⟨65, _⟩ => ⟨S1x1x1024, .f32⟩
  | .hbm, ⟨66, _⟩ => ⟨S4x4096x1024, .f32⟩
  | .hbm, ⟨67, _⟩ => ⟨S4x4096x1024, .f32⟩
  | .hbm, ⟨68, _⟩ => ⟨S16384x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩

abbrev nD : Nat := 1
abbrev τ : Topo := Topo.v7x

variable {F : FTy → Type} [FloatOps F]
-- ==== Proof.Attn.Reference.lean ====
module

public import proofs.«01_k».proof.Proof.Gen.ReferenceIdeal.Run
public import Idealize.ShloMosaic.Lib.Pipeline.ValueKit
public import Idealize.ShloMosaic.Lib.Pointwise
public import Idealize.ShloMosaic.Lib.WordCmp

/-! The attention reference in stages: the queries by head, the windows of keys and values, the repeated context, the
    mask, the scores, the weights, and the output product; each read at one index. -/

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen

/-- The latent rows by sample. -/
def lat (X : FVec Ideal S16384x3072 .bf16) : FVec Ideal S4x4096x3072 .f32 :=
  shapeCast _ (extf .f32 X bitsLt_bf16_f32) shapeCasts_S16384x3072_S4x4096x3072

/-- The context rows by sample. -/
def ctx (C : FVec Ideal S1024x3072 .bf16) : FVec Ideal S4x256x3072 .f32 :=
  shapeCast _ (extf .f32 C bitsLt_bf16_f32) shapeCasts_S1024x3072_S4x256x3072

/-- The windows of 384 rows of one key or value array: three neighbouring blocks of the zero-padded rows. -/
def windows (T : FVec Ideal S4x4096x512 .f32) : FVec Ideal S128x384x4x128 .f32 :=
  have P : FVec Ideal S4x34x128x4x128 .f32 := shapeCast _ (pad S4x4352x4x128 ![0, 128, 0, 0] ![0, 128, 0, 0] ![0, 0, 0, 0]
    (shapeCast _ T shapeCasts_S4x4096x512_S4x4096x4x128) (sitofp (F := Ideal) .f32 (constantI S_ 32 0#32))
    pads_S4x4096x4x128_S4x4352x4x128_000_1281280_000_000 h_S_) shapeCasts_S4x4352x4x128_S4x34x128x4x128
  have W : FVec Ideal S4x32x384x4x128 .f32 := concatenate S4x32x384x4x128 2 [
    ⟨S4x32x128x4x128, extractStridedSlice S4x32x128x4x128 ![0, 0, 0, 0, 0] P slices_S4x34x128x4x128_S4x32x128x4x128_0_0_0_0_0⟩,
    ⟨S4x32x128x4x128, extractStridedSlice S4x32x128x4x128 ![0, 1, 0, 0, 0] P slices_S4x34x128x4x128_S4x32x128x4x128_0_1_0_0_0⟩,
    ⟨S4x32x128x4x128, extractStridedSlice S4x32x128x4x128 ![0, 2, 0, 0, 0] P slices_S4x34x128x4x128_S4x32x128x4x128_0_2_0_0_0⟩]
    concatenates_S4x32x128x4x128_S4x32x128x4x128_S4x32x128x4x128_S4x32x384x4x128_d2
  shapeCast _ W shapeCasts_S4x32x384x4x128_S128x384x4x128

/-- The context rows of one key or value array, repeated for every block. -/
def repeated (T : FVec Ideal S4x256x512 .f32) : FVec Ideal S128x256x4x128 .f32 :=
  shapeCast _ (broadcastInDim S4x32x256x4x128 ![0, 2, 3, 4] bcast_S4x256x4x128_S4x32x256x4x128_0_2_3_4
    (shapeCast S4x256x4x128 T shapeCasts_S4x256x512_S4x256x4x128)) shapeCasts_S4x32x256x4x128_S128x256x4x128

/-- The queries by block, row, key head, group and column. -/
def queries (X : FVec Ideal S16384x3072 .bf16) : FVec Ideal S128x128x4x4x128 .f32 :=
  shapeCast _ (extractStridedSlice S4x4096x2048 ![0, 0, 0] (lat X) slices_S4x4096x3072_S4x4096x2048_0_0_0)
    shapeCasts_S4x4096x2048_S128x128x4x4x128

def keyWin (X : FVec Ideal S16384x3072 .bf16) : FVec Ideal S128x384x4x128 .f32 :=
  windows (extractStridedSlice S4x4096x512 ![0, 0, 2048] (lat X) slices_S4x4096x3072_S4x4096x512_0_0_2048)
def valWin (X : FVec Ideal S16384x3072 .bf16) : FVec Ideal S128x384x4x128 .f32 :=
  windows (extractStridedSlice S4x4096x512 ![0, 0, 2560] (lat X) slices_S4x4096x3072_S4x4096x512_0_0_2560)
def keyCtx (C : FVec Ideal S1024x3072 .bf16) : FVec Ideal S128x256x4x128 .f32 :=
  repeated (extractStridedSlice S4x256x512 ![0, 0, 2048] (ctx C) slices_S4x256x3072_S4x256x512_0_0_2048)
def valCtx (C : FVec Ideal S1024x3072 .bf16) : FVec Ideal S128x256x4x128 .f32 :=
  repeated (extractStridedSlice S4x256x512 ![0, 0, 2560] (ctx C) slices_S4x256x3072_S4x256x512_0_0_2560)

/-- The band: query `i` and window row `j` are at most 128 apart. -/
def band : IVec S128x384 1 :=
  cmpi .sle (absi (addi (subi
      (broadcastInDim S128x384 ![0, 1] bcast_S128x1_S128x384_0_1 (broadcastInDim S128x1 ![0] bcast_S128_S128x1_0 (iotaInDim S128 32 0)))
      (broadcastInDim S128x384 ![0, 1] bcast_S1x384_S128x384_0_1 (broadcastInDim S1x384 ![1] bcast_S384_S1x384_1 (iotaInDim S384 32 0))))
      (broadcastInDim S128x384 ![] bcast_S_S128x384 (constantI S_ 32 128#32))))
    (broadcastInDim S128x384 ![] bcast_S_S128x384 (constantI S_ 32 128#32))

/-- The block's number in its sample: the block index modulo 32. -/
def blockNo : IVec S128x1x1 32 :=
  have t14 : IVec S128x1x1 32 := broadcastInDim S128x1x1 ![0] bcast_S128_S128x1x1_0 (iotaInDim S128 32 0)
  have t15 : IVec S_ 32 := select (cmpi .eq (id (constantI S_ 32 32#32)) (constantI S_ 32 0#32)) (constantI S_ 32 1#32) (id (constantI S_ 32 32#32))
  have r : IVec S128x1x1 32 := Host.remsi t14 (broadcastInDim S128x1x1 ![] bcast_S_S128x1x1 t15)
  have t16 : IVec S128x1x1 1 := cmpi .slt r (broadcastInDim S128x1x1 ![] bcast_S_S128x1x1 (constantI S_ 32 0#32))
  have t17 : IVec S128x1x1 1 := broadcastInDim S128x1x1 ![] bcast_S_S128x1x1 (cmpi .slt t15 (constantI S_ 32 0#32))
  have t18 : IVec S128x1x1 1 := cmpi .ne r (broadcastInDim S128x1x1 ![] bcast_S_S128x1x1 (constantI S_ 32 0#32))
  select (andi (cmpi .ne t16 t17) t18) (addi r (broadcastInDim S128x1x1 ![] bcast_S_S128x1x1 t15)) r

/-- The sequence position of a window row. -/
def position : IVec S128x1x384 32 :=
  addi (broadcastInDim S128x1x384 ![0, 1, 2] bcast_S128x1x1_S128x1x384_0_1_2
      (subi (muli blockNo (broadcastInDim S128x1x1 ![] bcast_S_S128x1x1 (constantI S_ 32 128#32)))
        (broadcastInDim S128x1x1 ![] bcast_S_S128x1x1 (constantI S_ 32 128#32))))
    (broadcastInDim S128x1x384 ![0, 1, 2] bcast_S1x1x384_S128x1x384_0_1_2
      (broadcastInDim S1x1x384 ![1, 2] bcast_S1x384_S1x1x384_1_2 (broadcastInDim S1x384 ![1] bcast_S384_S1x384_1 (iotaInDim S384 32 0))))

/-- The mask by block, query and window row. -/
def mask : IVec S128x128x384 1 :=
  andi (andi
      (broadcastInDim S128x128x384 ![0, 1, 2] bcast_S1x128x384_S128x128x384_0_1_2 (broadcastInDim S1x128x384 ![1, 2] bcast_S128x384_S1x128x384_1_2 band))
      (broadcastInDim S128x128x384 ![0, 1, 2] bcast_S128x1x384_S128x128x384_0_1_2
        (cmpi .sge position (broadcastInDim S128x1x384 ![] bcast_S_S128x1x384 (constantI S_ 32 0#32)))))
    (broadcastInDim S128x128x384 ![0, 1, 2] bcast_S128x1x384_S128x128x384_0_1_2
      (cmpi .slt position (broadcastInDim S128x1x384 ![] bcast_S_S128x1x384 (constantI S_ 32 4096#32))))

/-- The masked and scaled scores against a window of keys. -/
def scoreWin (q : FVec Ideal S128x128x4x4x128 .f32) (k : FVec Ideal S128x384x4x128 .f32) : FVec Ideal S128x4x4x128x384 .f32 :=
  select (broadcastInDim S128x4x4x128x384 ![0, 1, 2, 3, 4] bcast_S128x1x1x128x384_S128x4x4x128x384_0_1_2_3_4
      (broadcastInDim S128x1x1x128x384 ![0, 3, 4] bcast_S128x128x384_S128x1x1x128x384_0_3_4 mask))
    (mulf (transpose S128x4x4x128x384 [0, 1, 4, 3, 2]
        (Host.dotGeneral dot_S128x384x4x128_S128x128x4x4x128_S128x4x384x128x4_3_4_1_13_02_02 none k q)
        transposes_S128x4x384x128x4_S128x4x4x128x384_0_1_4_3_2)
      (broadcastInDim S128x4x4x128x384 ![] bcast_S_S128x4x4x128x384 (constant S_ .f32 0x3DB504F3#32)))
    (broadcastInDim S128x4x4x128x384 ![] bcast_S_S128x4x4x128x384 (id (constant S_ .f32 0xFF800000#32)))

/-- The scaled scores against the context keys. -/
def scoreCtx (q : FVec Ideal S128x128x4x4x128 .f32) (k : FVec Ideal S128x256x4x128 .f32) : FVec Ideal S128x4x4x128x256 .f32 :=
  mulf (transpose S128x4x4x128x256 [0, 1, 4, 3, 2]
      (Host.dotGeneral dot_S128x256x4x128_S128x128x4x4x128_S128x4x256x128x4_3_4_1_13_02_02 none k q)
      transposes_S128x4x256x128x4_S128x4x4x128x256_0_1_4_3_2)
    (broadcastInDim S128x4x4x128x256 ![] bcast_S_S128x4x4x128x256 (constant S_ .f32 0x3DB504F3#32))

/-- All 640 scores of a query. -/
def scores (w : FVec Ideal S128x4x4x128x384 .f32) (c : FVec Ideal S128x4x4x128x256 .f32) : FVec Ideal S128x4x4x128x640 .f32 :=
  concatenate S128x4x4x128x640 4 [⟨S128x4x4x128x384, w⟩, ⟨S128x4x4x128x256, c⟩]
    concatenates_S128x4x4x128x384_S128x4x4x128x256_S128x4x4x128x640_d4

/-- The sink logits, one per head. -/
def sinks (s : FVec Ideal S16 .f32) : FVec Ideal S128x4x4x128x1 .f32 :=
  broadcastInDim S128x4x4x128x1 ![0, 1, 2, 3, 4] bcast_S1x4x4x1x1_S128x4x4x128x1_0_1_2_3_4
    (broadcastInDim S1x4x4x1x1 ![1, 2] bcast_S4x4_S1x4x4x1x1_1_2 (shapeCast S4x4 s shapeCasts_S16_S4x4))

/-- The row maximum of the scores. -/
def rowFold (S : FVec Ideal S128x4x4x128x640 .f32) : FVec Ideal S128x4x4x128 .f32 :=
  Host.reduce FloatOps.maximumf S (constant S_ .f32 0xFF800000#32) reducesTo_S128x4x4x128x640_S128x4x4x128_d4 h_S_

/-- The row sum of the exponentials. -/
def rowSum (e : FVec Ideal S128x4x4x128x640 .f32) : FVec Ideal S128x4x4x128 .f32 :=
  Host.reduceAdd e (constant S_ .f32 0x00000000#32) reducesTo_S128x4x4x128x640_S128x4x4x128_d4 h_S_

/-- The greater of a row's maximum and its sink's logit. -/
def shift (r : FVec Ideal S128x4x4x128 .f32) (s : FVec Ideal S128x4x4x128x1 .f32) : FVec Ideal S128x4x4x128x1 .f32 :=
  maximumf (broadcastInDim S128x4x4x128x1 ![0, 1, 2, 3] bcast_S128x4x4x128_S128x4x4x128x1_0_1_2_3 r) s

/-- The exponentials of the shifted scores. -/
def exps (S : FVec Ideal S128x4x4x128x640 .f32) (mx : FVec Ideal S128x4x4x128x1 .f32) : FVec Ideal S128x4x4x128x640 .f32 :=
  Host.exp (subf S (broadcastInDim S128x4x4x128x640 ![0, 1, 2, 3, 4] bcast_S128x4x4x128x1_S128x4x4x128x640_0_1_2_3_4 mx))

/-- The normalizer: a row's sum plus its sink's exponential. -/
def total (r : FVec Ideal S128x4x4x128 .f32) (s mx : FVec Ideal S128x4x4x128x1 .f32) : FVec Ideal S128x4x4x128x1 .f32 :=
  addf (broadcastInDim S128x4x4x128x1 ![0, 1, 2, 3] bcast_S128x4x4x128_S128x4x4x128x1_0_1_2_3 r) (Host.exp (subf s mx))

/-- The quotients by the normalizer. -/
def share (e : FVec Ideal S128x4x4x128x640 .f32) (d : FVec Ideal S128x4x4x128x1 .f32) : FVec Ideal S128x4x4x128x640 .f32 :=
  Host.divf e (broadcastInDim S128x4x4x128x640 ![0, 1, 2, 3, 4] bcast_S128x4x4x128x1_S128x4x4x128x640_0_1_2_3_4 d)

/-- The weights: the exponentials of the shifted scores over their sum with the sink's. -/
def weights (S : FVec Ideal S128x4x4x128x640 .f32) (s : FVec Ideal S128x4x4x128x1 .f32) : FVec Ideal S128x4x4x128x640 .f32 :=
  share (exps S (shift (rowFold S) s)) (total (rowSum (exps S (shift (rowFold S) s))) s (shift (rowFold S) s))

/-- The weighted values: the window's product plus the context's. -/
def weighted (p : FVec Ideal S128x4x4x128x640 .f32) (vw : FVec Ideal S128x384x4x128 .f32) (vc : FVec Ideal S128x256x4x128 .f32) :
    FVec Ideal S128x128x4x4x128 .f32 :=
  addf (transpose S128x128x4x4x128 [0, 4, 1, 3, 2]
      (Host.dotGeneral dot_S128x384x4x128_S128x4x4x128x384_S128x4x128x4x128_1_4_3_23_02_01 none vw
        (extractStridedSlice S128x4x4x128x384 ![0, 0, 0, 0, 0] p slices_S128x4x4x128x640_S128x4x4x128x384_0_0_0_0_0))
      transposes_S128x4x128x4x128_S128x128x4x4x128_0_4_1_3_2)
    (transpose S128x128x4x4x128 [0, 4, 1, 3, 2]
      (Host.dotGeneral dot_S128x256x4x128_S128x4x4x128x256_S128x4x128x4x128_1_4_3_23_02_01 none vc
        (extractStridedSlice S128x4x4x128x256 ![0, 0, 0, 0, 384] p slices_S128x4x4x128x640_S128x4x4x128x256_0_0_0_0_384))
      transposes_S128x4x128x4x128_S128x128x4x4x128_0_4_1_3_2)

/-- The result: residual plus gate times the output product. -/
def result (A : FVec Ideal S128x128x4x4x128 .f32) (x : FVec Ideal S16384x2048 .f32) (md : FVec Ideal S4x8x2048 .f32)
    (wo : FVec Ideal S2x2048x2048 .bf16) : FVec Ideal S16384x2048 .f32 :=
  have t0 : FVec Ideal S4x1x2048 .f32 := extractStridedSlice S4x1x2048 ![0, 2, 0] md slices_S4x8x2048_S4x1x2048_0_2_0
  have t1 : FVec Ideal S4x4096x2048 .f32 := broadcastInDim S4x4096x2048 ![0, 2] bcast_S4x2048_S4x4096x2048_0_2
    (shapeCast S4x2048 t0 shapeCasts_S4x1x2048_S4x2048)
  have t66 : FVec Ideal S1x2048x2048 .bf16 := extractStridedSlice S1x2048x2048 ![0, 0, 0] wo slices_S2x2048x2048_S1x2048x2048_0_0_0
  have t67 : FVec Ideal S2048x2048 .f32 := extf .f32 (shapeCast S2048x2048 t66 shapeCasts_S1x2048x2048_S2048x2048 : FVec Ideal S2048x2048 .bf16) bitsLt_bf16_f32
  addf x (mulf (shapeCast _ t1 shapeCasts_S4x4096x2048_S16384x2048)
    (Host.dotGeneral dot_S16384x2048_S2048x2048_S16384x2048_1_0_0_1_n_n none
      (shapeCast S16384x2048 A shapeCasts_S128x128x4x4x128_S16384x2048) t67))

/-- The whole reference over its six arguments. -/
def whole (X : FVec Ideal S16384x3072 .bf16) (C : FVec Ideal S1024x3072 .bf16) (x : FVec Ideal S16384x2048 .f32)
    (md : FVec Ideal S4x8x2048 .f32) (s : FVec Ideal S16 .f32) (wo : FVec Ideal S2x2048x2048 .bf16) : FVec Ideal S16384x2048 .f32 :=
  result (weighted (weights (scores (scoreWin (queries X) (keyWin X)) (scoreCtx (queries X) (keyCtx C))) (sinks s)) (valWin X) (valCtx C)) x md wo

/-- The run's composed term is the staged reference. -/
theorem res_eq (m : (ℓ : Loc nD τ sig) → Buf (Elt Ideal) ℓ) (c : Dev nD) : Value.res_out0 m c =
    whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl

end Cert.ReferenceIdeal.Attn
-- ==== Proof.Attn.Softmax.lean ====
module

public import Idealize.ShloMosaic.Lib.Pointwise
public import Idealize.ShloMosaic.Lib.WordCmp

/-! Attention at one query over extended reals: what both programs compute for one query row, head and value column, and
    the one place where they differ — dividing the weighted sum, or dividing every weight. -/

@[expose] public section

noncomputable section

namespace Cert.Att

open Idealize.ShloMosaic

/-- The pattern of minus infinity denotes the bottom element. -/
theorem ofBits_bot : Ideal.ofBits .f32 4286578688#32 = ⊥ := by simp [Ideal.ofBits, Ideal.ieee]

/-- The score scale is a real number. -/
theorem scale_real : ∃ r : ℝ, Ideal.ofBits .f32 1035273459#32 = (r : EReal) := by
  show ∃ r : ℝ, Ideal.ieee 8 23 1035273459#32 = (r : EReal)
  unfold Ideal.ieee
  dsimp only
  rw [if_neg (by decide), if_neg (by decide)]
  exact ⟨_, rfl⟩

variable {J : Type} [Fintype J]

/-- The shift of a row of scores: its greatest score or the sink's logit. -/
def shiftOf (s : J → EReal) (k : EReal) : EReal := max (Finset.fold max ⊥ s Finset.univ) k

/-- The normalizer of a row of scores with a sink. -/
def normOf (s : J → EReal) (k : EReal) : EReal :=
  ∑ j, Ideal.exp (s j - shiftOf s k) + Ideal.exp (k - shiftOf s k)

/-- Attention of one row: the weighted sum of the values over the normalizer. -/
def att (s : J → EReal) (k : EReal) (v : J → EReal) : EReal :=
  Ideal.div (∑ j, v j * Ideal.exp (s j - shiftOf s k)) (normOf s k)

theorem fold_eq_sup (s : J → EReal) : Finset.fold max ⊥ s Finset.univ = Finset.univ.sup s := rfl

/-- The shift lies above every score. -/
theorem le_shiftOf (s : J → EReal) (k : EReal) (j : J) : s j ≤ shiftOf s k := by
  unfold shiftOf; rw [fold_eq_sup]
  exact le_trans (Finset.le_sup (Finset.mem_univ j)) (le_max_left _ _)

/-- With no infinite score and no infinite sink the shift is not plus infinity. -/
theorem shiftOf_lt_top (s : J → EReal) (k : EReal) (hs : ∀ j, s j < ⊤) (hk : k < ⊤) : shiftOf s k < ⊤ := by
  unfold shiftOf; rw [fold_eq_sup]
  exact max_lt ((Finset.sup_lt_iff bot_lt_top).mpr fun j _ => hs j) hk

/-- An exponential is nonnegative. -/
theorem exp_nonneg (x : EReal) : 0 ≤ Ideal.exp x := by
  induction x with
  | bot => simp
  | top => simp
  | coe r => rw [Ideal.exp_coe]; exact_mod_cast (Real.exp_pos r).le

/-- An exponential of a number below plus infinity is real. -/
theorem exp_ne_top {x : EReal} (h : x < ⊤) : Ideal.exp x ≠ ⊤ := by
  induction x with
  | bot => simp
  | top => exact absurd h (lt_irrefl _)
  | coe r => rw [Ideal.exp_coe]; exact EReal.coe_ne_top _

/-- A sum of extended reals none of which is plus infinity is not plus infinity. -/
theorem sum_ne_top (f : J → EReal) (h : ∀ j, f j ≠ ⊤) : ∑ j, f j ≠ ⊤ := by
  classical
  induction (Finset.univ : Finset J) using Finset.induction_on with
  | empty => simp
  | insert a t ha ih => rw [Finset.sum_insert ha]; exact EReal.add_ne_top (h a) ih

/-- A nonnegative real factor goes into a sum. -/
theorem sum_mul_real (f : J → EReal) {r : EReal} (hr : 0 ≤ r) (ht : r ≠ ⊤) : (∑ j, f j) * r = ∑ j, f j * r := by
  classical
  induction (Finset.univ : Finset J) using Finset.induction_on with
  | empty => simp
  | insert a t ha ih =>
    rw [Finset.sum_insert ha, Finset.sum_insert ha, EReal.right_distrib_of_nonneg_of_ne_top hr ht, ih]

/-- A difference with a real number, below plus infinity. -/
theorem sub_lt_top {a m : EReal} (ha : a < ⊤) (hm : ⊥ < m) : a - m < ⊤ := by
  rw [sub_eq_add_neg, lt_top_iff_ne_top]
  exact EReal.add_ne_top ha.ne (by simpa using hm.ne')

/-- Attention does not see the values at scores of minus infinity. -/
theorem att_congr (s : J → EReal) (k : EReal) (v v' : J → EReal) (hv : ∀ j, v j = v' j ∨ s j = ⊥) : att s k v = att s k v' := by
  unfold att
  congr 1
  refine Finset.sum_congr rfl fun j _ => ?_
  rcases hv j with h | h
  · rw [h]
  · simp [h]

section

variable (s : J → EReal) (k : EReal) (hs : ∀ j, s j < ⊤) (hk : k < ⊤) (j₀ : J) (h₀ : ⊥ < s j₀)
include hs hk j₀ h₀

/-- The shift of a row with a finite score is above minus infinity. -/
theorem bot_lt_shiftOf : ⊥ < shiftOf s k := lt_of_lt_of_le h₀ (le_shiftOf s k j₀)

/-- The normalizer is not plus infinity. -/
theorem normOf_ne_top : normOf s k ≠ ⊤ := by
  have hb := bot_lt_shiftOf s k hs hk j₀ h₀
  exact EReal.add_ne_top (sum_ne_top _ fun j => exp_ne_top (sub_lt_top (hs j) hb)) (exp_ne_top (sub_lt_top hk hb))

/-- The normalizer is positive. -/
theorem normOf_pos : 0 < normOf s k := by
  classical
  have hb := bot_lt_shiftOf s k hs hk j₀ h₀
  have ht := shiftOf_lt_top s k hs hk
  obtain ⟨a, ha⟩ : ∃ a : ℝ, s j₀ = (a : EReal) := ⟨_, (EReal.coe_toReal (hs j₀).ne h₀.ne').symm⟩
  obtain ⟨b, hb'⟩ : ∃ b : ℝ, shiftOf s k = (b : EReal) := ⟨_, (EReal.coe_toReal ht.ne hb.ne').symm⟩
  have hpos : 0 < Ideal.exp (s j₀ - shiftOf s k) := by
    rw [ha, hb', ← EReal.coe_sub, Ideal.exp_coe]; exact_mod_cast Real.exp_pos _
  have hle : Ideal.exp (s j₀ - shiftOf s k) ≤ ∑ j, Ideal.exp (s j - shiftOf s k) :=
    Finset.single_le_sum (f := fun j => Ideal.exp (s j - shiftOf s k)) (fun j _ => exp_nonneg _) (Finset.mem_univ j₀)
  exact lt_of_lt_of_le hpos (le_trans hle (le_add_of_nonneg_right (exp_nonneg _)))

/-- The normalizer's inverse is a nonnegative real. -/
theorem norm_inv : ∃ r : ℝ, 0 ≤ r ∧ ∀ x, Ideal.div x (normOf s k) = x * (r : EReal) := by
  have hp := normOf_pos s k hs hk j₀ h₀
  have ht := normOf_ne_top s k hs hk j₀ h₀
  obtain ⟨d, hd⟩ : ∃ d : ℝ, normOf s k = (d : EReal) := ⟨_, (EReal.coe_toReal ht (bot_lt_of_lt hp).ne').symm⟩
  have hd0 : 0 < d := by rw [hd] at hp; exact_mod_cast hp
  refine ⟨1 / d, by positivity, fun x => ?_⟩
  rw [hd]; exact Ideal.div_coe hd0.ne' x

/-- Dividing every weight gives the same attention as dividing the sum, whatever the values at scores of minus infinity. -/
theorem sum_div_eq_att (v v' : J → EReal) (hv : ∀ j, v j = v' j ∨ s j = ⊥) :
    ∑ j, v j * Ideal.div (Ideal.exp (s j - shiftOf s k)) (normOf s k) = att s k v' := by
  obtain ⟨r, hr, hdiv⟩ := norm_inv s k hs hk j₀ h₀
  have hne : (r : EReal) ≠ ⊤ := EReal.coe_ne_top r
  have hr' : (0 : EReal) ≤ (r : EReal) := by exact_mod_cast hr
  unfold att
  rw [hdiv, sum_mul_real _ hr' hne]
  refine Finset.sum_congr rfl fun j _ => ?_
  rw [hdiv, ← mul_assoc]
  rcases hv j with h | h
  · rw [h]
  · simp [h]

end

/-- A sum over 640 rows, 384 and 256 of them apart. -/
theorem sum_split {M : Type} [AddCommMonoid M] (f : Fin 640 → M) :
    ∑ j : Fin 384, f ⟨j.val, by omega⟩ + ∑ j : Fin 256, f ⟨384 + j.val, by omega⟩ = ∑ j, f j :=
  (Fin.sum_univ_add (a := 384) (b := 256) f).symm

end Cert.Att
-- ==== Proof.Attn.Spec.lean ====
module

public import proofs.«01_k».proof.Proof.Attn.Softmax

/-! Banded attention over the two argument arrays: which window rows a query sees, its scores against them and against
    its sample's context, the values, and the attended entry of one query, head and column. -/

@[expose] public section

noncomputable section

namespace Cert.Att

open Idealize.ShloMosaic

/-- Query `i` of block `p` sees window row `j`: at most 128 apart, and inside its own sequence. -/
abbrev Visible (p i j : ℕ) : Prop :=
  (i ≤ j ∧ j ≤ i + 256) ∧ 128 ≤ p % 32 * 128 + j ∧ p % 32 * 128 + j < 4224

variable (X : FVec Ideal (⟨2, ![16384, 3072]⟩ : Shape) .bf16) (C : FVec Ideal (⟨2, ![1024, 3072]⟩ : Shape) .bf16)

/-- Row `j` of block `p`'s window of three blocks, in a column of the latent array; zero outside the sequence. -/
def winRow (p : Fin 128) (j : ℕ) (n : Fin 3072) : EReal :=
  if h : 128 ≤ p.val % 32 * 128 + j ∧ p.val % 32 * 128 + j < 4224 then X (ix2 ⟨p.val * 128 + j - 128, by omega⟩ n) else 0

/-- Row `j` of the context of block `p`'s sample. -/
def ctxRow (p : Fin 128) (j : Fin 256) (n : Fin 3072) : EReal :=
  C (ix2 ⟨p.val / 32 * 256 + j.val, by omega⟩ n)

/-- The query entry of block `p`, row `i`, head `h`, column `d`. -/
def query (p i : Fin 128) (h : Fin 16) (d : Fin 128) : EReal :=
  X (ix2 ⟨p.val * 128 + i.val, by omega⟩ ⟨h.val * 128 + d.val, by omega⟩)

/-- The scale of the scores. -/
def scale : EReal := Ideal.ofBits .f32 1035273459#32

/-- The 640 scores of a query: 384 window rows, masked, and 256 context rows. -/
def score (p i : Fin 128) (h : Fin 16) (j : Fin 640) : EReal :=
  if hj : j.val < 384 then
    if Visible p.val i.val j.val then
      (∑ x : Fin 128, winRow X p j.val ⟨2048 + (h.val / 4 * 128 + x.val), by omega⟩ * query X p i h x) * scale
    else ⊥
  else (∑ x : Fin 128, ctxRow C p ⟨j.val - 384, by omega⟩ ⟨2048 + (h.val / 4 * 128 + x.val), by omega⟩ * query X p i h x) * scale

/-- The 640 values of one column. -/
def value (p : Fin 128) (h : Fin 16) (d : Fin 128) (j : Fin 640) : EReal :=
  if hj : j.val < 384 then winRow X p j.val ⟨2560 + (h.val / 4 * 128 + d.val), by omega⟩
  else ctxRow C p ⟨j.val - 384, by omega⟩ ⟨2560 + (h.val / 4 * 128 + d.val), by omega⟩

/-- The attended entry of global row `r` and column `n`. -/
def attendedAt (s : FVec Ideal (⟨1, ![16]⟩ : Shape) .f32) (r : Fin 16384) (n : Fin 2048) : EReal :=
  att (score X C ⟨r.val / 128, by omega⟩ ⟨r.val % 128, by omega⟩ ⟨n.val / 128, by omega⟩) (s (ix1 ⟨n.val / 128, by omega⟩))
    (value X C ⟨r.val / 128, by omega⟩ ⟨n.val / 128, by omega⟩ ⟨n.val % 128, by omega⟩)

/-- The layer's entry: the residual plus the gate times the output product of the attended row. -/
def layerAt (x : FVec Ideal (⟨2, ![16384, 2048]⟩ : Shape) .f32) (md : FVec Ideal (⟨3, ![4, 8, 2048]⟩ : Shape) .f32)
    (s : FVec Ideal (⟨1, ![16]⟩ : Shape) .f32) (wo : FVec Ideal (⟨3, ![2, 2048, 2048]⟩ : Shape) .bf16)
    (r : Fin 16384) (n : Fin 2048) : EReal :=
  x (ix2 r n) + md (ix3 ⟨r.val / 4096, by omega⟩ 2 n) * ∑ k : Fin 2048, attendedAt X C s r k * wo (ix3 0 k n)

end Cert.Att
-- ==== Proof.Attn.ReferenceRead.lean ====
module

public import proofs.«01_k».proof.Proof.Attn.Reference
public import proofs.«01_k».proof.Proof.Attn.Spec

/-! The stages of the attention reference read at one index. -/

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen

/-- The zero that pads a sequence. -/
theorem pad_zero : (FloatOps.sitofp .f32 (0#32) : Ideal .f32) = 0 := by
  show (((0#32 : BitVec 32).toInt : ℝ) : EReal) = 0
  simp

theorem queries_at (X : FVec Ideal S16384x3072 .bf16) (p i : Fin 128) (kv g : Fin 4) (d : Fin 128) :
    queries X (ix5 p i kv g d) = Cert.Att.query X p i ⟨kv.val * 4 + g.val, by omega⟩ d := by
  unfold Cert.Att.query
  pointwise [queries, lat]
  congr 2 <;> (apply Fin.ext; dsimp only; omega)

/-- A window row: the padded row it sits at. -/
theorem windows_at (T : FVec Ideal S4x4096x512 .f32) (p : Fin 128) (j : Fin 384) (kv : Fin 4) (d : Fin 128) :
    windows T (ix4 p j kv d) = if h : 128 ≤ p.val % 32 * 128 + j.val ∧ p.val % 32 * 128 + j.val < 4224 then
      T (ix3 ⟨p.val / 32, by omega⟩ ⟨p.val % 32 * 128 + j.val - 128, by omega⟩ ⟨kv.val * 128 + d.val, by omega⟩) else 0 := by
  by_cases h : 128 ≤ p.val % 32 * 128 + j.val ∧ p.val % 32 * 128 + j.val < 4224
  · rw [dif_pos h]
    pointwise [windows]
    split_ifs <;> first | omega | (refine congrArg (fun r => T (ix3 _ r _)) (Fin.ext ?_); dsimp only <;> omega)
  · rw [dif_neg h]
    pointwise [windows]
    simp only [pad_zero]
    split_ifs <;> first | omega | rfl

/-- The key windows read in the latent array. -/
theorem keyWin_at (X : FVec Ideal S16384x3072 .bf16) (p : Fin 128) (j : Fin 384) (kv : Fin 4) (d : Fin 128) :
    keyWin X (ix4 p j kv d) = Cert.Att.winRow X p j.val ⟨2048 + (kv.val * 128 + d.val), by omega⟩ := by
  rw [keyWin, windows_at]; unfold Cert.Att.winRow
  split_ifs with h
  · pointwise [lat]
    congr 2; apply Fin.ext; dsimp only; omega
  · rfl

/-- The value windows read in the latent array. -/
theorem valWin_at (X : FVec Ideal S16384x3072 .bf16) (p : Fin 128) (j : Fin 384) (kv : Fin 4) (d : Fin 128) :
    valWin X (ix4 p j kv d) = Cert.Att.winRow X p j.val ⟨2560 + (kv.val * 128 + d.val), by omega⟩ := by
  rw [valWin, windows_at]; unfold Cert.Att.winRow
  split_ifs with h
  · pointwise [lat]
    congr 2; apply Fin.ext; dsimp only; omega
  · rfl

/-- The repeated context keys. -/
theorem keyCtx_at (C : FVec Ideal S1024x3072 .bf16) (p : Fin 128) (j : Fin 256) (kv : Fin 4) (d : Fin 128) :
    keyCtx C (ix4 p j kv d) = Cert.Att.ctxRow C p j ⟨2048 + (kv.val * 128 + d.val), by omega⟩ := by
  unfold Cert.Att.ctxRow
  pointwise [keyCtx, repeated, ctx]

/-- The repeated context values. -/
theorem valCtx_at (C : FVec Ideal S1024x3072 .bf16) (p : Fin 128) (j : Fin 256) (kv : Fin 4) (d : Fin 128) :
    valCtx C (ix4 p j kv d) = Cert.Att.ctxRow C p j ⟨2560 + (kv.val * 128 + d.val), by omega⟩ := by
  unfold Cert.Att.ctxRow
  pointwise [valCtx, repeated, ctx]

theorem scoreWin_at (q : FVec Ideal S128x128x4x4x128 .f32) (k : FVec Ideal S128x384x4x128 .f32) (p i : Fin 128) (kv g : Fin 4)
    (j : Fin 384) : scoreWin q k (ix5 p kv g i j) = Scalar.select (mask (ix3 p i j))
      ((∑ x, k (ix4 p j kv x) * q (ix5 p i kv g x)) * Cert.Att.scale) ⊥ := by
  unfold Cert.Att.scale
  rw [← Cert.Att.ofBits_bot]
  pointwise [scoreWin]
  rfl

theorem scoreCtx_at (q : FVec Ideal S128x128x4x4x128 .f32) (k : FVec Ideal S128x256x4x128 .f32) (p i : Fin 128) (kv g : Fin 4)
    (j : Fin 256) : scoreCtx q k (ix5 p kv g i j) = (∑ x, k (ix4 p j kv x) * q (ix5 p i kv g x)) * Cert.Att.scale := by
  unfold Cert.Att.scale
  pointwise [scoreCtx]

theorem sinks_at (s : FVec Ideal S16 .f32) (p i : Fin 128) (kv g : Fin 4) :
    sinks s (ix5 p kv g i 0) = s (ix1 ⟨kv.val * 4 + g.val, by omega⟩) := by
  pointwise [sinks]

/-- The joined scores. -/
theorem scores_at (w : FVec Ideal S128x4x4x128x384 .f32) (c : FVec Ideal S128x4x4x128x256 .f32) (p i : Fin 128) (kv g : Fin 4)
    (j : Fin 640) : scores w c (ix5 p kv g i j) = if h : j.val < 384 then w (ix5 p kv g i ⟨j.val, h⟩)
      else c (ix5 p kv g i ⟨j.val - 384, by omega⟩) := by
  pointwise [scores]

theorem rowFold_at (S : FVec Ideal S128x4x4x128x640 .f32) (p i : Fin 128) (kv g : Fin 4) :
    rowFold S (ix4 p kv g i) = Finset.fold max (Ideal.ofBits FTy.f32 4286578688#32) (fun x => S (ix5 p kv g i x)) Finset.univ := by
  pointwise [rowFold]

theorem rowSum_at (S : FVec Ideal S128x4x4x128x640 .f32) (p i : Fin 128) (kv g : Fin 4) :
    rowSum S (ix4 p kv g i) = ∑ x, S (ix5 p kv g i x) := by
  pointwise [rowSum]

theorem shift_at (r : FVec Ideal S128x4x4x128 .f32) (s : FVec Ideal S128x4x4x128x1 .f32) (p i : Fin 128) (kv g : Fin 4) :
    shift r s (ix5 p kv g i 0) = max (r (ix4 p kv g i)) (s (ix5 p kv g i 0)) := by
  pointwise [shift]

theorem exps_at (S : FVec Ideal S128x4x4x128x640 .f32) (s : FVec Ideal S128x4x4x128x1 .f32) (p i : Fin 128) (kv g : Fin 4) (j : Fin 640) :
    exps S s (ix5 p kv g i j) = Ideal.exp (S (ix5 p kv g i j) - s (ix5 p kv g i 0)) := by
  pointwise [exps]

theorem total_at (r : FVec Ideal S128x4x4x128 .f32) (s mx : FVec Ideal S128x4x4x128x1 .f32) (p i : Fin 128) (kv g : Fin 4) :
    total r s mx (ix5 p kv g i 0) = r (ix4 p kv g i) + Ideal.exp (s (ix5 p kv g i 0) - mx (ix5 p kv g i 0)) := by
  pointwise [total]

theorem share_at (S : FVec Ideal S128x4x4x128x640 .f32) (s : FVec Ideal S128x4x4x128x1 .f32) (p i : Fin 128) (kv g : Fin 4) (j : Fin 640) :
    share S s (ix5 p kv g i j) = Ideal.div (S (ix5 p kv g i j)) (s (ix5 p kv g i 0)) := by
  pointwise [share]

/-- A weight: the exponential over the normalizer, all from one row of scores and its sink. -/
theorem weights_at (S : FVec Ideal S128x4x4x128x640 .f32) (s : FVec Ideal S128x4x4x128x1 .f32) (p i : Fin 128) (kv g : Fin 4)
    (j : Fin 640) (mx : EReal)
    (hm : mx = max (Finset.fold max (Ideal.ofBits FTy.f32 4286578688#32) (fun x => S (ix5 p kv g i x)) Finset.univ) (s (ix5 p kv g i 0))) :
    weights S s (ix5 p kv g i j) = Ideal.div (Ideal.exp (S (ix5 p kv g i j) - mx))
      (∑ x, Ideal.exp (S (ix5 p kv g i x) - mx) + Ideal.exp (s (ix5 p kv g i 0) - mx)) := by
  rw [weights, share_at, total_at, rowSum_at]
  simp only [exps_at, shift_at, rowFold_at]
  rw [← hm]

theorem weighted_at (w : FVec Ideal S128x4x4x128x640 .f32) (vw : FVec Ideal S128x384x4x128 .f32) (vc : FVec Ideal S128x256x4x128 .f32) (p i : Fin 128) (kv g : Fin 4)
    (d : Fin 128) : weighted w vw vc (ix5 p i kv g d) =
      ∑ x : Fin 384, vw (ix4 p x kv d) * w (ix5 p kv g i ⟨x.val, by omega⟩)
        + ∑ x : Fin 256, vc (ix4 p x kv d) * w (ix5 p kv g i ⟨384 + x.val, by omega⟩) := by
  pointwise [weighted]

theorem result_at (A : FVec Ideal S128x128x4x4x128 .f32) (x : FVec Ideal S16384x2048 .f32) (md : FVec Ideal S4x8x2048 .f32)
    (wo : FVec Ideal S2x2048x2048 .bf16) (r : Fin 16384) (n : Fin 2048) : result A x md wo (ix2 r n) =
      x (ix2 r n) + md (ix3 ⟨r.val / 4096, by omega⟩ 2 n) * ∑ k : Fin 2048,
        A (ix5 ⟨r.val / 128, by omega⟩ ⟨r.val % 128, by omega⟩ ⟨k.val / 512, by omega⟩ ⟨k.val / 128 % 4, by omega⟩ ⟨k.val % 128, by omega⟩)
          * wo (ix3 0 k n) := by
  pointwise [result]

end Cert.ReferenceIdeal.Attn
-- ==== Proof.Attn.Block.lean ====
module

public import proofs.«01_k».proof.Proof.Gen.KernelIdeal.Value
public import Idealize.ShloMosaic.Lib.Pipeline.ValueKit

/-! The attention block that one grid point stores, as one function of its input blocks: sixteen score tiles
    (four rows of 128 queries times four key heads) of one shape, their weighted values side by side, and the
    output product with its gate and residual. -/

@[expose] public section

set_option maxRecDepth 16384

noncomputable section

namespace Cert.KernelIdeal.Attn

open Idealize.ShloMosaic Idealize.ShloMosaic.TcCoe Idealize.SL.Sem
open Idealize.ShloMosaic.Pipeline (Dat)
open Cert.KernelIdeal Cert.KernelIdeal.Gen

/-- The window of 384 rows and 128 columns at offset `(128 sb, 128 kv)` lies in the 768 by 512 key block. -/
theorem sliceW (sb kv : ℕ) (hs : sb < 4) (hk : kv < 4) : S768x512.Slices ![sb * 128, kv * 128] S384x128 :=
  (by decide +kernel : ∀ s k : Fin 4, S768x512.Slices ![s.val * 128, k.val * 128] S384x128) ⟨sb, hs⟩ ⟨kv, hk⟩

/-- Head `g`'s 128 columns lie in the 512 columns of a tile. -/
theorem sliceG (g : ℕ) (hg : g < 4) : S128x512.Slices ![0, g * 128] S128x128 :=
  (by decide +kernel : ∀ k : Fin 4, S128x512.Slices ![0, k.val * 128] S128x128) ⟨g, hg⟩

/-- A query tile's load lies in the query block. -/
theorem inbQ (sb h : ℕ) (hs : sb < 4) (hh : h < 16) :
    ∀ a, (![sb * 128, h * 128] : Fin 2 → Nat) a + S128x128.size a ≤ S512x2048.size a :=
  (by decide +kernel : ∀ s : Fin 4, ∀ k : Fin 16, ∀ a : Fin 2,
    (![s.val * 128, k.val * 128] : Fin 2 → Nat) a + S128x128.size a ≤ S512x2048.size a) ⟨sb, hs⟩ ⟨h, hh⟩

/-- A context tile's load lies in the context block. -/
theorem inbC (kv : ℕ) (hk : kv < 4) :
    ∀ a, (![0, kv * 128] : Fin 2 → Nat) a + S256x128.size a ≤ S256x512.size a :=
  (by decide +kernel : ∀ k : Fin 4, ∀ a : Fin 2,
    (![0, k.val * 128] : Fin 2 → Nat) a + S256x128.size a ≤ S256x512.size a) ⟨kv, hk⟩

/-- A sink entry's load lies in the sink row. -/
theorem inbS (h : ℕ) (hh : h < 16) : ∀ a, (![0, h] : Fin 2 → Nat) a + S1x1.size a ≤ S1x16.size a :=
  (by decide +kernel : ∀ k : Fin 16, ∀ a : Fin 2, (![0, k.val] : Fin 2 → Nat) a + S1x1.size a ≤ S1x16.size a) ⟨h, hh⟩

/-- The mask of a tile whose first query sits at sequence position `t0 + off`: the band and the sequence's two ends
    for the 384 windowed keys, everything for the 256 context keys. -/
def rowMask (t0 off : BitVec 32) : IVec S640x512 1 :=
  have io : IVec S640x512 32 := iota .tc S640x512 32 [0] iota_S640x512_d0_w32
  have kpos : IVec S640x512 32 := addi (broadcast S640x512 (Scalar.subi (Scalar.addi t0 off) 128#32)) io
  ori (cmpi .sge io (broadcast S640x512 384#32))
    (andi (andi k0_pay3 (cmpi .sge kpos (broadcast S640x512 0#32))) (cmpi .slt kpos (broadcast S640x512 4096#32)))

/-- The keys (or values) of a tile: its window's 384 rows over the 256 context rows. -/
def keyTile (K : FVec Ideal S768x512 .bf16) (C : Vec Ideal S256x512 .bf16) (sb kv : ℕ) (hs : sb < 4) (hk : kv < 4) :
    FVec Ideal S640x128 .bf16 :=
  concatenate S640x128 0 [⟨S384x128, extractStridedSlice S384x128 ![sb * 128, kv * 128] K (sliceW sb kv hs hk)⟩,
    ⟨S256x128, View.ld C (Rect.unit ![0, kv * 128] ![256, 128] (inbC kv hk))⟩]
    concatenates_S384x128_S256x128_S640x128_d0

/-- One head's queries of a tile. -/
def qLoad (Q : Vec Ideal S512x2048 .bf16) (sb h : ℕ) (hs : sb < 4) (hh : h < 16) : Vec Ideal S128x128 .bf16 :=
  View.ld Q (Rect.unit ![sb * 128, h * 128] ![128, 128] (inbQ sb h hs hh))

/-- The queries of the four heads of a tile, one under another. -/
def qTile (Q : Vec Ideal S512x2048 .bf16) (sb kv : ℕ) (hs : sb < 4) (hk : kv < 4) : FVec Ideal S512x128 .bf16 :=
  concatenate S512x128 0 (List.ofFn fun n : Fin 4 => ⟨S128x128, qLoad Q sb (kv * 4 + n.val) hs (by omega)⟩)
    concatenates_S128x128_S128x128_S128x128_S128x128_S512x128_d0

/-- One head's sink logit. -/
def sLoad (SK : Vec Ideal S1x16 .f32) (h : ℕ) (hh : h < 16) : Vec Ideal S1x1 .f32 :=
  View.ld SK (Rect.unit ![0, h] ![1, 1] (inbS h hh))

/-- A tile's weighted values over its normalizer, transposed: row = value column, column = (head, query). -/
def headTile (K V : FVec Ideal S768x512 .bf16) (Q : Vec Ideal S512x2048 .bf16) (KC VC : Vec Ideal S256x512 .bf16)
    (SK : Vec Ideal S1x16 .f32) (t0 : BitVec 32) (sb kv : ℕ) (hs : sb < 4) (hk : kv < 4) : FVec Ideal S128x512 .f32 :=
  k0_pay8 (keyTile V VC sb kv hs hk) (rowMask t0 (BitVec.ofNat 32 (sb * 128)))
    (k0_pay6 (sLoad SK (kv * 4) (by omega)) (sLoad SK (kv * 4 + 1) (by omega)) (sLoad SK (kv * 4 + 2) (by omega))
      (sLoad SK (kv * 4 + 3) (by omega)))
    (matmul dot_S640x128_S512x128_S640x512_1_1_0_0_n_n none (keyTile K KC sb kv hs hk) (qTile Q sb kv hs hk)
      (constant S640x512 .f32 0x00000000#32))

/-- One head's part of a tile, turned back to (query, value column). -/
def headOut (K V : FVec Ideal S768x512 .bf16) (Q : Vec Ideal S512x2048 .bf16) (KC VC : Vec Ideal S256x512 .bf16)
    (SK : Vec Ideal S1x16 .f32) (t0 : BitVec 32) (sb kv g : ℕ) (hs : sb < 4) (hk : kv < 4) (hg : g < 4) :
    FVec Ideal S128x128 .bf16 :=
  truncf .bf16 (transpose S128x128 [1, 0] (extractStridedSlice S128x128 ![0, g * 128]
    (headTile K V Q KC VC SK t0 sb kv hs hk) (sliceG g hg)) transposes_S128x128_p1_0_S128x128) bitsLt_bf16_f32

/-- The sixteen heads of 128 query rows side by side. -/
def rowsOut (K V : FVec Ideal S768x512 .bf16) (Q : Vec Ideal S512x2048 .bf16) (KC VC : Vec Ideal S256x512 .bf16)
    (SK : Vec Ideal S1x16 .f32) (t0 : BitVec 32) (sb : ℕ) (hs : sb < 4) : FVec Ideal S128x2048 .bf16 :=
  concatenate S128x2048 1 (List.ofFn fun n : Fin 16 => ⟨S128x128,
      headOut K V Q KC VC SK t0 sb (n.val / 4) (n.val % 4) hs (by omega) (by omega)⟩)
    concatenates_S128x128_S128x128_S128x128_S128x128_S128x128_S128x128_S128x128_S128x128_S128x128_S128x128_S128x128_S128x128_S128x128_S128x128_S128x128_S128x128_S128x2048_d1

/-- The attended rows of a grid point: four blocks of 128 rows. -/
def attended (K V : FVec Ideal S768x512 .bf16) (Q : Vec Ideal S512x2048 .bf16) (KC VC : Vec Ideal S256x512 .bf16)
    (SK : Vec Ideal S1x16 .f32) (t0 : BitVec 32) : FVec Ideal S512x2048 .bf16 :=
  concatenate S512x2048 0 (List.ofFn fun n : Fin 4 => ⟨S128x2048, rowsOut K V Q KC VC SK t0 n.val n.isLt⟩)
    concatenates_S128x2048_S128x2048_S128x2048_S128x2048_S512x2048_d0

/-- The stored block: residual plus gate times the output product. -/
def blockOut (A : FVec Ideal S512x2048 .bf16) (x : Vec Ideal S512x2048 .f32) (md : Vec Ideal S1x1x2048 .f32)
    (wo : Vec Ideal S1x2048x2048 .bf16) : FVec Ideal S512x2048 .f32 :=
  have w : FVec Ideal S2048x2048 .bf16 := shapeCast S2048x2048 wo shapeCasts_S1x2048x2048_S2048x2048
  addf x (mulf (broadcastTo S512x2048 (shapeCast S1x2048 md shapeCasts_S1x1x2048_S1x2048) broadcasts_S1x2048_S512x2048)
    (matmul dot_S512x2048_S2048x2048_S512x2048_1_0_0_1_n_n none A w (constant S512x2048 .f32 0x00000000#32)))

/-- The sequence position of a grid point's first row: `512 i` modulo 4096, with the printed sign correction. -/
def seqStart (i : ℕ) : BitVec 32 :=
  have r := Scalar.remsi (Scalar.muli (BitVec.ofNat 32 i) 512#32) 4096#32
  Scalar.select (Scalar.andi (Scalar.xori (Scalar.cmpi .slt r 0#32) 0#1) (Scalar.cmpi .ne r 0#32))
    (Scalar.addi r 4096#32) r

variable (m : (ℓ : Loc nD τ sig) → Buf (Elt Ideal) ℓ)

/-- The mod row loaded at the end: row 2 of the sample's modulations. -/
theorem inbM : ∀ a, (![0, 2, 0] : Fin 3 → Nat) a + S1x1x2048.size a ≤ S1x8x2048.size a := by decide +kernel

/-- What grid point `t` leaves in the output window. -/
theorem after_eq (c : Dev nD) (t : Fin cfg0.N) : (dats m 0 c).after 13 t =
    blockOut (attended (k0_pay1 (iblk m c 1 t) (iblk m c 2 t) (iblk m c 3 t))
        (k0_pay2 (iblk m c 4 t) (iblk m c 5 t) (iblk m c 6 t)) (X0_0 m c t) (iblk m c 7 t) (iblk m c 8 t) (iblk m c 11 t)
        (seqStart (grid0.coords t 0)))
      (iblk m c 9 t) (View.ld (iblk m c 10 t) (Rect.unit ![0, 2, 0] ![1, 1, 2048] inbM)) (iblk m c 12 t) := by
  rw [after0_13]; unfold outsAt0; frame_out
  rfl

end Cert.KernelIdeal.Attn
-- ==== Proof.Attn.Mask.lean ====
module

public import proofs.«01_k».proof.Proof.Attn.Spec
public import proofs.«01_k».proof.Proof.Attn.Reference
public import proofs.«01_k».proof.Proof.Attn.Block

/-! The two masks as one fact about block, query and window row. -/

@[expose] public section

set_option maxRecDepth 16384

noncomputable section

namespace Cert.Att

open Idealize.ShloMosaic Idealize.ShloMosaic.TcCoe Idealize.SL.Sem

/-- A small integer's word reads back as the integer. -/
theorem toInt_word {z : ℤ} (h : -2147483648 ≤ z) (h' : z < 2147483648) : (BitVec.ofInt 32 z).toInt = z := by
  rw [BitVec.toInt_ofInt]; exact Int.bmod_eq_of_le (by norm_num; omega) (by norm_num; omega)

/-- The word of a difference. -/
theorem ofInt_sub_word (a b : ℤ) : BitVec.ofInt 32 (a - b) = BitVec.ofInt 32 a - BitVec.ofInt 32 b := by
  rw [sub_eq_add_neg, BitVec.ofInt_add, BitVec.ofInt_neg, BitVec.sub_eq_add_neg]

/-- The absolute value of a small integer's word. -/
theorem absi_word {z : ℤ} (h : -1000 ≤ z) (h' : z < 1000) : (IntOp.absi (BitVec.ofInt 32 z)).toInt = |z| := by
  unfold IntOp.absi
  rw [BitVec.msb_eq_toInt, toInt_word (by omega) (by omega), ← BitVec.ofInt_neg]
  by_cases hz : z < 0
  · rw [if_pos (by simpa using hz), toInt_word (by omega) (by omega), abs_of_neg hz]
  · rw [if_neg (by simpa using hz), toInt_word (by omega) (by omega), abs_of_nonneg (by omega)]

/-- The mask's three comparisons of words are `Visible`. -/
theorem mask_word (p i j : ℕ) (hi : i < 128) (hj : j < 640) (P : BitVec 32)
    (hP : P = BitVec.ofInt 32 ((p % 32 * 128 + j : ℕ) - 128 : ℤ)) :
    IntOp.andi (IntOp.andi
      (IntOp.cmpi .sle (IntOp.absi (IntOp.addi (IntOp.subi (BitVec.ofNat 32 i) (BitVec.ofNat 32 j)) 128#32)) 128#32)
      (IntOp.cmpi .sge P 0#32)) (IntOp.cmpi .slt P 4096#32) = BitVec.ofBool (decide (Visible p i j)) := by
  have hw : IntOp.addi (IntOp.subi (BitVec.ofNat 32 i) (BitVec.ofNat 32 j)) 128#32 = BitVec.ofInt 32 ((i : ℤ) - j + 128) := by
    unfold IntOp.addi IntOp.subi
    rw [BitVec.ofInt_add, ofInt_sub_word, BitVec.ofInt_natCast, BitVec.ofInt_natCast]; rfl
  have hr : p % 32 < 32 := Nat.mod_lt _ (by norm_num)
  rw [hw, WordCmp.cmpi_sle_eq, WordCmp.cmpi_sge_eq, WordCmp.cmpi_slt_eq, absi_word (by omega) (by omega), hP,
    toInt_word (by omega) (by omega), WordCmp.andi_ofBool, WordCmp.andi_ofBool]
  congr 1
  rw [← Bool.decide_and, ← Bool.decide_and]
  refine decide_eq_decide.mpr ?_
  rw [show (128#32 : BitVec 32).toInt = 128 from rfl, show (0#32 : BitVec 32).toInt = 0 from rfl,
    show (4096#32 : BitVec 32).toInt = 4096 from rfl, abs_le]
  unfold Visible
  omega

/-- The reference's block number in its sample. -/
theorem blockNo_at : ∀ p : Fin 128, Cert.ReferenceIdeal.Attn.blockNo (ix3 p 0 0) = BitVec.ofNat 32 (p.val % 32) := by
  intro p
  pointwise [Cert.ReferenceIdeal.Attn.blockNo]
  revert p
  decide +kernel

/-- The reference's mask. -/
theorem refMask_at (p i : Fin 128) (j : Fin 384) :
    Cert.ReferenceIdeal.Attn.mask (ix3 p i j) = BitVec.ofBool (decide (Visible p.val i.val j.val)) := by
  refine Eq.trans ?_ (mask_word p.val i.val j.val i.isLt (by omega)
    (IntOp.addi (IntOp.subi (IntOp.muli (Cert.ReferenceIdeal.Attn.blockNo (ix3 p 0 0)) 128#32) 128#32) (BitVec.ofNat 32 j.val)) ?_)
  · pointwise [Cert.ReferenceIdeal.Attn.mask, Cert.ReferenceIdeal.Attn.band, Cert.ReferenceIdeal.Attn.position]
  · rw [blockNo_at]
    unfold IntOp.addi IntOp.subi IntOp.muli
    rw [ofInt_sub_word, BitVec.ofInt_natCast, BitVec.ofNat_add, BitVec.ofNat_mul]
    show _ = _ - 128#32
    simp only [BitVec.sub_eq_add_neg]; ac_rfl

/-- The kernel's first row of a grid point, in its sequence. -/
theorem seqStart_eq : ∀ t : Fin 32, Cert.KernelIdeal.Attn.seqStart t.val = BitVec.ofNat 32 (512 * t.val % 4096) := by
  decide +kernel

/-- The low seven bits of a tile's column are its query's row. -/
theorem low_bits : ∀ n : Fin 512, IntOp.andi (BitVec.ofNat 32 n.val) 127#32 = BitVec.ofNat 32 (n.val % 128) := by
  decide +kernel

/-- The kernel's mask. -/
theorem rowMask_at (t : Fin 32) (sb : Fin 4) (j : Fin 640) (n : Fin 512) :
    Cert.KernelIdeal.Attn.rowMask (Cert.KernelIdeal.Attn.seqStart t.val) (BitVec.ofNat 32 (sb.val * 128)) (ix2 j n)
      = BitVec.ofBool (decide (384 ≤ j.val ∨ Visible (t.val * 4 + sb.val) (n.val % 128) j.val)) := by
  have key := mask_word (t.val * 4 + sb.val) (n.val % 128) j.val (by omega) j.isLt
    (IntOp.addi (Scalar.subi (Scalar.addi (Cert.KernelIdeal.Attn.seqStart t.val) (BitVec.ofNat 32 (sb.val * 128))) 128#32) (BitVec.ofNat 32 j.val)) (by
      rw [seqStart_eq]
      unfold IntOp.addi Scalar.subi Scalar.addi IntOp.subi IntOp.addi
      rw [show (t.val * 4 + sb.val) % 32 * 128 = 512 * t.val % 4096 + sb.val * 128 by omega]
      rw [ofInt_sub_word, BitVec.ofInt_natCast, BitVec.ofNat_add, BitVec.ofNat_add]
      show _ = _ - 128#32
      simp only [BitVec.sub_eq_add_neg]; ac_rfl)
  rw [show BitVec.ofBool (decide (384 ≤ j.val ∨ Visible (t.val * 4 + sb.val) (n.val % 128) j.val))
      = IntOp.ori (IntOp.cmpi .sge (BitVec.ofNat 32 j.val) 384#32)
        (BitVec.ofBool (decide (Visible (t.val * 4 + sb.val) (n.val % 128) j.val))) by
    rw [WordCmp.cmpi_sge_eq, WordCmp.toInt_ofNat_of_lt (a := j.val) (by norm_num; omega), WordCmp.ori_ofBool, ← Bool.decide_or]
    congr 1
    refine decide_eq_decide.mpr ?_
    rw [show (384#32 : BitVec 32).toInt = 384 from rfl]
    omega, ← key, ← low_bits]
  pointwise [Cert.KernelIdeal.Attn.rowMask, Cert.KernelIdeal.Gen.k0_pay3]

end Cert.Att
-- ==== Proof.Attn.ReferenceValue.lean ====
module

public import proofs.«01_k».proof.Proof.Attn.ReferenceRead
public import proofs.«01_k».proof.Proof.Attn.Mask

/-! The attention reference's result is the layer's entry at every row and column, for finite scores. -/

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen

/-- A real number among the extended reals. -/
def IsReal (x : EReal) : Prop := ∃ r : ℝ, x = (r : EReal)

theorem IsReal.lt_top {x : EReal} (h : IsReal x) : x < ⊤ := by
  obtain ⟨r, rfl⟩ := h; exact EReal.coe_lt_top r

theorem IsReal.bot_lt {x : EReal} (h : IsReal x) : ⊥ < x := by
  obtain ⟨r, rfl⟩ := h; exact EReal.bot_lt_coe r

theorem isReal_zero : IsReal 0 := ⟨0, rfl⟩

theorem IsReal.mul {x y : EReal} (hx : IsReal x) (hy : IsReal y) : IsReal (x * y) := by
  obtain ⟨a, rfl⟩ := hx; obtain ⟨b, rfl⟩ := hy; exact ⟨a * b, by rw [EReal.coe_mul]⟩

theorem isReal_sum {J : Type} [Fintype J] (f : J → EReal) (h : ∀ j, IsReal (f j)) : IsReal (∑ j, f j) := by
  classical
  induction (Finset.univ : Finset J) using Finset.induction_on with
  | empty => exact ⟨0, rfl⟩
  | insert a t ha ih =>
    rw [Finset.sum_insert ha]
    obtain ⟨u, hu⟩ := h a
    obtain ⟨v, hv⟩ := ih
    exact ⟨u + v, by rw [hu, hv, EReal.coe_add]⟩

/-- Every query and key entry is a real number and no sink logit is plus infinity. -/
structure FiniteScores (X : FVec Ideal S16384x3072 .bf16) (C : FVec Ideal S1024x3072 .bf16) (s : FVec Ideal S16 .f32) : Prop where
  lat : ∀ (r : Fin 16384) (n : Fin 3072), n.val < 2560 → IsReal (X (ix2 r n))
  ctx : ∀ (r : Fin 1024) (n : Fin 3072), 2048 ≤ n.val → n.val < 2560 → IsReal (C (ix2 r n))
  sink : ∀ n : Fin 16, s (ix1 n) < ⊤

variable {X : FVec Ideal S16384x3072 .bf16} {C : FVec Ideal S1024x3072 .bf16} {s : FVec Ideal S16 .f32}

theorem FiniteScores.query (H : FiniteScores X C s) (p i : Fin 128) (h : Fin 16) (d : Fin 128) : IsReal (Cert.Att.query X p i h d) :=
  H.lat _ _ (by dsimp only; omega)

theorem FiniteScores.winRow (H : FiniteScores X C s) (p : Fin 128) (j : ℕ) (n : Fin 3072) (hn : n.val < 2560) :
    IsReal (Cert.Att.winRow X p j n) := by
  unfold Cert.Att.winRow
  split_ifs
  · exact H.lat _ _ hn
  · exact isReal_zero

/-- A context score is a real number. -/
theorem FiniteScores.ctxScore (H : FiniteScores X C s) (p i : Fin 128) (h : Fin 16) (j : Fin 640) (hj : ¬j.val < 384) :
    IsReal (Cert.Att.score X C p i h j) := by
  unfold Cert.Att.score
  rw [dif_neg hj]
  exact (isReal_sum _ fun x => (H.ctx _ _ (by dsimp only; omega) (by dsimp only; omega)).mul (H.query _ _ _ _)).mul Cert.Att.scale_real

/-- No score is plus infinity. -/
theorem FiniteScores.score_lt (H : FiniteScores X C s) (p i : Fin 128) (h : Fin 16) (j : Fin 640) :
    Cert.Att.score X C p i h j < ⊤ := by
  by_cases hj : j.val < 384
  · unfold Cert.Att.score
    rw [dif_pos hj]
    split_ifs
    · exact ((isReal_sum _ fun x => (H.winRow _ _ _ (by dsimp only; omega)).mul (H.query _ _ _ _)).mul Cert.Att.scale_real).lt_top
    · exact bot_lt_top
  · exact (H.ctxScore p i h j hj).lt_top

/-- All scores of the reference. -/
theorem scores_eq (p i : Fin 128) (kv g : Fin 4) (j : Fin 640) :
    scores (scoreWin (queries X) (keyWin X)) (scoreCtx (queries X) (keyCtx C)) (ix5 p kv g i j)
      = Cert.Att.score X C p i ⟨kv.val * 4 + g.val, by omega⟩ j := by
  have hh : (kv.val * 4 + g.val) / 4 = kv.val := by omega
  rw [scores_at]
  unfold Cert.Att.score
  by_cases hj : j.val < 384
  · rw [dif_pos hj, dif_pos hj, scoreWin_at, Cert.Att.refMask_at]
    dsimp only
    by_cases hv : Cert.Att.Visible p.val i.val j.val
    · rw [if_pos hv, decide_eq_true hv]
      show (∑ x : Fin 128, _) * _ = _
      simp only [keyWin_at, queries_at, hh]
    · rw [if_neg hv, decide_eq_false hv]
      rfl
  · rw [dif_neg hj, dif_neg hj, scoreCtx_at]
    simp only [keyCtx_at, queries_at, hh]

/-- The reference's attended entry. -/
theorem attended_eq (H : FiniteScores X C s) (p i : Fin 128) (kv g : Fin 4) (d : Fin 128) :
    weighted (weights (scores (scoreWin (queries X) (keyWin X)) (scoreCtx (queries X) (keyCtx C))) (sinks s)) (valWin X) (valCtx C)
        (ix5 p i kv g d)
      = Cert.Att.att (Cert.Att.score X C p i ⟨kv.val * 4 + g.val, by omega⟩) (s (ix1 ⟨kv.val * 4 + g.val, by omega⟩))
        (Cert.Att.value X C p ⟨kv.val * 4 + g.val, by omega⟩ d) := by
  have hh : (kv.val * 4 + g.val) / 4 = kv.val := by omega
  have hw : ∀ j : Fin 640, weights (scores (scoreWin (queries X) (keyWin X)) (scoreCtx (queries X) (keyCtx C))) (sinks s) (ix5 p kv g i j)
      = Ideal.div (Ideal.exp (Cert.Att.score X C p i ⟨kv.val * 4 + g.val, by omega⟩ j
          - Cert.Att.shiftOf (Cert.Att.score X C p i ⟨kv.val * 4 + g.val, by omega⟩) (s (ix1 ⟨kv.val * 4 + g.val, by omega⟩))))
        (Cert.Att.normOf (Cert.Att.score X C p i ⟨kv.val * 4 + g.val, by omega⟩) (s (ix1 ⟨kv.val * 4 + g.val, by omega⟩))) := by
    intro j
    rw [weights_at _ _ p i kv g j _ rfl]
    simp only [scores_eq, sinks_at, Cert.Att.ofBits_bot]
    rfl
  rw [weighted_at]
  simp only [hw, valWin_at, valCtx_at]
  rw [← Cert.Att.sum_div_eq_att _ _ (H.score_lt p i _) (H.sink _) ⟨384, by omega⟩ (H.ctxScore p i _ _ (by dsimp only; omega)).bot_lt
    (Cert.Att.value X C p ⟨kv.val * 4 + g.val, by omega⟩ d) _ (fun j => Or.inl rfl), ← Cert.Att.sum_split]
  congr 1
  · refine Finset.sum_congr rfl fun j _ => ?_
    rw [Cert.Att.value, dif_pos (by dsimp only; omega)]
    simp only [hh]
  · refine Finset.sum_congr rfl fun j _ => ?_
    rw [Cert.Att.value, dif_neg (by dsimp only; omega)]
    simp only [hh, Nat.add_sub_cancel_left]

/-- The reference's result at a row and a column. -/
theorem whole_at (H : FiniteScores X C s) (x : FVec Ideal S16384x2048 .f32) (md : FVec Ideal S4x8x2048 .f32)
    (wo : FVec Ideal S2x2048x2048 .bf16) (r : Fin 16384) (n : Fin 2048) :
    whole X C x md s wo (ix2 r n) = Cert.Att.layerAt X C x md s wo r n := by
  unfold whole
  rw [result_at]
  unfold Cert.Att.layerAt
  congr 2
  refine Finset.sum_congr rfl fun k _ => ?_
  rw [attended_eq H]
  have e4 : (⟨k.val / 512 * 4 + k.val / 128 % 4, by omega⟩ : Fin 16) = ⟨k.val / 128, by omega⟩ := Fin.ext (by dsimp only; omega)
  dsimp only
  rw [e4]
  rfl

/-- The reference's result as an array. -/
theorem whole_eq (H : FiniteScores X C s) (x : FVec Ideal S16384x2048 .f32) (md : FVec Ideal S4x8x2048 .f32)
    (wo : FVec Ideal S2x2048x2048 .bf16) :
    whole X C x md s wo = fun y : S16384x2048.Idx => Cert.Att.layerAt X C x md s wo (y 0) (y 1) := by
  funext y
  idx_vars y
  exact whole_at H x md wo y0 y1

end Cert.ReferenceIdeal.Attn
-- ==== Proof.Attn.Precondition.lean ====
module

public import proofs.«01_k».proof.Defs
public import proofs.«01_k».proof.Proof.Gen.Pre_finite_scores
public import proofs.«01_k».proof.Proof.Attn.ReferenceValue
public import Idealize.ShloMosaic.Lib.ReduceAll

/-! The precondition of the attention claim, read element by element. -/

@[expose] public section

noncomputable section

namespace Cert.Att

open Idealize.ShloMosaic Idealize.SL.Sem
open Cert.Pre_finite_scores Cert.Pre_finite_scores.Facts

/-- The word of plus infinity. -/
theorem ofBits_top : Ideal.ofBits .f32 0x7F800000#32 = (⊤ : EReal) := by
  simp [Ideal.ofBits, Ideal.ieee]

/-- Two bits whose conjunction is one are both one. -/
theorem both_of_and {a b : BitVec 1} (h : IntOp.andi a b = 1#1) : a = 1#1 ∧ b = 1#1 := by
  revert a b; decide

/-- An ordered less-than that answers one is a less-than. -/
theorem lt_of_cmp {x y : EReal} (h : Ideal.cmp .olt x y = 1#1) : x < y := by
  by_contra hn
  have : Ideal.cmp .olt x y = 0#1 := by simp [Ideal.cmp, hn]
  rw [this] at h
  exact absurd h (by decide)

/-- An extended real whose magnitude is below plus infinity is a real number. -/
theorem isReal_of_abs {x : EReal} (h : max x (-x) < ⊤) : Cert.ReferenceIdeal.Attn.IsReal x := by
  induction x with
  | bot => simp at h
  | coe r => exact ⟨r, rfl⟩
  | top => simp at h

instance : Subsingleton S_.Idx := ⟨fun a b => funext fun d => d.elim0⟩

section
variable [Cert.Pre_finite_scores.Facts]

/-- The precondition makes every query, key and value of the latents, every key and value of the context
    and every sink finite in the sense the attention needs. -/
theorem finiteScores (X : FVec Ideal S16384x3072 .bf16) (C : FVec Ideal S1024x3072 .bf16) (x : FVec Ideal S16384x2048 .f32)
    (md : FVec Ideal S4x8x2048 .f32) (s : FVec Ideal S16 .f32) (wo : FVec Ideal S2x2048x2048 .bf16)
    (h : Cert.Pre_finite_scores.fn X C x md s wo = fun _ => 1#1) : Cert.ReferenceIdeal.Attn.FiniteScores X C s := by
  have h0 := congrFun h (fun d => d.elim0)
  unfold Cert.Pre_finite_scores.fn at h0
  dsimp only at h0
  obtain ⟨h12, h15⟩ := both_of_and h0
  obtain ⟨h5, h11⟩ := both_of_and h12
  refine ⟨fun r n hn => ?_, fun r n h1 h2 => ?_, fun n => ?_⟩
  · have e := lt_of_cmp (Host.reduce_andi_all _ _ _ _ _ h5 (ix2 r ⟨n.val, hn⟩))
    have e' : max (X (ix2 r n)) (-X (ix2 r n)) < Ideal.ofBits .f32 0x7F800000#32 := by
      have i0 : extractStridedSlice S16384x2560 ![0, 0] X slices_S16384x3072_S16384x2560_0_0 (ix2 r ⟨n.val, hn⟩) = X (ix2 r n) := by
        pointwise
      rw [← i0]
      exact e
    rw [ofBits_top] at e'
    exact isReal_of_abs e'
  · have e := lt_of_cmp (Host.reduce_andi_all _ _ _ _ _ h11 (ix2 r ⟨n.val - 2048, by omega⟩))
    have e' : max (C (ix2 r n)) (-C (ix2 r n)) < Ideal.ofBits .f32 0x7F800000#32 := by
      have i0 : extractStridedSlice S1024x512 ![0, 2048] C slices_S1024x3072_S1024x512_0_2048 (ix2 r ⟨n.val - 2048, by omega⟩)
          = C (ix2 r n) := by
        pointwise
        exact congrArg (fun k => C (ix2 r k)) (Fin.ext (by dsimp only; omega))
      rw [← i0]
      exact e
    rw [ofBits_top] at e'
    exact isReal_of_abs e'
  · have e := lt_of_cmp (Host.reduce_andi_all _ _ _ _ _ h15 (ix1 n))
    have e' : s (ix1 n) < Ideal.ofBits .f32 0x7F800000#32 := e
    rwa [ofBits_top] at e'

end

end Cert.Att
-- ==== Proof.Attn.Read.lean ====
module

public import proofs.«01_k».proof.Proof.Attn.Block
public import proofs.«01_k».proof.Proof.Attn.Spec

/-! The attention block read at one row and one column. -/

@[expose] public section

set_option maxRecDepth 16384

noncomputable section

namespace Cert.KernelIdeal.Attn

open Idealize.ShloMosaic Idealize.ShloMosaic.TcCoe Idealize.SL.Sem
open Cert.KernelIdeal Cert.KernelIdeal.Gen

variable (K V : FVec Ideal S768x512 .bf16) (Q : Vec Ideal S512x2048 .bf16) (KC VC : Vec Ideal S256x512 .bf16)
    (SK : Vec Ideal S1x16 .f32) (t0 : BitVec 32)

/-- The attended rows at row `128 sb + i` and column `d` of head `4 kv + g`: the tile at `(d, 128 g + i)`. -/
theorem attended_at (sb kv g : Fin 4) (i d : Fin 128) :
    attended K V Q KC VC SK t0 (ix2 ⟨sb.val * 128 + i.val, by omega⟩ ⟨(kv.val * 4 + g.val) * 128 + d.val, by omega⟩)
      = headTile K V Q KC VC SK t0 sb.val kv.val sb.isLt kv.isLt (ix2 d ⟨g.val * 128 + i.val, by omega⟩) := by
  refine (concatenate_ofFn_apply (t := S512x2048) (0 : Fin 2) (s₁ := S128x2048) (fun n : Fin 4 => rowsOut K V Q KC VC SK t0 n.val n.isLt) _ rfl 128 rfl
    (ix2 ⟨sb.val * 128 + i.val, by omega⟩ ⟨(kv.val * 4 + g.val) * 128 + d.val, by omega⟩) sb
    (by show (sb.val * 128 + i.val) / 128 = sb.val; omega) (ix2 i ⟨(kv.val * 4 + g.val) * 128 + d.val, by omega⟩)
    (by show i.val = (sb.val * 128 + i.val) % 128; omega) (by
      intro b hb; fin_cases b
      · exact absurd rfl hb
      · rfl)).trans ?_
  refine (concatenate_ofFn_apply (t := S128x2048) (1 : Fin 2) (s₁ := S128x128) (fun n : Fin 16 => headOut K V Q KC VC SK t0 sb.val (n.val / 4) (n.val % 4) sb.isLt
    (by omega) (by omega)) _ rfl 128 rfl (ix2 i ⟨(kv.val * 4 + g.val) * 128 + d.val, by omega⟩) ⟨kv.val * 4 + g.val, by omega⟩
    (by show ((kv.val * 4 + g.val) * 128 + d.val) / 128 = kv.val * 4 + g.val; omega) (ix2 i d)
    (by show d.val = ((kv.val * 4 + g.val) * 128 + d.val) % 128; omega) (by
      intro b hb; fin_cases b
      · rfl
      · exact absurd rfl hb)).trans ?_
  have h1 : (kv.val * 4 + g.val) / 4 = kv.val := by omega
  have h2 : (kv.val * 4 + g.val) % 4 = g.val := by omega
  simp only [h1, h2]
  pointwise [headOut]

theorem qTile_at (sb kv g : Fin 4) (i d : Fin 128) :
    qTile Q sb.val kv.val sb.isLt kv.isLt (ix2 ⟨g.val * 128 + i.val, by omega⟩ d)
      = Q (ix2 ⟨sb.val * 128 + i.val, by omega⟩ ⟨(kv.val * 4 + g.val) * 128 + d.val, by omega⟩) := by
  refine (concatenate_ofFn_apply (t := S512x128) (0 : Fin 2) (s₁ := S128x128) (fun n : Fin 4 => qLoad Q sb.val (kv.val * 4 + n.val) sb.isLt (by omega)) _ rfl 128 rfl
    (ix2 ⟨g.val * 128 + i.val, by omega⟩ d) g
    (by show (g.val * 128 + i.val) / 128 = g.val; omega) (ix2 i d)
    (by show i.val = (g.val * 128 + i.val) % 128; omega) (by
      intro b hb; fin_cases b
      · exact absurd rfl hb
      · rfl)).trans ?_
  pointwise [qLoad]

theorem keyTile_at (sb kv : Fin 4) (j : Fin 640) (d : Fin 128) :
    keyTile K KC sb.val kv.val sb.isLt kv.isLt (ix2 j d)
      = if h : j.val < 384 then K (ix2 ⟨sb.val * 128 + j.val, by omega⟩ ⟨kv.val * 128 + d.val, by omega⟩)
        else KC (ix2 ⟨j.val - 384, by omega⟩ ⟨kv.val * 128 + d.val, by omega⟩) := by
  pointwise [keyTile]

theorem sink_at (kv g : Fin 4) (i : Fin 128) :
    k0_pay6 (sLoad SK (kv.val * 4) (by omega)) (sLoad SK (kv.val * 4 + 1) (by omega)) (sLoad SK (kv.val * 4 + 2) (by omega))
      (sLoad SK (kv.val * 4 + 3) (by omega)) (ix2 0 ⟨g.val * 128 + i.val, by omega⟩) = SK (ix2 0 ⟨kv.val * 4 + g.val, by omega⟩) := by
  pointwise [k0_pay6, sLoad]
  split_ifs <;> first | omega | (refine congrArg (fun r => SK (ix2 0 r)) (Fin.ext ?_); dsimp only <;> omega)

/-- A tile entry: attention of one query over the tile's 640 rows. -/
theorem pay8_at (v : FVec Ideal S640x128 .bf16) (mk : IVec S640x512 1) (sk : FVec Ideal S1x512 .f32) (s : FVec Ideal S640x512 .f32)
    (d : Fin 128) (n : Fin 512) : k0_pay8 v mk sk s (ix2 d n) =
      Cert.Att.att (fun x => Scalar.select (mk (ix2 x n)) (s (ix2 x n) * Cert.Att.scale) ⊥) (sk (ix2 0 n)) (fun x => v (ix2 x d)) := by
  unfold Cert.Att.att Cert.Att.normOf Cert.Att.shiftOf Cert.Att.scale
  rw [← Cert.Att.ofBits_bot]
  pointwise [k0_pay8]

end Cert.KernelIdeal.Attn
-- ==== Proof.Attn.Windows.lean ====
module

public import proofs.«01_k».proof.Proof.Attn.Block

/-! What each input block of a grid point holds, in coordinates of its array. -/

@[expose] public section

set_option maxRecDepth 16384

noncomputable section

namespace Cert.KernelIdeal.Attn

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The block every window sits at, at every grid point. -/
theorem idx : ∀ t : Fin cfg0.N, win0_0.index t = ![t.val, 0] ∧ win0_1.index t = ![4 * t.val - 1, 4] ∧ win0_2.index t = ![t.val, 4]
    ∧ win0_3.index t = ![min (4 * t.val + 4) 127, 4] ∧ win0_4.index t = ![4 * t.val - 1, 5] ∧ win0_5.index t = ![t.val, 5]
    ∧ win0_6.index t = ![min (4 * t.val + 4) 127, 5] ∧ win0_7.index t = ![t.val / 8, 4] ∧ win0_8.index t = ![t.val / 8, 5]
    ∧ win0_9.index t = ![t.val, 0] ∧ win0_10.index t = ![t.val / 8, 0, 0] ∧ win0_11.index t = ![0, 0]
    ∧ win0_12.index t = ![0, 0, 0] ∧ win0_13.index t = ![t.val, 0] :=
  (by decide +kernel : ∀ t : Fin grid0.N, _)

/-- There are 32 grid points. -/
theorem lt32 (t : Fin cfg0.N) : t.val < 32 := t.isLt

/-- The one grid coordinate is the point's number. -/
theorem coord : ∀ t : Fin cfg0.N, (grid0.coords t 0).val = t.val := (by decide +kernel : ∀ t : Fin grid0.N, _)

/-- The latent array of the run. -/
abbrev arr0 (c : Dev nD) : FVec Ideal S16384x3072 .bf16 := m ((c : Thread nD τ).loc main_arg0)
/-- The context array. -/
abbrev arr1 (c : Dev nD) : FVec Ideal S1024x3072 .bf16 := m ((c : Thread nD τ).loc main_arg1)
/-- The residual stream. -/
abbrev arr2 (c : Dev nD) : FVec Ideal S16384x2048 .f32 := m ((c : Thread nD τ).loc main_arg2)
/-- The modulations. -/
abbrev arr3 (c : Dev nD) : FVec Ideal S4x8x2048 .f32 := m ((c : Thread nD τ).loc main_arg3)
/-- The sink logits. -/
abbrev arr4 (c : Dev nD) : FVec Ideal S16 .f32 := m ((c : Thread nD τ).loc main_arg4)
/-- The output weights. -/
abbrev arr5 (c : Dev nD) : FVec Ideal S2x2048x2048 .bf16 := m ((c : Thread nD τ).loc main_arg5)

/-- The key window before the block. -/
theorem read1 (c : Dev nD) (t : Fin cfg0.N) (r : Fin 128) (n : Fin 512) :
    (iblk m c 1 t : Vec Ideal S128x512 .bf16) (ix2 r n)
      = arr0 m c (ix2 ⟨(4 * t.val - 1) * 128 + r.val, by have := lt32 t; omega⟩ ⟨2048 + n.val, by omega⟩) := by
  blk_ext [iblk, V, idx t]

/-- The key window of the block. -/
theorem read2 (c : Dev nD) (t : Fin cfg0.N) (r : Fin 512) (n : Fin 512) :
    (iblk m c 2 t : Vec Ideal S512x512 .bf16) (ix2 r n)
      = arr0 m c (ix2 ⟨t.val * 512 + r.val, by have := lt32 t; omega⟩ ⟨2048 + n.val, by omega⟩) := by
  blk_ext [iblk, V, idx t]

/-- The key window after the block. -/
theorem read3 (c : Dev nD) (t : Fin cfg0.N) (r : Fin 128) (n : Fin 512) :
    (iblk m c 3 t : Vec Ideal S128x512 .bf16) (ix2 r n)
      = arr0 m c (ix2 ⟨min (4 * t.val + 4) 127 * 128 + r.val, by have := lt32 t; omega⟩ ⟨2048 + n.val, by omega⟩) := by
  blk_ext [iblk, V, idx t]

/-- The value window before the block. -/
theorem read4 (c : Dev nD) (t : Fin cfg0.N) (r : Fin 128) (n : Fin 512) :
    (iblk m c 4 t : Vec Ideal S128x512 .bf16) (ix2 r n)
      = arr0 m c (ix2 ⟨(4 * t.val - 1) * 128 + r.val, by have := lt32 t; omega⟩ ⟨2560 + n.val, by omega⟩) := by
  blk_ext [iblk, V, idx t]

/-- The value window of the block. -/
theorem read5 (c : Dev nD) (t : Fin cfg0.N) (r : Fin 512) (n : Fin 512) :
    (iblk m c 5 t : Vec Ideal S512x512 .bf16) (ix2 r n)
      = arr0 m c (ix2 ⟨t.val * 512 + r.val, by have := lt32 t; omega⟩ ⟨2560 + n.val, by omega⟩) := by
  blk_ext [iblk, V, idx t]

/-- The value window after the block. -/
theorem read6 (c : Dev nD) (t : Fin cfg0.N) (r : Fin 128) (n : Fin 512) :
    (iblk m c 6 t : Vec Ideal S128x512 .bf16) (ix2 r n)
      = arr0 m c (ix2 ⟨min (4 * t.val + 4) 127 * 128 + r.val, by have := lt32 t; omega⟩ ⟨2560 + n.val, by omega⟩) := by
  blk_ext [iblk, V, idx t]

/-- The context keys of the sample. -/
theorem read7 (c : Dev nD) (t : Fin cfg0.N) (r : Fin 256) (n : Fin 512) :
    (iblk m c 7 t : Vec Ideal S256x512 .bf16) (ix2 r n)
      = arr1 m c (ix2 ⟨t.val / 8 * 256 + r.val, by have := lt32 t; omega⟩ ⟨2048 + n.val, by omega⟩) := by
  blk_ext [iblk, V, idx t]

/-- The context values of the sample. -/
theorem read8 (c : Dev nD) (t : Fin cfg0.N) (r : Fin 256) (n : Fin 512) :
    (iblk m c 8 t : Vec Ideal S256x512 .bf16) (ix2 r n)
      = arr1 m c (ix2 ⟨t.val / 8 * 256 + r.val, by have := lt32 t; omega⟩ ⟨2560 + n.val, by omega⟩) := by
  blk_ext [iblk, V, idx t]

/-- The residual rows. -/
theorem read9 (c : Dev nD) (t : Fin cfg0.N) (r : Fin 512) (n : Fin 2048) :
    (iblk m c 9 t : Vec Ideal S512x2048 .f32) (ix2 r n) = arr2 m c (ix2 ⟨t.val * 512 + r.val, by have := lt32 t; omega⟩ n) := by
  blk_ext [iblk, V, idx t]

/-- The sample's modulations. -/
theorem read10 (c : Dev nD) (t : Fin cfg0.N) (r : Fin 8) (n : Fin 2048) :
    (iblk m c 10 t : Vec Ideal S1x8x2048 .f32) (ix3 0 r n) = arr3 m c (ix3 ⟨t.val / 8, by have := lt32 t; omega⟩ r n) := by
  blk_ext [iblk, V, idx t]

/-- The output weights of the first of two layers. -/
theorem read12 (c : Dev nD) (t : Fin cfg0.N) (r : Fin 2048) (n : Fin 2048) :
    (iblk m c 12 t : Vec Ideal S1x2048x2048 .bf16) (ix3 0 r n) = arr5 m c (ix3 0 r n) := by
  blk_ext [iblk, V, idx t]

/-- The sink row. -/
theorem read11 (c : Dev nD) (t : Fin cfg0.N) (n : Fin 16) :
    (iblk m c 11 t : Vec Ideal S1x16 .f32) (ix2 0 n) = arr4 m c (ix1 n) := by
  blk_simp [iblk, idx t]
  entry_read
  pointwise
  blk_ext [idx t]

/-- The query rows. -/
theorem read0 (c : Dev nD) (t : Fin cfg0.N) (r : Fin 512) (n : Fin 2048) :
    (X0_0 m c t : Vec Ideal S512x2048 .bf16) (ix2 r n)
      = arr0 m c (ix2 ⟨t.val * 512 + r.val, by have := lt32 t; omega⟩ ⟨n.val, by omega⟩) := by
  unfold X0_0 Pipeline.Window.fill
  rw [dif_pos (moved0_0 t _)]
  blk_ext [iblk, V, idx t]

end Cert.KernelIdeal.Attn
-- ==== Proof.Attn.Kernel.lean ====
module

public import proofs.«01_k».proof.Proof.Attn.Read
public import proofs.«01_k».proof.Proof.Attn.Windows
public import proofs.«01_k».proof.Proof.Attn.Mask

/-! The attention kernel's result array is the layer's entry at every row and column. -/

@[expose] public section

set_option maxRecDepth 16384

noncomputable section

namespace Cert.KernelIdeal.Attn

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The 768 key rows of a grid point. -/
def keys (c : Dev nD) (t : Fin cfg0.N) : FVec Ideal S768x512 .bf16 := k0_pay1 (iblk m c 1 t) (iblk m c 2 t) (iblk m c 3 t)
/-- The 768 value rows of a grid point. -/
def vals (c : Dev nD) (t : Fin cfg0.N) : FVec Ideal S768x512 .bf16 := k0_pay2 (iblk m c 4 t) (iblk m c 5 t) (iblk m c 6 t)

/-- A key row inside the sequence. -/
theorem keys_at (c : Dev nD) (t : Fin cfg0.N) (r : Fin 768) (n : Fin 512)
    (h : 128 ≤ 4 * t.val % 32 * 128 + r.val ∧ 4 * t.val % 32 * 128 + r.val < 4224) :
    keys m c t (ix2 r n) = arr0 m c (ix2 ⟨t.val * 512 + r.val - 128, by have := lt32 t; omega⟩ ⟨2048 + n.val, by omega⟩) := by
  have ht := lt32 t
  unfold keys
  pointwise [k0_pay1]
  simp only [read1, read2, read3]
  split_ifs <;> (refine congrArg (fun r => arr0 m c (ix2 r _)) (Fin.ext ?_); dsimp only <;> omega)

/-- A value row inside the sequence. -/
theorem vals_at (c : Dev nD) (t : Fin cfg0.N) (r : Fin 768) (n : Fin 512)
    (h : 128 ≤ 4 * t.val % 32 * 128 + r.val ∧ 4 * t.val % 32 * 128 + r.val < 4224) :
    vals m c t (ix2 r n) = arr0 m c (ix2 ⟨t.val * 512 + r.val - 128, by have := lt32 t; omega⟩ ⟨2560 + n.val, by omega⟩) := by
  have ht := lt32 t
  unfold vals
  pointwise [k0_pay2]
  simp only [read4, read5, read6]
  split_ifs <;> (refine congrArg (fun r => arr0 m c (ix2 r _)) (Fin.ext ?_); dsimp only <;> omega)

/-- The block of 128 rows a tile belongs to. -/
abbrev blockOf (t : Fin cfg0.N) (sb : Fin 4) : Fin 128 := ⟨t.val * 4 + sb.val, by have := lt32 t; omega⟩

/-- The head of a key head and a group. -/
abbrev headOf (kv g : Fin 4) : Fin 16 := ⟨kv.val * 4 + g.val, by omega⟩

/-- A window row of a tile's keys. -/
theorem keyTile_win (c : Dev nD) (t : Fin cfg0.N) (sb kv : Fin 4) (j : Fin 640) (d : Fin 128) (hj : j.val < 384)
    (h : 128 ≤ (t.val * 4 + sb.val) % 32 * 128 + j.val ∧ (t.val * 4 + sb.val) % 32 * 128 + j.val < 4224) :
    keyTile (keys m c t) (iblk m c 7 t) sb.val kv.val sb.isLt kv.isLt (ix2 j d)
      = Cert.Att.winRow (arr0 m c) (blockOf t sb) j.val ⟨2048 + (kv.val * 128 + d.val), by omega⟩ := by
  have ht := lt32 t
  rw [keyTile_at, dif_pos hj, keys_at m c t _ _ (by dsimp only; omega), Cert.Att.winRow, dif_pos (by dsimp only; exact h)]
  refine congrArg (fun r => arr0 m c (ix2 r _)) (Fin.ext ?_); dsimp only; omega

/-- A window row of a tile's values. -/
theorem valTile_win (c : Dev nD) (t : Fin cfg0.N) (sb kv : Fin 4) (j : Fin 640) (d : Fin 128) (hj : j.val < 384)
    (h : 128 ≤ (t.val * 4 + sb.val) % 32 * 128 + j.val ∧ (t.val * 4 + sb.val) % 32 * 128 + j.val < 4224) :
    keyTile (vals m c t) (iblk m c 8 t) sb.val kv.val sb.isLt kv.isLt (ix2 j d)
      = Cert.Att.winRow (arr0 m c) (blockOf t sb) j.val ⟨2560 + (kv.val * 128 + d.val), by omega⟩ := by
  have ht := lt32 t
  rw [keyTile_at, dif_pos hj, vals_at m c t _ _ (by dsimp only; omega), Cert.Att.winRow, dif_pos (by dsimp only; exact h)]
  refine congrArg (fun r => arr0 m c (ix2 r _)) (Fin.ext ?_); dsimp only; omega

/-- A context row of a tile's keys. -/
theorem keyTile_ctx (c : Dev nD) (t : Fin cfg0.N) (sb kv : Fin 4) (j : Fin 640) (d : Fin 128) (hj : ¬j.val < 384) :
    keyTile (keys m c t) (iblk m c 7 t) sb.val kv.val sb.isLt kv.isLt (ix2 j d)
      = Cert.Att.ctxRow (arr1 m c) (blockOf t sb) ⟨j.val - 384, by omega⟩ ⟨2048 + (kv.val * 128 + d.val), by omega⟩ := by
  have ht := lt32 t
  rw [keyTile_at, dif_neg hj, read7, Cert.Att.ctxRow]
  refine congrArg (fun r => arr1 m c (ix2 r _)) (Fin.ext ?_); dsimp only; omega

/-- A context row of a tile's values. -/
theorem valTile_ctx (c : Dev nD) (t : Fin cfg0.N) (sb kv : Fin 4) (j : Fin 640) (d : Fin 128) (hj : ¬j.val < 384) :
    keyTile (vals m c t) (iblk m c 8 t) sb.val kv.val sb.isLt kv.isLt (ix2 j d)
      = Cert.Att.ctxRow (arr1 m c) (blockOf t sb) ⟨j.val - 384, by omega⟩ ⟨2560 + (kv.val * 128 + d.val), by omega⟩ := by
  have ht := lt32 t
  rw [keyTile_at, dif_neg hj, read8, Cert.Att.ctxRow]
  refine congrArg (fun r => arr1 m c (ix2 r _)) (Fin.ext ?_); dsimp only; omega

/-- The queries of a tile. -/
theorem qTile_query (c : Dev nD) (t : Fin cfg0.N) (sb kv g : Fin 4) (i d : Fin 128) :
    qTile (X0_0 m c t) sb.val kv.val sb.isLt kv.isLt (ix2 ⟨g.val * 128 + i.val, by omega⟩ d)
      = Cert.Att.query (arr0 m c) (blockOf t sb) i (headOf kv g) d := by
  have ht := lt32 t
  rw [qTile_at, read0, Cert.Att.query]
  refine congrArg (fun r => arr0 m c (ix2 r _)) (Fin.ext ?_); dsimp only; omega

/-- The product of keys and queries of a tile. -/
theorem product_at (K : FVec Ideal S640x128 .bf16) (Q : FVec Ideal S512x128 .bf16) (j : Fin 640) (n : Fin 512) :
    matmul dot_S640x128_S512x128_S640x512_1_1_0_0_n_n none K Q (constant S640x512 .f32 0x00000000#32) (ix2 j n)
      = ∑ x : Fin 128, K (ix2 j x) * Q (ix2 n x) := by
  pointwise

/-- The masked, scaled score of a tile. -/
theorem tile_score (c : Dev nD) (t : Fin cfg0.N) (sb kv g : Fin 4) (i : Fin 128) (j : Fin 640) :
    Scalar.select (rowMask (seqStart (grid0.coords t 0)) (BitVec.ofNat 32 (sb.val * 128)) (ix2 j ⟨g.val * 128 + i.val, by omega⟩))
      (matmul dot_S640x128_S512x128_S640x512_1_1_0_0_n_n none (keyTile (keys m c t) (iblk m c 7 t) sb.val kv.val sb.isLt kv.isLt)
        (qTile (X0_0 m c t) sb.val kv.val sb.isLt kv.isLt) (constant S640x512 .f32 0x00000000#32)
        (ix2 j ⟨g.val * 128 + i.val, by omega⟩) * Cert.Att.scale) ⊥
      = Cert.Att.score (arr0 m c) (arr1 m c) (blockOf t sb) i (headOf kv g) j := by
  have hh : (kv.val * 4 + g.val) / 4 = kv.val := by omega
  have hn : (g.val * 128 + i.val) % 128 = i.val := by omega
  rw [coord t, Cert.Att.rowMask_at ⟨t.val, lt32 t⟩ sb j, product_at]
  dsimp only
  rw [hn]
  unfold Cert.Att.score
  by_cases hj : j.val < 384
  · rw [dif_pos hj]
    by_cases hv : Cert.Att.Visible (t.val * 4 + sb.val) i.val j.val
    · rw [if_pos hv, decide_eq_true (Or.inr hv)]
      show (∑ x : Fin 128, _) * _ = _
      simp only [keyTile_win m c t sb kv j _ hj hv.2, qTile_query, hh]
    · rw [if_neg hv, decide_eq_false (by omega)]
      rfl
  · rw [dif_neg hj, decide_eq_true (Or.inl (by omega))]
    show (∑ x : Fin 128, _) * _ = _
    simp only [keyTile_ctx m c t sb kv j _ hj, qTile_query, hh]

/-- A tile entry is the attention of its query, head and column. -/
theorem tile_att (c : Dev nD) (t : Fin cfg0.N) (sb kv g : Fin 4) (i d : Fin 128) :
    headTile (keys m c t) (vals m c t) (X0_0 m c t) (iblk m c 7 t) (iblk m c 8 t) (iblk m c 11 t) (seqStart (grid0.coords t 0))
        sb.val kv.val sb.isLt kv.isLt (ix2 d ⟨g.val * 128 + i.val, by omega⟩)
      = Cert.Att.att (Cert.Att.score (arr0 m c) (arr1 m c) (blockOf t sb) i (headOf kv g)) (arr4 m c (ix1 (headOf kv g)))
        (Cert.Att.value (arr0 m c) (arr1 m c) (blockOf t sb) (headOf kv g) d) := by
  have hh : (kv.val * 4 + g.val) / 4 = kv.val := by omega
  unfold headTile
  rw [pay8_at, sink_at, read11]
  simp only [tile_score]
  refine Cert.Att.att_congr _ _ _ _ fun j => ?_
  unfold Cert.Att.value
  by_cases hj : j.val < 384
  · rw [dif_pos hj]
    by_cases hv : Cert.Att.Visible (t.val * 4 + sb.val) i.val j.val
    · left
      simp only [valTile_win m c t sb kv j d hj hv.2, hh]
    · right
      rw [Cert.Att.score, dif_pos hj, if_neg hv]
  · left
    rw [dif_neg hj]
    simp only [valTile_ctx m c t sb kv j d hj, hh]

/-- The stored block at a row and a column. -/
theorem blockOut_at (A : FVec Ideal S512x2048 .bf16) (x : Vec Ideal S512x2048 .f32) (md : Vec Ideal S1x8x2048 .f32)
    (wo : Vec Ideal S1x2048x2048 .bf16) (r : Fin 512) (n : Fin 2048) :
    blockOut A x (View.ld md (Rect.unit ![0, 2, 0] ![1, 1, 2048] inbM)) wo (ix2 r n)
      = x (ix2 r n) + md (ix3 0 2 n) * ∑ k : Fin 2048, A (ix2 r k) * wo (ix3 0 k n) := by
  pointwise [blockOut]

/-- The attended rows of a grid point. -/
theorem attended_eq (c : Dev nD) (t : Fin cfg0.N) (r : Fin 512) (k : Fin 2048) :
    attended (keys m c t) (vals m c t) (X0_0 m c t) (iblk m c 7 t) (iblk m c 8 t) (iblk m c 11 t) (seqStart (grid0.coords t 0)) (ix2 r k)
      = Cert.Att.attendedAt (arr0 m c) (arr1 m c) (arr4 m c) ⟨t.val * 512 + r.val, by have := lt32 t; omega⟩ k := by
  have ht := lt32 t
  have key := attended_at (keys m c t) (vals m c t) (X0_0 m c t) (iblk m c 7 t) (iblk m c 8 t) (iblk m c 11 t)
    (seqStart (grid0.coords t 0)) ⟨r.val / 128, by omega⟩ ⟨k.val / 512, by omega⟩ ⟨k.val / 128 % 4, by omega⟩
    ⟨r.val % 128, by omega⟩ ⟨k.val % 128, by omega⟩
  rw [tile_att] at key
  have e1 : (⟨r.val / 128 * 128 + r.val % 128, by omega⟩ : Fin 512) = r := Fin.ext (by dsimp only; omega)
  have e2 : (⟨(k.val / 512 * 4 + k.val / 128 % 4) * 128 + k.val % 128, by omega⟩ : Fin 2048) = k := Fin.ext (by dsimp only; omega)
  have e3 : blockOf t ⟨r.val / 128, by omega⟩ = ⟨(t.val * 512 + r.val) / 128, by omega⟩ := Fin.ext (by dsimp only; omega)
  have e4 : headOf ⟨k.val / 512, by omega⟩ ⟨k.val / 128 % 4, by omega⟩ = ⟨k.val / 128, by omega⟩ := Fin.ext (by dsimp only; omega)
  have e5 : (⟨r.val % 128, by omega⟩ : Fin 128) = ⟨(t.val * 512 + r.val) % 128, by omega⟩ := Fin.ext (by dsimp only; omega)
  dsimp only at key
  rw [e1, e2] at key
  rw [key, e3, e4, e5]
  rfl

/-- The kernel's result array. -/
theorem final (c : Dev nD) : (dats m 0 c).arrAt 13 (cfgs 0).N
    = fun y : S16384x2048.Idx => Cert.Att.layerAt (arr0 m c) (arr1 m c) (arr2 m c) (arr3 m c) (arr4 m c) (arr5 m c) (y 0) (y 1) := by
  refine (dats m 0 c).arrAt_eq_of_covers 13 _ (by decide +kernel) fun t _ y => ?_
  idx_vars y
  blk_simp
  rw [after_eq]
  have ht := lt32 t
  have e0 : (win0_13.blk t).view.emb (ix2 y0 y1) 0 = (⟨t.val * 512 + y0.val, by omega⟩ : Fin 16384) := Fin.ext (by
    have h : ((win0_13.blk t).view.emb (ix2 y0 y1) 0).val = t.val * 512 + y0.val := by blk_simp [idx t]
    exact h)
  have e1 : (win0_13.blk t).view.emb (ix2 y0 y1) 1 = y1 := Fin.ext (by
    have h : ((win0_13.blk t).view.emb (ix2 y0 y1) 1).val = y1.val := by blk_simp [idx t]
    exact h)
  rw [e0, e1]
  have e2 : (⟨t.val / 8, by omega⟩ : Fin 4) = ⟨(t.val * 512 + y0.val) / 4096, by omega⟩ := Fin.ext (by dsimp only; omega)
  refine (blockOut_at _ _ _ _ y0 y1).trans ?_
  rw [read9, read10, e2]
  unfold Cert.Att.layerAt
  congr 2
  refine Finset.sum_congr rfl fun k _ => ?_
  rw [read12]
  exact congrArg (· * _) (attended_eq m c t y0 k)

end Cert.KernelIdeal.Attn
-- ==== Proof.Claims.Attention.lean ====
module

public import proofs.«01_k».proof.Proof.Attn.Precondition
public import proofs.«01_k».proof.Proof.Attn.Kernel
public import proofs.«01_k».proof.Proof.Gen.KernelIdeal.Frame
public import proofs.«01_k».proof.Proof.Gen.ReferenceIdeal.Run
public import Idealize.ShloMosaic.Lib.Claim

/-! The attention kernel and its reference return the same array. -/

@[expose] public section

noncomputable section

namespace Cert.Proof

open Idealize.ShloMosaic Idealize.SL.Sem

/-- From memories that agree on the arguments and whose scores are finite, the attention kernel and the plain
    attention return the same array. -/
theorem attention : Cert.algebraic_KernelIdeal_ReferenceIdeal_pre_finite_scores := by
  pair_intro
  · run_from Cert.KernelIdeal.Gen.run_main m g
  · run_from Cert.ReferenceIdeal.Value.run m' g'
    have hs := Cert.Att.finiteScores _ _ _ _ _ _ (hpre c)
    obtain ⟨a0, a1, a2, a3, a4, a5⟩ := hagree c
    refine (Cert.ReferenceIdeal.Attn.res_eq m' c).trans ?_
    rw [a0, a1, a2, a3, a4, a5]
    exact (Cert.ReferenceIdeal.Attn.whole_eq hs _ _ _).trans (Cert.KernelIdeal.Attn.final m c).symm

end Cert.Proof
-- ==== Proof.Ffn.Reference.lean ====
module

public import proofs.«01_k».proof.Proof.Gen.Reference2Ideal.Run
public import Idealize.ShloMosaic.Lib.Pipeline.ValueKit
public import Idealize.ShloMosaic.Lib.Pointwise

/-! The feed-forward reference in stages: the rows by sample, their normalisation and modulation, the up projection,
    the three taps, the gate, the residual and the last normalisation. -/

@[expose] public section

set_option maxRecDepth 16384

noncomputable section

namespace Cert.Reference2Ideal.Ffn

open Idealize.ShloMosaic Idealize.ShloMosaic.TcCoe Idealize.SL.Sem
open Cert.Reference2Ideal Cert.Reference2Ideal.Gen

/-- The rows by sample. -/
def byStream (x : FVec Ideal S16384x2048 .f32) : FVec Ideal S4x4096x2048 .f32 :=
  shapeCast _ x shapeCasts_S16384x2048_S4x4096x2048

/-- The reciprocal root mean square of every row. -/
def rowScale (X : FVec Ideal S4x4096x2048 .f32) : FVec Ideal S4x4096x1 .f32 :=
  Host.rsqrt (addf (Host.divf (broadcastInDim S4x4096x1 ![0, 1] bcast_S4x4096_S4x4096x1_0_1
      (Host.reduceAdd (mulf X X) (constant S_ .f32 0x00000000#32) reducesTo_S4x4096x2048_S4x4096_d2 h_S_))
    (broadcastInDim S4x4096x1 ![] bcast_S_S4x4096x1 (constant S_ .f32 0x45000000#32)))
    (broadcastInDim S4x4096x1 ![] bcast_S_S4x4096x1 (constant S_ .f32 0x358637BD#32)))

/-- Rows normalised and weighted by a vector of 2048. -/
def scaled (X : FVec Ideal S4x4096x2048 .f32) (g : FVec Ideal S2048 .f32) : FVec Ideal S4x4096x2048 .f32 :=
  mulf (mulf X (broadcastInDim S4x4096x2048 ![0, 1, 2] bcast_S4x4096x1_S4x4096x2048_0_1_2 (rowScale X)))
    (broadcastInDim S4x4096x2048 ![0, 1, 2] bcast_S1x1x2048_S4x4096x2048_0_1_2 (broadcastInDim S1x1x2048 ![2] bcast_S2048_S1x1x2048_2 g))

/-- The sample's scale and shift applied. -/
def modulated (Z : FVec Ideal S4x4096x2048 .f32) (md : FVec Ideal S4x8x2048 .f32) : FVec Ideal S4x4096x2048 .f32 :=
  addf (mulf Z (broadcastInDim S4x4096x2048 ![0, 1, 2] bcast_S4x1x2048_S4x4096x2048_0_1_2
      (addf (broadcastInDim S4x1x2048 ![] bcast_S_S4x1x2048 (constant S_ .f32 0x3F800000#32))
        (extractStridedSlice S4x1x2048 ![0, 4, 0] md slices_S4x8x2048_S4x1x2048_0_4_0))))
    (broadcastInDim S4x4096x2048 ![0, 1, 2] bcast_S4x1x2048_S4x4096x2048_0_1_2
      (extractStridedSlice S4x1x2048 ![0, 3, 0] md slices_S4x8x2048_S4x1x2048_0_3_0))

/-- The up projection. -/
def upward (H : FVec Ideal S4x4096x2048 .f32) (wu : FVec Ideal S4x2048x11264 .bf16) : FVec Ideal S4x4096x11264 .f32 :=
  Host.dotGeneral dot_S4x4096x2048_S2048x11264_S4x4096x11264_2_0_01_1_n_n none H
    (extf .f32 (shapeCast _ (extractStridedSlice S1x2048x11264 ![3, 0, 0] wu slices_S4x2048x11264_S1x2048x11264_3_0_0)
      shapeCasts_S1x2048x11264_S2048x11264 : FVec Ideal S2048x11264 .bf16) bitsLt_bf16_f32)

/-- A row of zeros before and after every sample. -/
def padded (U : FVec Ideal S4x4096x11264 .f32) : FVec Ideal S4x4098x11264 .f32 :=
  pad S4x4098x11264 ![0, 1, 0] ![0, 1, 0] ![0, 0, 0] U (sitofp (F := Ideal) .f32 (constantI S_ 32 0#32))
    pads_S4x4096x11264_S4x4098x11264_000_110_000 h_S_

/-- The three taps and the bias. -/
def taps (P : FVec Ideal S4x4098x11264 .f32) (w : FVec Ideal S3x11264 .f32) (b : FVec Ideal S11264 .f32) : FVec Ideal S4x4096x11264 .f32 :=
  addf (broadcastInDim S4x4096x11264 ![0, 1, 2] bcast_S1x1x11264_S4x4096x11264_0_1_2 (broadcastInDim S1x1x11264 ![2] bcast_S11264_S1x1x11264_2 b))
    (addf (addf (addf (broadcastInDim S4x4096x11264 ![] bcast_S_S4x4096x11264 (constant S_ .f32 0x00000000#32))
      (mulf (broadcastInDim S4x4096x11264 ![0, 1, 2] bcast_S1x1x11264_S4x4096x11264_0_1_2 (broadcastInDim S1x1x11264 ![2] bcast_S11264_S1x1x11264_2
          (shapeCast S11264 (extractStridedSlice S1x11264 ![0, 0] w slices_S3x11264_S1x11264_0_0 : FVec Ideal S1x11264 .f32) shapeCasts_S1x11264_S11264)))
        (extractStridedSlice S4x4096x11264 ![0, 0, 0] P slices_S4x4098x11264_S4x4096x11264_0_0_0)))
      (mulf (broadcastInDim S4x4096x11264 ![0, 1, 2] bcast_S1x1x11264_S4x4096x11264_0_1_2 (broadcastInDim S1x1x11264 ![2] bcast_S11264_S1x1x11264_2
          (shapeCast S11264 (extractStridedSlice S1x11264 ![1, 0] w slices_S3x11264_S1x11264_1_0 : FVec Ideal S1x11264 .f32) shapeCasts_S1x11264_S11264)))
        (extractStridedSlice S4x4096x11264 ![0, 1, 0] P slices_S4x4098x11264_S4x4096x11264_0_1_0)))
      (mulf (broadcastInDim S4x4096x11264 ![0, 1, 2] bcast_S1x1x11264_S4x4096x11264_0_1_2 (broadcastInDim S1x1x11264 ![2] bcast_S11264_S1x1x11264_2
          (shapeCast S11264 (extractStridedSlice S1x11264 ![2, 0] w slices_S3x11264_S1x11264_2_0 : FVec Ideal S1x11264 .f32) shapeCasts_S1x11264_S11264)))
        (extractStridedSlice S4x4096x11264 ![0, 2, 0] P slices_S4x4098x11264_S4x4096x11264_0_2_0)))

/-- The gating half of the columns. -/
def left (C : FVec Ideal S4x4096x11264 .f32) : FVec Ideal S4x4096x5632 .f32 :=
  extractStridedSlice S4x4096x5632 ![0, 0, 0] C slices_S4x4096x11264_S4x4096x5632_0_0_0

/-- The gate applied to the other half. -/
def gatedHalves (C : FVec Ideal S4x4096x11264 .f32) : FVec Ideal S4x4096x5632 .f32 :=
  mulf (mulf (left C) (Host.divf (broadcastInDim S4x4096x5632 ![] bcast_S_S4x4096x5632 (constant S_ .f32 0x3F800000#32))
      (addf (broadcastInDim S4x4096x5632 ![] bcast_S_S4x4096x5632 (constant S_ .f32 0x3F800000#32)) (Host.exp (Host.negf (left C))))))
    (extractStridedSlice S4x4096x5632 ![0, 0, 5632] C slices_S4x4096x11264_S4x4096x5632_0_0_5632)

/-- The residual plus the sample's gate times the down projection. -/
def residual (X : FVec Ideal S4x4096x2048 .f32) (A : FVec Ideal S4x4096x5632 .f32) (md : FVec Ideal S4x8x2048 .f32)
    (wd : FVec Ideal S4x5632x2048 .bf16) : FVec Ideal S4x4096x2048 .f32 :=
  addf X (mulf (broadcastInDim S4x4096x2048 ![0, 1, 2] bcast_S4x1x2048_S4x4096x2048_0_1_2
      (extractStridedSlice S4x1x2048 ![0, 5, 0] md slices_S4x8x2048_S4x1x2048_0_5_0))
    (Host.dotGeneral dot_S4x4096x5632_S5632x2048_S4x4096x2048_2_0_01_1_n_n none A
      (extf .f32 (shapeCast _ (extractStridedSlice S1x5632x2048 ![3, 0, 0] wd slices_S4x5632x2048_S1x5632x2048_3_0_0)
        shapeCasts_S1x5632x2048_S5632x2048 : FVec Ideal S5632x2048 .bf16) bitsLt_bf16_f32)))

/-- The rows in one list again. -/
def rows (Z : FVec Ideal S4x4096x2048 .f32) : FVec Ideal S16384x2048 .f32 :=
  shapeCast _ Z shapeCasts_S4x4096x2048_S16384x2048

/-- The up projection of the normalised rows. -/
def upAll (x : FVec Ideal S16384x2048 .f32) (md : FVec Ideal S4x8x2048 .f32) (g : FVec Ideal S2048 .f32)
    (wu : FVec Ideal S4x2048x11264 .bf16) : FVec Ideal S4x4096x11264 .f32 :=
  upward (modulated (scaled (byStream x) g) md) wu

/-- The residual stream after the layer. -/
def resAll (x : FVec Ideal S16384x2048 .f32) (md : FVec Ideal S4x8x2048 .f32) (g : FVec Ideal S2048 .f32)
    (wu : FVec Ideal S4x2048x11264 .bf16) (cw : FVec Ideal S3x11264 .f32) (cb : FVec Ideal S11264 .f32)
    (wd : FVec Ideal S4x5632x2048 .bf16) : FVec Ideal S4x4096x2048 .f32 :=
  residual (byStream x) (gatedHalves (taps (padded (upAll x md g wu)) cw cb)) md wd

/-- The whole reference over its eight arguments. -/
def whole (x : FVec Ideal S16384x2048 .f32) (md : FVec Ideal S4x8x2048 .f32) (g : FVec Ideal S2048 .f32)
    (wu : FVec Ideal S4x2048x11264 .bf16) (cw : FVec Ideal S3x11264 .f32) (cb : FVec Ideal S11264 .f32)
    (wd : FVec Ideal S4x5632x2048 .bf16) (fg : FVec Ideal S2048 .f32) : FVec Ideal S16384x2048 .f32 :=
  rows (scaled (resAll x md g wu cw cb wd) fg)

/-- The run's composed term is the staged reference. -/
theorem res_eq (m : (ℓ : Loc nD τ sig) → Buf (Elt Ideal) ℓ) (c : Dev nD) : Value.res_out0 m c =
    whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := rfl

end Cert.Reference2Ideal.Ffn
-- ==== Proof.Ffn.Spec.lean ====
module

public import Idealize.ShloMosaic.Lib.Pipeline.ValueKit

/-! Feed-forward layer `L` over its argument arrays: the normalised and modulated rows, their up projection, the
    convolution over three rows of a sample, the gate, the down projection, and the normalised residual. -/

@[expose] public section

noncomputable section

namespace Cert.Ffn

open Idealize.ShloMosaic

variable (L : Fin 4) (x : FVec Ideal (⟨2, ![16384, 2048]⟩ : Shape) .f32) (md : FVec Ideal (⟨3, ![4, 8, 2048]⟩ : Shape) .f32)
  (g : FVec Ideal (⟨1, ![2048]⟩ : Shape) .f32) (wu : FVec Ideal (⟨3, ![4, 2048, 11264]⟩ : Shape) .bf16)
  (cw : FVec Ideal (⟨2, ![3, 11264]⟩ : Shape) .f32) (cb : FVec Ideal (⟨1, ![11264]⟩ : Shape) .f32)
  (wd : FVec Ideal (⟨3, ![4, 5632, 2048]⟩ : Shape) .bf16) (fg : FVec Ideal (⟨1, ![2048]⟩ : Shape) .f32)

/-- The reciprocal root mean square of 2048 entries. -/
def invRms (f : Fin 2048 → EReal) : EReal :=
  Ideal.rsqrt (Ideal.div (∑ k : Fin 2048, f k * f k) (Ideal.ofBits .f32 0x45000000#32) + Ideal.ofBits .f32 0x358637BD#32)

/-- The sample of a row. -/
abbrev sample (r : Fin 16384) : Fin 4 := ⟨r.val / 4096, by omega⟩

/-- The normalised, modulated row. -/
def hid (r : Fin 16384) (k : Fin 2048) : EReal :=
  x (ix2 r k) * invRms (fun k => x (ix2 r k)) * (g (ix1 k) * (1 + md (ix3 (sample r) 4 k))) + md (ix3 (sample r) 3 k)

/-- Its up projection, a column `n`. -/
def up (r : Fin 16384) (n : Fin 11264) : EReal := ∑ k : Fin 2048, hid x md g r k * wu (ix3 L k n)

/-- The three taps of column `n` around row `r`, with zero beyond the ends of the sample. -/
def conv (r : Fin 16384) (n : Fin 11264) : EReal :=
  cb (ix1 n)
    + cw (ix2 0 n) * (if h : 1 ≤ r.val % 4096 then up L x md g wu ⟨r.val - 1, by omega⟩ n else 0)
    + cw (ix2 1 n) * up L x md g wu r n
    + cw (ix2 2 n) * (if h : r.val % 4096 < 4095 then up L x md g wu ⟨r.val + 1, by omega⟩ n else 0)

/-- `v` times its logistic. -/
def silu (v : EReal) : EReal := v * Ideal.div 1 (1 + Ideal.exp (-v))

/-- The gated entry. -/
def act (r : Fin 16384) (n : Fin 5632) : EReal :=
  silu (conv L x md g wu cw cb r ⟨n.val, by omega⟩) * conv L x md g wu cw cb r ⟨5632 + n.val, by omega⟩

/-- The down projection. -/
def down (r : Fin 16384) (k : Fin 2048) : EReal := ∑ n : Fin 5632, act L x md g wu cw cb r n * wd (ix3 L n k)

/-- The residual with the gated product. -/
def res (r : Fin 16384) (k : Fin 2048) : EReal := x (ix2 r k) + md (ix3 (sample r) 5 k) * down L x md g wu cw cb wd r k

/-- The layer's entry, after the last normalisation. -/
def layerAt (r : Fin 16384) (k : Fin 2048) : EReal :=
  res L x md g wu cw cb wd r k * invRms (fun k => res L x md g wu cw cb wd r k) * fg (ix1 k)

end Cert.Ffn
-- ==== Proof.Ffn.ReferenceRead.lean ====
module

public import proofs.«01_k».proof.Proof.Ffn.Reference
public import proofs.«01_k».proof.Proof.Ffn.Spec

/-! The stages of the feed-forward reference read at one index, and the whole as the layer's specification. -/

@[expose] public section

set_option maxRecDepth 16384

noncomputable section

namespace Cert.Reference2Ideal.Ffn

open Idealize.ShloMosaic Idealize.ShloMosaic.TcCoe Idealize.SL.Sem
open Cert.Reference2Ideal Cert.Reference2Ideal.Gen

/-- Row `q` of sample `s` in the list of rows. -/
abbrev flat (s : Fin 4) (q : Fin 4096) : Fin 16384 := ⟨s.val * 4096 + q.val, by omega⟩

theorem sample_flat (s : Fin 4) (q : Fin 4096) : Cert.Ffn.sample (flat s q) = s := Fin.ext (by dsimp only; omega)

/-- The zero that pads a sample. -/
theorem pad_zero : (FloatOps.sitofp .f32 (0#32) : Ideal .f32) = 0 := by
  show (((0#32 : BitVec 32).toInt : ℝ) : EReal) = 0
  simp

theorem byStream_at (x : FVec Ideal S16384x2048 .f32) (s : Fin 4) (q : Fin 4096) (k : Fin 2048) :
    byStream x (ix3 s q k) = x (ix2 (flat s q) k) := by
  pointwise [byStream]

theorem rowScale_at (X : FVec Ideal S4x4096x2048 .f32) (s : Fin 4) (q : Fin 4096) :
    rowScale X (ix3 s q 0) = Cert.Ffn.invRms (fun k => X (ix3 s q k)) := by
  unfold Cert.Ffn.invRms
  pointwise [rowScale]

theorem scaled_at (X : FVec Ideal S4x4096x2048 .f32) (g : FVec Ideal S2048 .f32) (s : Fin 4) (q : Fin 4096) (k : Fin 2048) :
    scaled X g (ix3 s q k) = X (ix3 s q k) * rowScale X (ix3 s q 0) * g (ix1 k) := by
  pointwise [scaled]

theorem modulated_at (Z : FVec Ideal S4x4096x2048 .f32) (md : FVec Ideal S4x8x2048 .f32) (s : Fin 4) (q : Fin 4096) (k : Fin 2048) :
    modulated Z md (ix3 s q k) = Z (ix3 s q k) * (1 + md (ix3 s 4 k)) + md (ix3 s 3 k) := by
  pointwise [modulated]

theorem upward_at (H : FVec Ideal S4x4096x2048 .f32) (wu : FVec Ideal S4x2048x11264 .bf16) (s : Fin 4) (q : Fin 4096) (n : Fin 11264) :
    upward H wu (ix3 s q n) = ∑ k : Fin 2048, H (ix3 s q k) * wu (ix3 3 k n) := by
  pointwise [upward]

/-- A padded row: the row before it, or zero at the two ends. -/
theorem padded_at (U : FVec Ideal S4x4096x11264 .f32) (s : Fin 4) (q : Fin 4098) (n : Fin 11264) :
    padded U (ix3 s q n) = if h : 1 ≤ q.val ∧ q.val < 4097 then U (ix3 s ⟨q.val - 1, by omega⟩ n) else 0 := by
  by_cases h : 1 ≤ q.val ∧ q.val < 4097
  · rw [dif_pos h]
    pointwise [padded]
    split_ifs <;> first | omega | rfl | (refine congrArg (fun r => U (ix3 _ r _)) (Fin.ext ?_); dsimp only <;> omega)
  · rw [dif_neg h]
    pointwise [padded]
    simp only [pad_zero]
    split_ifs <;> first | omega | rfl

theorem taps_at (P : FVec Ideal S4x4098x11264 .f32) (w : FVec Ideal S3x11264 .f32) (b : FVec Ideal S11264 .f32) (s : Fin 4) (q : Fin 4096)
    (n : Fin 11264) : taps P w b (ix3 s q n) = b (ix1 n) + w (ix2 0 n) * P (ix3 s ⟨q.val, by omega⟩ n)
      + w (ix2 1 n) * P (ix3 s ⟨1 + q.val, by omega⟩ n) + w (ix2 2 n) * P (ix3 s ⟨2 + q.val, by omega⟩ n) := by
  have e : taps P w b (ix3 s q n) = b (ix1 n) + (((0 + w (ix2 0 n) * P (ix3 s ⟨q.val, by omega⟩ n))
      + w (ix2 1 n) * P (ix3 s ⟨1 + q.val, by omega⟩ n)) + w (ix2 2 n) * P (ix3 s ⟨2 + q.val, by omega⟩ n)) := by
    pointwise [taps]
  rw [e, zero_add, ← add_assoc, ← add_assoc]

theorem gatedHalves_at (C : FVec Ideal S4x4096x11264 .f32) (s : Fin 4) (q : Fin 4096) (n : Fin 5632) :
    gatedHalves C (ix3 s q n) = Cert.Ffn.silu (C (ix3 s q ⟨n.val, by omega⟩)) * C (ix3 s q ⟨5632 + n.val, by omega⟩) := by
  unfold Cert.Ffn.silu
  pointwise [gatedHalves, left]

theorem residual_at (X : FVec Ideal S4x4096x2048 .f32) (A : FVec Ideal S4x4096x5632 .f32) (md : FVec Ideal S4x8x2048 .f32)
    (wd : FVec Ideal S4x5632x2048 .bf16) (s : Fin 4) (q : Fin 4096) (k : Fin 2048) :
    residual X A md wd (ix3 s q k) = X (ix3 s q k) + md (ix3 s 5 k) * ∑ n : Fin 5632, A (ix3 s q n) * wd (ix3 3 n k) := by
  pointwise [residual]

theorem rows_at (Z : FVec Ideal S4x4096x2048 .f32) (r : Fin 16384) (k : Fin 2048) :
    rows Z (ix2 r k) = Z (ix3 ⟨r.val / 4096, by omega⟩ ⟨r.val % 4096, by omega⟩ k) := by
  pointwise [rows]

variable (x : FVec Ideal S16384x2048 .f32) (md : FVec Ideal S4x8x2048 .f32) (g : FVec Ideal S2048 .f32)
  (wu : FVec Ideal S4x2048x11264 .bf16) (cw : FVec Ideal S3x11264 .f32) (cb : FVec Ideal S11264 .f32)
  (wd : FVec Ideal S4x5632x2048 .bf16) (fg : FVec Ideal S2048 .f32)

/-- The normalised, modulated rows are the specification's. -/
theorem hidden_at (s : Fin 4) (q : Fin 4096) (k : Fin 2048) :
    modulated (scaled (byStream x) g) md (ix3 s q k) = Cert.Ffn.hid x md g (flat s q) k := by
  rw [modulated_at, scaled_at, rowScale_at]
  unfold Cert.Ffn.hid
  simp only [byStream_at, sample_flat]
  rw [mul_assoc _ (g (ix1 k)) _]

/-- The up projection is the specification's. -/
theorem upAll_at (s : Fin 4) (q : Fin 4096) (n : Fin 11264) :
    upAll x md g wu (ix3 s q n) = Cert.Ffn.up 3 x md g wu (flat s q) n := by
  rw [upAll, upward_at]
  unfold Cert.Ffn.up
  exact Fin.sum_fin_congr fun k => congrArg (· * wu (ix3 3 k n)) (hidden_at x md g s q k)

section
variable {x md g wu} {L : Fin 4} {U : FVec Ideal S4x4096x11264 .f32}
  (hU : ∀ (s : Fin 4) (q : Fin 4096) (n : Fin 11264), U (ix3 s q n) = Cert.Ffn.up L x md g wu (flat s q) n)
include hU

/-- A padded row of the up projection. -/
theorem padUp (s : Fin 4) (q : Fin 4098) (n : Fin 11264) :
    padded U (ix3 s q n) = if h : 1 ≤ q.val ∧ q.val < 4097 then Cert.Ffn.up L x md g wu (flat s ⟨q.val - 1, by omega⟩) n else 0 := by
  rw [padded_at]
  split_ifs with h
  · exact hU s _ n
  · rfl

/-- The taps are the specification's convolution. -/
theorem conv_eq (s : Fin 4) (q : Fin 4096) (n : Fin 11264) :
    taps (padded U) cw cb (ix3 s q n) = Cert.Ffn.conv L x md g wu cw cb (flat s q) n := by
  have e0 : padded U (ix3 s ⟨q.val, by omega⟩ n)
      = if h : 1 ≤ (flat s q).val % 4096 then Cert.Ffn.up L x md g wu ⟨(flat s q).val - 1, by omega⟩ n else 0 := by
    rw [padUp hU]
    split_ifs with h h' h'
    · exact congrArg (fun r => Cert.Ffn.up L x md g wu r n) (Fin.ext (by dsimp only at h ⊢; omega))
    · exfalso; dsimp only at h h'; omega
    · exfalso; dsimp only at h h'; omega
    · rfl
  have e1 : padded U (ix3 s ⟨1 + q.val, by omega⟩ n) = Cert.Ffn.up L x md g wu (flat s q) n := by
    rw [padUp hU, dif_pos (by dsimp only; omega)]
    exact congrArg (fun r => Cert.Ffn.up L x md g wu r n) (Fin.ext (by dsimp only; omega))
  have e2 : padded U (ix3 s ⟨2 + q.val, by omega⟩ n)
      = if h : (flat s q).val % 4096 < 4095 then Cert.Ffn.up L x md g wu ⟨(flat s q).val + 1, by omega⟩ n else 0 := by
    rw [padUp hU]
    split_ifs with h h' h'
    · exact congrArg (fun r => Cert.Ffn.up L x md g wu r n) (Fin.ext (by dsimp only at h ⊢; omega))
    · exfalso; dsimp only at h h'; omega
    · exfalso; dsimp only at h h'; omega
    · rfl
  rw [taps_at, e0, e1, e2]
  rfl

/-- The gated entries are the specification's. -/
theorem act_at (s : Fin 4) (q : Fin 4096) (n : Fin 5632) :
    gatedHalves (taps (padded U) cw cb) (ix3 s q n) = Cert.Ffn.act L x md g wu cw cb (flat s q) n := by
  rw [gatedHalves_at, conv_eq cw cb hU, conv_eq cw cb hU]
  rfl

end

/-- The residual stream is the specification's. -/
theorem resAll_at (s : Fin 4) (q : Fin 4096) (k : Fin 2048) :
    resAll x md g wu cw cb wd (ix3 s q k) = Cert.Ffn.res 3 x md g wu cw cb wd (flat s q) k := by
  rw [resAll, residual_at, byStream_at]
  unfold Cert.Ffn.res Cert.Ffn.down
  rw [sample_flat]
  refine congrArg (fun z => x (ix2 (flat s q) k) + md (ix3 s 5 k) * z) (Fin.sum_fin_congr fun n => ?_)
  exact congrArg (· * wd (ix3 3 n k)) (act_at cw cb (upAll_at x md g wu) s q n)

/-- The whole reference is the layer's specification at every index. -/
theorem whole_eq : whole x md g wu cw cb wd fg
    = fun y : S16384x2048.Idx => Cert.Ffn.layerAt 3 x md g wu cw cb wd fg (y 0) (y 1) := by
  funext y
  idx_vars y
  rw [whole, rows_at, scaled_at, rowScale_at]
  simp only [resAll_at]
  have e : flat ⟨y0.val / 4096, by omega⟩ ⟨y0.val % 4096, by omega⟩ = y0 := Fin.ext (by dsimp only; omega)
  rw [e]
  rfl

end Cert.Reference2Ideal.Ffn
-- ==== Proof.Ffn.Block.lean ====
module

public import proofs.«01_k».proof.Proof.Gen.Kernel2Ideal.Frame
public import Idealize.ShloMosaic.Lib.Pipeline.ValueKit
public import Idealize.ShloMosaic.Lib.Pipeline.ReadBack

/-! What one grid point of the feed-forward kernel does with its blocks: the gated convolution of a tile of hidden
    columns, and the product with the down projection that it adds to the output block. -/

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen

/-- Three taps of one column over the buffer's rows `r + 7`, `r + 8` and `r + 9`. -/
def conv3 (u : FVec Ideal S1040x512 .f32) (w : FVec Ideal S3x512 .f32) (b : FVec Ideal S1x512 .f32) (r : Fin 1024) (n : Fin 512) : EReal :=
  b (ix2 0 n) + w (ix2 0 n) * u (ix2 ⟨r.val + 7, by omega⟩ n) + w (ix2 1 n) * u (ix2 ⟨r.val + 8, by omega⟩ n)
    + w (ix2 2 n) * u (ix2 ⟨r.val + 9, by omega⟩ n)

/-- `x` times its logistic, as the kernel computes it. -/
def silu (x : EReal) : EReal := x * Ideal.div (Ideal.ofBits .f32 0x3F800000#32) (Ideal.ofBits .f32 0x3F800000#32 + Ideal.exp (Ideal.ofBits .f32 0x00000000#32 - x))

/-- The gated tile: the gate's convolution through `silu`, times the value's convolution. -/
def gated (ug uv : FVec Ideal S1040x512 .f32) (wg wv : FVec Ideal S3x512 .f32) (bg bv : FVec Ideal S1x512 .f32) : FVec Ideal S1024x512 .bf16 :=
  fun y => silu (conv3 ug wg bg (y 0) (y 1)) * conv3 uv wv bv (y 0) (y 1)

theorem gated_at (ug uv : FVec Ideal S1040x512 .f32) (wg wv : FVec Ideal S3x512 .f32) (bg bv : FVec Ideal S1x512 .f32) (r : Fin 1024) (n : Fin 512) :
    gated ug uv wg wv bg bv (ix2 r n) = silu (conv3 ug wg bg r n) * conv3 uv wv bv r n := rfl

variable (ug uv : FVec Ideal S1040x512 .f32) (wg wv : FVec Ideal S3x512 .f32) (bg bv : FVec Ideal S1x512 .f32)

/-- 256 rows of a buffer, from row `o`. -/
abbrev rowsAt (u : FVec Ideal S1040x512 .f32) (o : ℕ) (h : ∀ a, (![o, 0] : Fin 2 → ℕ) a + S256x512.size a ≤ S1040x512.size a) : Vec Ideal S256x512 .f32 :=
  View.ld (Val := Elt Ideal) (e' := .f32) u (Rect.unit (s := S1040x512) ![o, 0] ![256, 512] h)

/-- Rows 0 to 255 of the gated tile. -/
theorem part0 (r : Fin 256) (n : Fin 512) :
    k0_pay19 (k0_pay18 wg bg wv bv (rowsAt ug 7 inb_S1040x512_S256x512_7_0) (rowsAt ug 9 inb_S1040x512_S256x512_9_0) (rowsAt ug 8 inb_S1040x512_S256x512_8_0) (rowsAt uv 7 inb_S1040x512_S256x512_7_0) (rowsAt uv 9 inb_S1040x512_S256x512_9_0) (rowsAt uv 8 inb_S1040x512_S256x512_8_0)) (ix2 r n)
    = gated ug uv wg wv bg bv (ix2 ⟨r.val, by omega⟩ n) := by
  rw [gated_at]; unfold silu conv3
  pointwise [k0_pay19, k0_pay18, rowsAt]
  simp only [Nat.add_comm r.val]

/-- Rows 256 to 511 of the gated tile. -/
theorem part1 (r : Fin 256) (n : Fin 512) :
    k0_pay21 (k0_pay20 wg bg wv bv (rowsAt ug 263 inb_S1040x512_S256x512_263_0) (rowsAt ug 265 inb_S1040x512_S256x512_265_0) (rowsAt ug 264 inb_S1040x512_S256x512_264_0) (rowsAt uv 263 inb_S1040x512_S256x512_263_0) (rowsAt uv 265 inb_S1040x512_S256x512_265_0) (rowsAt uv 264 inb_S1040x512_S256x512_264_0)) (ix2 r n)
    = gated ug uv wg wv bg bv (ix2 ⟨256 + r.val, by omega⟩ n) := by
  rw [gated_at]; unfold silu conv3
  pointwise [k0_pay21, k0_pay20, rowsAt]
  simp only [show 256 + r.val + 7 = 263 + r.val by omega, show 256 + r.val + 8 = 264 + r.val by omega,
    show 256 + r.val + 9 = 265 + r.val by omega]

/-- Rows 512 to 767 of the gated tile. -/
theorem part2 (r : Fin 256) (n : Fin 512) :
    k0_pay24 (k0_pay22 wg bg (rowsAt ug 519 inb_S1040x512_S256x512_519_0) (rowsAt ug 521 inb_S1040x512_S256x512_521_0) (rowsAt ug 520 inb_S1040x512_S256x512_520_0)) (k0_pay23 wv bv (rowsAt uv 519 inb_S1040x512_S256x512_519_0) (rowsAt uv 521 inb_S1040x512_S256x512_521_0) (rowsAt uv 520 inb_S1040x512_S256x512_520_0)) (ix2 r n)
    = gated ug uv wg wv bg bv (ix2 ⟨512 + r.val, by omega⟩ n) := by
  rw [gated_at]; unfold silu conv3
  pointwise [k0_pay24, k0_pay22, k0_pay23, rowsAt]
  simp only [show 512 + r.val + 7 = 519 + r.val by omega, show 512 + r.val + 8 = 520 + r.val by omega,
    show 512 + r.val + 9 = 521 + r.val by omega]

/-- Rows 768 to 1023 of the gated tile. -/
theorem part3 (r : Fin 256) (n : Fin 512) :
    k0_pay28 (k0_pay25 wg bg (rowsAt ug 775 inb_S1040x512_S256x512_775_0) (rowsAt ug 777 inb_S1040x512_S256x512_777_0) (rowsAt ug 776 inb_S1040x512_S256x512_776_0)) (rowsAt uv 777 inb_S1040x512_S256x512_777_0) (k0_pay26 wv bv (rowsAt uv 775 inb_S1040x512_S256x512_775_0) (rowsAt uv 776 inb_S1040x512_S256x512_776_0)) (k0_pay27 wv) (ix2 r n)
    = gated ug uv wg wv bg bv (ix2 ⟨768 + r.val, by omega⟩ n) := by
  rw [gated_at]; unfold silu conv3
  pointwise [k0_pay28, k0_pay25, k0_pay26, k0_pay27, rowsAt]
  simp only [show 768 + r.val + 7 = 775 + r.val by omega, show 768 + r.val + 8 = 776 + r.val by omega,
    show 768 + r.val + 9 = 777 + r.val by omega]

/-- The four stores of 256 rows leave the gated tile. -/
theorem gated_stores : View.canon (Val := Elt Ideal) (s := S1024x512) (e := .bf16)
    [⟨Rect.unit ![768, 0] ![256, 512] inb_S1024x512_S256x512_768_0, k0_pay28 (k0_pay25 wg bg (rowsAt ug 775 inb_S1040x512_S256x512_775_0) (rowsAt ug 777 inb_S1040x512_S256x512_777_0) (rowsAt ug 776 inb_S1040x512_S256x512_776_0)) (rowsAt uv 777 inb_S1040x512_S256x512_777_0) (k0_pay26 wv bv (rowsAt uv 775 inb_S1040x512_S256x512_775_0) (rowsAt uv 776 inb_S1040x512_S256x512_776_0)) (k0_pay27 wv)⟩,
      ⟨Rect.unit ![512, 0] ![256, 512] inb_S1024x512_S256x512_512_0, k0_pay24 (k0_pay22 wg bg (rowsAt ug 519 inb_S1040x512_S256x512_519_0) (rowsAt ug 521 inb_S1040x512_S256x512_521_0) (rowsAt ug 520 inb_S1040x512_S256x512_520_0)) (k0_pay23 wv bv (rowsAt uv 519 inb_S1040x512_S256x512_519_0) (rowsAt uv 521 inb_S1040x512_S256x512_521_0) (rowsAt uv 520 inb_S1040x512_S256x512_520_0))⟩,
      ⟨Rect.unit ![256, 0] ![256, 512] inb_S1024x512_S256x512_256_0, k0_pay21 (k0_pay20 wg bg wv bv (rowsAt ug 263 inb_S1040x512_S256x512_263_0) (rowsAt ug 265 inb_S1040x512_S256x512_265_0) (rowsAt ug 264 inb_S1040x512_S256x512_264_0) (rowsAt uv 263 inb_S1040x512_S256x512_263_0) (rowsAt uv 265 inb_S1040x512_S256x512_265_0) (rowsAt uv 264 inb_S1040x512_S256x512_264_0))⟩,
      ⟨Rect.unit ![0, 0] ![256, 512] inb_S1024x512_S256x512_0_0, k0_pay19 (k0_pay18 wg bg wv bv (rowsAt ug 7 inb_S1040x512_S256x512_7_0) (rowsAt ug 9 inb_S1040x512_S256x512_9_0) (rowsAt ug 8 inb_S1040x512_S256x512_8_0) (rowsAt uv 7 inb_S1040x512_S256x512_7_0) (rowsAt uv 9 inb_S1040x512_S256x512_9_0) (rowsAt uv 8 inb_S1040x512_S256x512_8_0))⟩]
    = gated ug uv wg wv bg bv := by
  funext y
  idx_vars y
  canon_tiles x h
  all_goals
    idx_vars x
    obtain rfl : x1 = y1 := (Fin.ext h1).symm
  · rw [show y0 = ⟨768 + x0.val, by omega⟩ from Fin.ext h0]
    exact part3 ug uv wg wv bg bv x0 x1
  · rw [show y0 = ⟨512 + x0.val, by omega⟩ from Fin.ext h0]
    exact part2 ug uv wg wv bg bv x0 x1
  · rw [show y0 = ⟨256 + x0.val, by omega⟩ from Fin.ext h0]
    exact part1 ug uv wg wv bg bv x0 x1
  · rw [show y0 = ⟨x0.val, by omega⟩ from Fin.ext h0]
    exact part0 ug uv wg wv bg bv x0 x1

/-- The gated tile read back whole after its four stores. -/
theorem gated_read {κ : Kind} {sp : Space} (v : View sig κ sp S1024x512 .bf16) : v.readCov (Val := Elt Ideal)
    [⟨Rect.unit ![768, 0] ![256, 512] inb_S1024x512_S256x512_768_0, k0_pay28 (k0_pay25 wg bg (rowsAt ug 775 inb_S1040x512_S256x512_775_0) (rowsAt ug 777 inb_S1040x512_S256x512_777_0) (rowsAt ug 776 inb_S1040x512_S256x512_776_0)) (rowsAt uv 777 inb_S1040x512_S256x512_777_0) (k0_pay26 wv bv (rowsAt uv 775 inb_S1040x512_S256x512_775_0) (rowsAt uv 776 inb_S1040x512_S256x512_776_0)) (k0_pay27 wv)⟩,
      ⟨Rect.unit ![512, 0] ![256, 512] inb_S1024x512_S256x512_512_0, k0_pay24 (k0_pay22 wg bg (rowsAt ug 519 inb_S1040x512_S256x512_519_0) (rowsAt ug 521 inb_S1040x512_S256x512_521_0) (rowsAt ug 520 inb_S1040x512_S256x512_520_0)) (k0_pay23 wv bv (rowsAt uv 519 inb_S1040x512_S256x512_519_0) (rowsAt uv 521 inb_S1040x512_S256x512_521_0) (rowsAt uv 520 inb_S1040x512_S256x512_520_0))⟩,
      ⟨Rect.unit ![256, 0] ![256, 512] inb_S1024x512_S256x512_256_0, k0_pay21 (k0_pay20 wg bg wv bv (rowsAt ug 263 inb_S1040x512_S256x512_263_0) (rowsAt ug 265 inb_S1040x512_S256x512_265_0) (rowsAt ug 264 inb_S1040x512_S256x512_264_0) (rowsAt uv 263 inb_S1040x512_S256x512_263_0) (rowsAt uv 265 inb_S1040x512_S256x512_265_0) (rowsAt uv 264 inb_S1040x512_S256x512_264_0))⟩,
      ⟨Rect.unit ![0, 0] ![256, 512] inb_S1024x512_S256x512_0_0, k0_pay19 (k0_pay18 wg bg wv bv (rowsAt ug 7 inb_S1040x512_S256x512_7_0) (rowsAt ug 9 inb_S1040x512_S256x512_9_0) (rowsAt ug 8 inb_S1040x512_S256x512_8_0) (rowsAt uv 7 inb_S1040x512_S256x512_7_0) (rowsAt uv 9 inb_S1040x512_S256x512_9_0) (rowsAt uv 8 inb_S1040x512_S256x512_8_0))⟩] (Rect.unit (s := S1024x512) ![0, 0] ![1024, 512] inb_S1024x512_S1024x512_0_0).toLoadRect
    = gated ug uv wg wv bg bv := by
  rw [View.readCov_eq_canon', gated_stores]
  exact View.ld_unit_lit (Val := Elt Ideal) (e := .bf16) (S := S1024x512) inb_S1024x512_S1024x512_0_0 (gated ug uv wg wv bg bv) (by decide)

/-- A block plus the product of a gated tile and 512 rows of the down projection. -/
def plusDown (acc : FVec Ideal S1024x2048 .f32) (A : FVec Ideal S1024x512 .bf16) (w : FVec Ideal S1x512x2048 .bf16) : FVec Ideal S1024x2048 .f32 :=
  fun y => acc y + ∑ k : Fin 512, A (ix2 (y 0) k) * w (ix3 0 k (y 1))

theorem plusDown_at (acc : FVec Ideal S1024x2048 .f32) (A : FVec Ideal S1024x512 .bf16) (w : FVec Ideal S1x512x2048 .bf16) (r : Fin 1024) (n : Fin 2048) :
    plusDown acc A w (ix2 r n) = acc (ix2 r n) + ∑ k : Fin 512, A (ix2 r k) * w (ix3 0 k n) := rfl

/-- 512 columns of the output block, from column `o`. -/
abbrev colsAt (u : FVec Ideal S1024x2048 .f32) (o : ℕ) (h : ∀ a, (![0, o] : Fin 2 → ℕ) a + S1024x512.size a ≤ S1024x2048.size a) : Vec Ideal S1024x512 .f32 :=
  View.ld (Val := Elt Ideal) (e' := .f32) u (Rect.unit (s := S1024x2048) ![0, o] ![1024, 512] h)

/-- 512 columns of the down projection's block, from column `o`. -/
abbrev downAt (w : FVec Ideal S1x512x2048 .bf16) (o : ℕ) (h : ∀ a, (![0, 0, o] : Fin 3 → ℕ) a + S1x512x512.size a ≤ S1x512x2048.size a) : Vec Ideal S1x512x512 .bf16 :=
  View.ld (Val := Elt Ideal) (e' := .bf16) w (Rect.unit (s := S1x512x2048) ![0, 0, o] ![1, 512, 512] h)

/-- Columns 0 to 511 of the sum. -/
theorem down0 (acc : FVec Ideal S1024x2048 .f32) (A : FVec Ideal S1024x512 .bf16) (w : FVec Ideal S1x512x2048 .bf16) (r : Fin 1024) (n : Fin 512) :
    k0_pay29 A (colsAt acc 0 inb_S1024x2048_S1024x512_0_0) (downAt w 0 inb_S1x512x2048_S1x512x512_0_0_0) (ix2 r n) = plusDown acc A w (ix2 r ⟨n.val, by omega⟩) := by
  rw [plusDown_at]
  pointwise [k0_pay29, colsAt, downAt]

/-- Columns 512 to 1023 of the sum. -/
theorem down1 (acc : FVec Ideal S1024x2048 .f32) (A : FVec Ideal S1024x512 .bf16) (w : FVec Ideal S1x512x2048 .bf16) (r : Fin 1024) (n : Fin 512) :
    k0_pay30 A (colsAt acc 512 inb_S1024x2048_S1024x512_0_512) (downAt w 512 inb_S1x512x2048_S1x512x512_0_0_512) (ix2 r n) = plusDown acc A w (ix2 r ⟨512 + n.val, by omega⟩) := by
  rw [plusDown_at]
  pointwise [k0_pay30, colsAt, downAt]

/-- Columns 1024 to 1535 of the sum. -/
theorem down2 (acc : FVec Ideal S1024x2048 .f32) (A : FVec Ideal S1024x512 .bf16) (w : FVec Ideal S1x512x2048 .bf16) (r : Fin 1024) (n : Fin 512) :
    k0_pay31 A (colsAt acc 1024 inb_S1024x2048_S1024x512_0_1024) (downAt w 1024 inb_S1x512x2048_S1x512x512_0_0_1024) (ix2 r n) = plusDown acc A w (ix2 r ⟨1024 + n.val, by omega⟩) := by
  rw [plusDown_at]
  pointwise [k0_pay31, colsAt, downAt]

/-- Columns 1536 to 2047 of the sum. -/
theorem down3 (acc : FVec Ideal S1024x2048 .f32) (A : FVec Ideal S1024x512 .bf16) (w : FVec Ideal S1x512x2048 .bf16) (r : Fin 1024) (n : Fin 512) :
    k0_pay1 A (colsAt acc 1536 inb_S1024x2048_S1024x512_0_1536) (downAt w 1536 inb_S1x512x2048_S1x512x512_0_0_1536) (ix2 r n) = plusDown acc A w (ix2 r ⟨1536 + n.val, by omega⟩) := by
  rw [plusDown_at]
  pointwise [k0_pay1, colsAt, downAt]

/-- The four stores of 512 columns of a point. -/
abbrev downList (acc : FVec Ideal S1024x2048 .f32) (A : FVec Ideal S1024x512 .bf16) (w : FVec Ideal S1x512x2048 .bf16) :
    List (View.Piece (Elt Ideal) S1024x2048 .f32) :=
    [⟨Rect.unit ![0, 1536] ![1024, 512] inb_S1024x2048_S1024x512_0_1536, k0_pay1 A (colsAt acc 1536 inb_S1024x2048_S1024x512_0_1536) (downAt w 1536 inb_S1x512x2048_S1x512x512_0_0_1536)⟩,
      ⟨Rect.unit ![0, 1024] ![1024, 512] inb_S1024x2048_S1024x512_0_1024, k0_pay31 A (colsAt acc 1024 inb_S1024x2048_S1024x512_0_1024) (downAt w 1024 inb_S1x512x2048_S1x512x512_0_0_1024)⟩,
      ⟨Rect.unit ![0, 512] ![1024, 512] inb_S1024x2048_S1024x512_0_512, k0_pay30 A (colsAt acc 512 inb_S1024x2048_S1024x512_0_512) (downAt w 512 inb_S1x512x2048_S1x512x512_0_0_512)⟩,
      ⟨Rect.unit ![0, 0] ![1024, 512] inb_S1024x2048_S1024x512_0_0, k0_pay29 A (colsAt acc 0 inb_S1024x2048_S1024x512_0_0) (downAt w 0 inb_S1x512x2048_S1x512x512_0_0_0)⟩]

/-- The four stores of 512 columns add the product to the block, whatever was stored before. -/
theorem down_stores (acc : FVec Ideal S1024x2048 .f32) (A : FVec Ideal S1024x512 .bf16) (w : FVec Ideal S1x512x2048 .bf16)
    (L : List (View.Piece (Elt Ideal) S1024x2048 .f32)) :
    View.canon (Val := Elt Ideal) (s := S1024x2048) (e := .f32)
    (⟨Rect.unit ![0, 1536] ![1024, 512] inb_S1024x2048_S1024x512_0_1536, k0_pay1 A (colsAt acc 1536 inb_S1024x2048_S1024x512_0_1536) (downAt w 1536 inb_S1x512x2048_S1x512x512_0_0_1536)⟩ :: ⟨Rect.unit ![0, 1024] ![1024, 512] inb_S1024x2048_S1024x512_0_1024, k0_pay31 A (colsAt acc 1024 inb_S1024x2048_S1024x512_0_1024) (downAt w 1024 inb_S1x512x2048_S1x512x512_0_0_1024)⟩ :: ⟨Rect.unit ![0, 512] ![1024, 512] inb_S1024x2048_S1024x512_0_512, k0_pay30 A (colsAt acc 512 inb_S1024x2048_S1024x512_0_512) (downAt w 512 inb_S1x512x2048_S1x512x512_0_0_512)⟩ :: ⟨Rect.unit ![0, 0] ![1024, 512] inb_S1024x2048_S1024x512_0_0, k0_pay29 A (colsAt acc 0 inb_S1024x2048_S1024x512_0_0) (downAt w 0 inb_S1x512x2048_S1x512x512_0_0_0)⟩ :: L)
    = plusDown acc A w := by
  show View.canon (downList acc A w ++ L) = _
  funext y
  have hp : View.PiecesOf (plusDown acc A w : S1024x2048.Idx → Elt Ideal .f32) (downList acc A w) := by
    refine ⟨fun x => ?_, fun x => ?_, fun x => ?_, fun x => ?_, trivial⟩
    all_goals idx_vars x
    · exact (down3 acc A w x0 x1).trans (congrArg (plusDown acc A w) (by
        funext a
        apply Fin.ext
        fin_cases a
        · show x0.val = 0 + 1 * x0.val
          omega
        · show 1536 + x1.val = 1536 + 1 * x1.val
          omega))
    · exact (down2 acc A w x0 x1).trans (congrArg (plusDown acc A w) (by
        funext a
        apply Fin.ext
        fin_cases a
        · show x0.val = 0 + 1 * x0.val
          omega
        · show 1024 + x1.val = 1024 + 1 * x1.val
          omega))
    · exact (down1 acc A w x0 x1).trans (congrArg (plusDown acc A w) (by
        funext a
        apply Fin.ext
        fin_cases a
        · show x0.val = 0 + 1 * x0.val
          omega
        · show 512 + x1.val = 512 + 1 * x1.val
          omega))
    · exact (down0 acc A w x0 x1).trans (congrArg (plusDown acc A w) (by
        funext a
        apply Fin.ext
        fin_cases a
        · show x0.val = 0 + 1 * x0.val
          omega
        · show x1.val = 0 + 1 * x1.val
          omega))
  exact View.canon_append_of_piecesOf _ L _ hp y (View.cover_of_tiledL (downList acc A w) S1024x512.size (by rfl) y)

/-- The gated tile of a grid point, from its blocks of weights and the hidden rows. -/
def tileFrom (t : Fin cfg0.N) (ug uv : FVec Ideal S1x2048x512 .bf16) (w : FVec Ideal S3x11264 .f32) (b : FVec Ideal S1x11264 .f32)
    (H : FVec Ideal S1040x2048 .bf16) : FVec Ideal S1024x512 .bf16 :=
  gated (k0_pay14 H ug) (k0_pay15 H uv)
    (View.ld (Val := Elt Ideal) (e' := .f32) w (Rect.unit (s := S3x11264) (k0_off1 (grid0.coords t)) ![3, 512] (k0_off1_inb (grid0.coords t))))
    (View.ld (Val := Elt Ideal) (e' := .f32) w (Rect.unit (s := S3x11264) (k0_off3 (grid0.coords t)) ![3, 512] (k0_off3_inb (grid0.coords t))))
    (k0_pay16 (View.ld (Val := Elt Ideal) (e' := .f32) b (Rect.unit (s := S1x11264) (k0_off2 (grid0.coords t)) ![1, 512] (k0_off2_inb (grid0.coords t)))))
    (k0_pay17 (View.ld (Val := Elt Ideal) (e' := .f32) b (Rect.unit (s := S1x11264) (k0_off4 (grid0.coords t)) ![1, 512] (k0_off4_inb (grid0.coords t)))))

variable (m : (ℓ : Loc nD τ sig) → Buf (Elt Ideal) ℓ)

/-- The gated tile of a grid point, from the hidden rows it finds in the scratch. -/
abbrev tileOf (c : Dev nD) (t : Fin cfg0.N) (H : FVec Ideal S1040x2048 .bf16) : FVec Ideal S1024x512 .bf16 :=
  tileFrom t (iblk m c 6 t) (iblk m c 7 t) (iblk m c 8 t) (iblk m c 9 t) H

/-- A middle point adds its tile's product to the block the point before left. -/
theorem afterB (c : Dev nD) (t : Fin cfg0.N) (h0 : ¬t.val % 11 = 0) (h1 : ¬t.val % 11 = 10) (hp : t.val - 1 < cfg0.N) :
    (outsAt0 m c t.val t.isLt).1 = plusDown (outsAt0 m c (t.val - 1) hp).1 (tileOf m c t (outsAt0 m c (t.val - 1) hp).2) (iblk m c 10 t) := by
  rw [outsAt0_B m c t h0 h1]
  frame_out
  simp (disch := decide) only [View.readCov_fill, read_unread_whole, gated_read]
  exact down_stores _ _ _ _

theorem afterB2 (c : Dev nD) (t : Fin cfg0.N) (h0 : ¬t.val % 11 = 0) (h1 : ¬t.val % 11 = 10) (hp : t.val - 1 < cfg0.N) :
    (outsAt0 m c t.val t.isLt).2 = (outsAt0 m c (t.val - 1) hp).2 := by
  rw [outsAt0_B m c t h0 h1]
  rfl

/-- The zero fill. -/
theorem zeros : k0_pay13 (F := Ideal) = fun _ => 0 := by
  funext y
  idx_vars y
  pointwise [k0_pay13]

/-- A first point starts the block from zero. -/
theorem afterA (c : Dev nD) (t : Fin cfg0.N) (h0 : t.val % 11 = 0) (h1 : ¬t.val % 11 = 10) :
    (outsAt0 m c t.val t.isLt).1 = plusDown (fun _ => 0) (tileOf m c t (outsAt0 m c t.val t.isLt).2) (iblk m c 10 t) := by
  rw [outsAt0_A m c t h0 h1]
  frame_out
  simp (disch := decide) only [↓View.readCov_skip, View.readCov_fill, read_unread_whole, gated_read]
  rw [← zeros]
  refine (down_stores _ _ _ [_]).trans ?_
  rw [View.readCov_eq_canon']
  generalize View.canon (Val := Elt Ideal) (s := S1040x2048) (e := .bf16) _ = H
  have e : (fun j => H ((Rect.unit (s := S1040x2048) ![0, 0] ![1040, 2048] inb_S1040x2048_S1040x2048_0_0).idx j)) = H :=
    View.ld_unit_lit (Val := Elt Ideal) (e := .bf16) (S := S1040x2048) inb_S1040x2048_S1040x2048_0_0 H (by decide)
  exact congrArg (fun X => plusDown k0_pay13 (tileOf m c t X) (iblk m c 10 t)) e

end Cert.Kernel2Ideal.Ffn
-- ==== Proof.Ffn.Loop.lean ====
module

public import proofs.«01_k».proof.Proof.Gen.Kernel2Ideal.Frame
public import proofs.«01_k».proof.Proof.Gen.Kernel2Ideal.Loops
public import proofs.«01_k».proof.Proof.Ffn.Block
public import Idealize.ShloMosaic.Lib.Pipeline.ValueKit
public import Idealize.ShloMosaic.Lib.Pipeline.ReadBack

/-! The loop that ends a row tile: eight bands of 128 rows, each adding the gated product to the residual and
    normalising its rows. -/

@[expose] public section

set_option maxRecDepth 16384

noncomputable section

namespace Cert.Kernel2Ideal.Ffn
open Idealize.ShloMosaic Idealize.ShloMosaic.TcCoe Idealize.SL.Sem
open Cert.Kernel2Ideal Cert.Kernel2Ideal.Gen

/-- The residual and the gated product. -/
def resid (x : FVec Ideal S1024x2048 .f32) (md : FVec Ideal S1x8x2048 .f32) (o : FVec Ideal S1024x2048 .f32) (r : Fin 1024) (k : Fin 2048) : EReal :=
  x (ix2 r k) + md (ix3 0 5 k) * o (ix2 r k)

/-- The rows of the result: the residual with the gated product, normalised and scaled. -/
def epi (x : FVec Ideal S1024x2048 .f32) (md : FVec Ideal S1x8x2048 .f32) (o : FVec Ideal S1024x2048 .f32) (fg : FVec Ideal S1x2048 .f32) :
    FVec Ideal S1024x2048 .f32 := fun y =>
  resid x md o (y 0) (y 1) * Ideal.rsqrt (Ideal.div (∑ k : Fin 2048, resid x md o (y 0) k * resid x md o (y 0) k) (Ideal.ofBits .f32 0x45000000#32) + Ideal.ofBits .f32 0x358637BD#32) * fg (ix2 0 (y 1))

/-- One band of 128 rows. -/
theorem band_value (a : FVec Ideal S128x2048 .f32) (b : FVec Ideal S1x1x2048 .f32) (o : FVec Ideal S128x2048 .f32) (d : FVec Ideal S1x2048 .f32) (r : Fin 128) (k : Fin 2048) :
    k0_pay2 (F := Ideal) a b o d (ix2 r k) =
      (a (ix2 r k) + b (ix3 0 0 k) * o (ix2 r k)) * Ideal.rsqrt (Ideal.div (∑ k : Fin 2048, (a (ix2 r k) + b (ix3 0 0 k) * o (ix2 r k)) * (a (ix2 r k) + b (ix3 0 0 k) * o (ix2 r k))) (Ideal.ofBits .f32 0x45000000#32) + Ideal.ofBits .f32 0x358637BD#32) * d (ix2 0 k) := by
  pointwise [k0_pay2]

/-- The band of trip `k` starts at row 128 k. -/
theorem off5_row : ∀ k : Fin k0_t1_loop.trips, (k0_off5 k : Fin 2 → ℕ) 0 = k.val * 128 := by decide +kernel

/-- and at the first column. -/
theorem off5_col : ∀ k : Fin k0_t1_loop.trips, (k0_off5 k : Fin 2 → ℕ) 1 = 0 := by decide +kernel

section
variable (𝒱 : Variants) (c : Dev nD) (bd : Option 𝒱.V) (i : grid0.Coords) (arg2 : Memref sig .tc .vmem S8x2048 .f32) (harg2 : arg2.IsWhole) (arg3 : Memref sig .tc .vmem S1024x2048 .f32) (harg3 : arg3.IsWhole) (arg4 : Memref sig .tc .vmem S8x2048 .f32) (harg4 : arg4.IsWhole) (arg5 : Memref sig .tc .vmem S1x8x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S3x11264 .f32) (harg10 : arg10.IsWhole) (arg11 : Memref sig .tc .vmem S1x11264 .f32) (harg11 : arg11.IsWhole) (arg12 : Memref sig .tc .vmem S1x512x2048 .bf16) (harg12 : arg12.IsWhole) (arg13 : Memref sig .tc .vmem S1024x2048 .f32) (harg13 : arg13.IsWhole) (arg14 : Memref sig .tc .vmem S1040x2048 .bf16) (harg14 : arg14.IsWhole) (arg15 : Memref sig .tc .vmem S1040x512 .f32) (harg15 : arg15.IsWhole) (arg16 : Memref sig .tc .vmem S1040x512 .f32) (harg16 : arg16.IsWhole) (arg17 : Memref sig .tc .vmem S1024x512 .bf16) (harg17 : arg17.IsWhole) (k0_h2 : k0_cond2 i = 1#1)

/-- What one trip of the loop stores. -/
theorem trip_pieces (X_arg3 : BufTy.Contents (Elt Ideal) arg3.view.ty) (X_arg5 : BufTy.Contents (Elt Ideal) arg5.view.ty) (X_arg7 : BufTy.Contents (Elt Ideal) arg7.view.ty)
    (k : Fin k0_t1_loop.trips) (f : BufTy.Contents (Elt Ideal) arg13.view.ty) :
    (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X_arg3 X_arg5 X_arg7 k).1 f
    = [⟨Rect.unit (s := S1024x2048) (k0_off5 k) ![128, 2048] (k0_off5_inb i k k0_h2),
        k0_pay2
          (View.readAt (Elt Ideal) arg3.view (Rect.unit (s := S1024x2048) (k0_off5 k) ![128, 2048] (k0_off5_inb i k k0_h2)).toLoadRect X_arg3)
          (View.readAt (Elt Ideal) arg5.view (Rect.unit (s := S1x8x2048) ![0, 5, 0] ![1, 1, 2048] inb_S1x8x2048_S1x1x2048_0_5_0).toLoadRect X_arg5)
          (View.readAt (Elt Ideal) arg13.view (Rect.unit (s := S1024x2048) (k0_off5 k) ![128, 2048] (k0_off5_inb i k k0_h2)).toLoadRect f)
          (View.readAt (Elt Ideal) arg7.view (Rect.unit (s := S1x2048) ![0, 0] ![1, 2048] inb_S1x2048_S1x2048_0_0).toLoadRect X_arg7)⟩] := by
  unfold trip_k0_t1
  rfl

/-- After `n` trips the first `n` bands hold the result and the other rows are as the loop found them. -/
theorem bands (x : FVec Ideal S1024x2048 .f32) (md : FVec Ideal S1x8x2048 .f32) (fg : FVec Ideal S1x2048 .f32)
    (L : List (View.Piece (Elt Ideal) S1024x2048 .f32)) (B : FVec Ideal S1024x2048 .f32) (hB : View.canon L = B) (n : ℕ) (hn : n ≤ 8) (y : S1024x2048.Idx) :
    View.canon (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 (harg3.unread x) (harg5.unread md) (harg7.unread fg) (arg13.view.writes (Elt Ideal) arg13.view.junk L) n ++ L) y
    = if (y 0).val < n * 128 then epi x md B fg y else B y := by
  induction n generalizing y with
  | zero =>
    rw [← hB]
    rfl
  | succ n ih =>
    have ht : k0_t1_loop.trips = 8 := by decide
    have hs := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 (harg3.unread x) (harg5.unread md) (harg7.unread fg) (arg13.view.writes (Elt Ideal) arg13.view.junk L) ⟨n, by omega⟩
    dsimp only at hs
    rw [hs, tripL_k0_t1, trip_pieces, List.append_assoc, List.singleton_append]
    clear hs
    replace ih := fun (r : Fin 1024) (k : Fin 2048) => ih (by omega) (ix2 r k)
    rw [← View.writes_append]
    generalize pb_k0_t1 (F := Ideal) _ _ _ _ _ _ _ _ _ _ _ _ _ _ _ _ _ _ _ _ _ _ _ _ _ _ _ _ _ _ _ _ _ _ _ _ _ _ _ _ _ _ ++ L = P at ih ⊢
    change ∀ (r : Fin 1024) (k : Fin 2048), View.canon P (ix2 r k) = if r.val < n * 128 then epi x md B fg (ix2 r k) else B (ix2 r k) at ih
    have h00 : (k0_off5 ⟨n, by omega⟩ : Fin 2 → ℕ) 0 = n * 128 := off5_row ⟨n, by omega⟩
    have h01 : (k0_off5 ⟨n, by omega⟩ : Fin 2 → ℕ) 1 = 0 := off5_col ⟨n, by omega⟩
    idx_vars y
    show _ = if y0.val < (n + 1) * 128 then epi x md B fg (ix2 y0 y1) else B (ix2 y0 y1)
    by_cases hy : n * 128 ≤ y0.val ∧ y0.val < n * 128 + 128
    · have hin : ix2 y0 y1 = (Rect.unit (s := S1024x2048) (k0_off5 ⟨n, by omega⟩) ![128, 2048] (k0_off5_inb i ⟨n, by omega⟩ k0_h2)).emb (ix2 (⟨y0.val - n * 128, by omega⟩ : Fin 128) y1) := by
        funext a
        apply Fin.ext
        fin_cases a
        · show y0.val = (k0_off5 ⟨n, by omega⟩ : Fin 2 → ℕ) 0 + 1 * (y0.val - n * 128)
          omega
        · show y1.val = (k0_off5 ⟨n, by omega⟩ : Fin 2 → ℕ) 1 + 1 * y1.val
          omega
      rw [hin, View.canon_cons_emb, ← hin, if_pos (show y0.val < (n + 1) * 128 by omega)]
      have ea : ∀ k : Fin 2048, (Rect.unit (s := S1024x2048) (k0_off5 ⟨n, by omega⟩) ![128, 2048] (k0_off5_inb i ⟨n, by omega⟩ k0_h2)).toLoadRect.idx (ix2 (⟨y0.val - n * 128, by omega⟩ : Fin 128) k) = ix2 y0 k := by
        intro k
        funext a
        apply Fin.ext
        fin_cases a
        · show (k0_off5 ⟨n, by omega⟩ : Fin 2 → ℕ) 0 + 1 * (y0.val - n * 128) = y0.val
          omega
        · show (k0_off5 ⟨n, by omega⟩ : Fin 2 → ℕ) 1 + 1 * k.val = k.val
          omega
      refine (band_value _ _ _ _ _ _).trans ?_
      rw [View.readAt_writes_junk_eq_canon]
      simp only [View.readAt_apply, Memref.IsWhole.read_unread, ea]
      simp only [ih, if_neg (show ¬ y0.val < n * 128 by omega)]
      have eb : ∀ k : Fin 2048, (Rect.unit (s := S1x8x2048) ![0, 5, 0] ![1, 1, 2048] inb_S1x8x2048_S1x1x2048_0_5_0).toLoadRect.idx (ix3 (0 : Fin 1) (0 : Fin 1) k) = ix3 0 5 k := by
        intro k
        funext a
        apply Fin.ext
        fin_cases a
        · rfl
        · rfl
        · show 0 + 1 * k.val = k.val
          omega
      have ec : (Rect.unit (s := S1x2048) ![0, 0] ![1, 2048] inb_S1x2048_S1x2048_0_0).toLoadRect.idx (ix2 (0 : Fin 1) y1) = ix2 0 y1 := by
        funext a
        apply Fin.ext
        fin_cases a
        · rfl
        · show 0 + 1 * y1.val = y1.val
          omega
      simp only [eb]
      refine congrArg₂ (· * ·) rfl ((congrArg fg ec).trans rfl)
    · rw [View.canon_cons_of_not_mem]
      · rw [ih]
        by_cases h : y0.val < n * 128
        · rw [if_pos h, if_pos (show y0.val < (n + 1) * 128 by omega)]
        · rw [if_neg h, if_neg (show ¬ y0.val < (n + 1) * 128 by omega)]
      · intro hm
        have hm := (Rect.mem_set_unit (inb := k0_off5_inb i ⟨n, by omega⟩ k0_h2)).mp hm 0
        refine hy ⟨?_, ?_⟩
        · have : (k0_off5 ⟨n, by omega⟩ : Fin 2 → ℕ) 0 ≤ y0.val := hm.1
          omega
        · have : y0.val < (k0_off5 ⟨n, by omega⟩ : Fin 2 → ℕ) 0 + 128 := hm.2
          omega

/-- The block after the whole loop. -/
theorem bands_all (x : FVec Ideal S1024x2048 .f32) (md : FVec Ideal S1x8x2048 .f32) (fg : FVec Ideal S1x2048 .f32)
    (L : List (View.Piece (Elt Ideal) S1024x2048 .f32)) (B : FVec Ideal S1024x2048 .f32) (hB : View.canon L = B) (n : ℕ) (hn : n = 8) :
    View.canon (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 (harg3.unread x) (harg5.unread md) (harg7.unread fg) (arg13.view.writes (Elt Ideal) arg13.view.junk L) n ++ L)
    = epi x md B fg := by
  subst hn
  funext y
  refine (bands 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 x md fg L B hB 8 le_rfl y).trans (if_pos ?_)
  exact (y 0).isLt

end

variable (m : (ℓ : Loc nD τ sig) → Buf (Elt Ideal) ℓ)

/-- A last point adds its product and ends the block. -/
theorem afterC (c : Dev nD) (t : Fin cfg0.N) (h0 : ¬t.val % 11 = 0) (h1 : t.val % 11 = 10) :
    (outsAt0 m c t.val t.isLt).1 = epi (iblk m c 1 t) (iblk m c 3 t) (plusDown (outsAt0 m c (t.val - 1) (Nat.lt_of_le_of_lt (Nat.sub_le _ _) t.isLt)).1
      (tileOf m c t (outsAt0 m c (t.val - 1) (Nat.lt_of_le_of_lt (Nat.sub_le _ _) t.isLt)).2) (iblk m c 10 t)) (iblk m c 5 t) := by
  rw [outsAt0_C m c t h0 h1]
  frame_out
  simp (disch := decide) only [↓View.readCov_skip, View.readCov_fill, read_unread_whole, gated_read]
  generalize hL : (_ :: _ : List (View.Piece (Elt Ideal) S1024x2048 .f32)) = L
  have hB : View.canon L = plusDown (outsAt0 m c (t.val - 1) (Nat.lt_of_le_of_lt (Nat.sub_le _ _) t.isLt)).1
      (tileOf m c t (outsAt0 m c (t.val - 1) (Nat.lt_of_le_of_lt (Nat.sub_le _ _) t.isLt)).2) (iblk m c 10 t) := by
    rw [← hL]
    exact down_stores _ _ _ []
  clear hL
  exact bands_all (hB := hB) (hn := rfl) ..

/-- and leaves the hidden rows as they are. -/
theorem afterC2 (c : Dev nD) (t : Fin cfg0.N) (h0 : ¬t.val % 11 = 0) (h1 : t.val % 11 = 10) :
    (outsAt0 m c t.val t.isLt).2 = (outsAt0 m c (t.val - 1) (Nat.lt_of_le_of_lt (Nat.sub_le _ _) t.isLt)).2 := by
  rw [outsAt0_C m c t h0 h1]
  rfl

end Cert.Kernel2Ideal.Ffn
-- ==== Proof.Ffn.Windows.lean ====
module

public import proofs.«01_k».proof.Proof.Ffn.Loop
public import proofs.«01_k».proof.Proof.Ffn.Spec

/-! What each input block of a grid point of the feed-forward kernel holds, in coordinates of its array. -/

@[expose] public section

set_option maxRecDepth 16384

noncomputable section

namespace Cert.Kernel2Ideal.Ffn

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- The block every window sits at, at every grid point. -/
theorem idx : ∀ t : Fin cfg0.N, win0_0.index t = ![t.val / 11 * 128 - 1, 0] ∧ win0_1.index t = ![t.val / 11, 0]
    ∧ win0_2.index t = ![min (t.val / 11 * 128 + 128) 2047, 0] ∧ win0_3.index t = ![t.val / 44, 0, 0]
    ∧ win0_4.index t = ![0, 0] ∧ win0_5.index t = ![0, 0] ∧ win0_6.index t = ![3, 0, t.val % 11]
    ∧ win0_7.index t = ![3, 0, 11 + t.val % 11] ∧ win0_8.index t = ![0, 0] ∧ win0_9.index t = ![0, 0]
    ∧ win0_10.index t = ![3, t.val % 11, 0] ∧ win0_11.index t = ![t.val / 11, 0] :=
  (by decide +kernel : ∀ t : Fin grid0.N, _)

/-- There are 176 grid points. -/
theorem lt176 (t : Fin cfg0.N) : t.val < 176 := t.isLt

/-- The first grid coordinate. -/
theorem coord0 : ∀ t : Fin cfg0.N, (grid0.coords t 0).val = t.val / 11 := (by decide +kernel : ∀ t : Fin grid0.N, _)

/-- The columns of a point's weights and biases. -/
theorem offs : ∀ t : Fin cfg0.N, k0_off1 (grid0.coords t) = ![0, t.val % 11 * 512] ∧ k0_off2 (grid0.coords t) = ![0, t.val % 11 * 512]
    ∧ k0_off3 (grid0.coords t) = ![0, 5632 + t.val % 11 * 512] ∧ k0_off4 (grid0.coords t) = ![0, 5632 + t.val % 11 * 512] :=
  (by decide +kernel : ∀ t : Fin grid0.N, _)

/-- The residual stream of the run. -/
abbrev arr0 (c : Dev nD) : FVec Ideal S16384x2048 .f32 := m ((c : Thread nD τ).loc main_arg0)
/-- The modulations. -/
abbrev arr1 (c : Dev nD) : FVec Ideal S4x8x2048 .f32 := m ((c : Thread nD τ).loc main_arg1)
/-- The norm's gains. -/
abbrev arr2 (c : Dev nD) : FVec Ideal S2048 .f32 := m ((c : Thread nD τ).loc main_arg2)
/-- The up projections. -/
abbrev arr3 (c : Dev nD) : FVec Ideal S4x2048x11264 .bf16 := m ((c : Thread nD τ).loc main_arg3)
/-- The taps. -/
abbrev arr4 (c : Dev nD) : FVec Ideal S3x11264 .f32 := m ((c : Thread nD τ).loc main_arg4)
/-- The biases. -/
abbrev arr5 (c : Dev nD) : FVec Ideal S11264 .f32 := m ((c : Thread nD τ).loc main_arg5)
/-- The down projections. -/
abbrev arr6 (c : Dev nD) : FVec Ideal S4x5632x2048 .bf16 := m ((c : Thread nD τ).loc main_arg6)
/-- The last norm's gains. -/
abbrev arr7 (c : Dev nD) : FVec Ideal S2048 .f32 := m ((c : Thread nD τ).loc main_arg7)

/-- The eight rows before the tile. -/
theorem read0 (c : Dev nD) (t : Fin cfg0.N) (r : Fin 8) (k : Fin 2048) :
    (iblk m c 0 t : Vec Ideal S8x2048 .f32) (ix2 r k)
      = arr0 m c (ix2 ⟨(t.val / 11 * 128 - 1) * 8 + r.val, by have := lt176 t; omega⟩ k) := by
  blk_ext [iblk, V, idx t]

/-- The tile. -/
theorem read1 (c : Dev nD) (t : Fin cfg0.N) (r : Fin 1024) (k : Fin 2048) :
    (iblk m c 1 t : Vec Ideal S1024x2048 .f32) (ix2 r k)
      = arr0 m c (ix2 ⟨t.val / 11 * 1024 + r.val, by have := lt176 t; omega⟩ k) := by
  blk_ext [iblk, V, idx t]

/-- The eight rows after the tile. -/
theorem read2 (c : Dev nD) (t : Fin cfg0.N) (r : Fin 8) (k : Fin 2048) :
    (iblk m c 2 t : Vec Ideal S8x2048 .f32) (ix2 r k)
      = arr0 m c (ix2 ⟨min (t.val / 11 * 128 + 128) 2047 * 8 + r.val, by have := lt176 t; omega⟩ k) := by
  blk_ext [iblk, V, idx t]

/-- The sample's modulations. -/
theorem read3 (c : Dev nD) (t : Fin cfg0.N) (a : Fin 8) (k : Fin 2048) :
    (iblk m c 3 t : Vec Ideal S1x8x2048 .f32) (ix3 0 a k)
      = arr1 m c (ix3 ⟨t.val / 44, by have := lt176 t; omega⟩ a k) := by
  blk_ext [iblk, V, idx t]

/-- The norm's gains. -/
theorem read4 (c : Dev nD) (t : Fin cfg0.N) (k : Fin 2048) :
    (iblk m c 4 t : Vec Ideal S1x2048 .f32) (ix2 0 k) = arr2 m c (ix1 k) := by
  blk_simp [iblk, idx t]
  entry_read
  pointwise
  refine congrArg (fun k => arr2 m c (ix1 k)) (Fin.ext ?_)
  have h : ((win0_4.blk t).view.emb (ix2 0 k) 1).val = k.val := by blk_simp [idx t]
  exact h

/-- The last norm's gains. -/
theorem read5 (c : Dev nD) (t : Fin cfg0.N) (k : Fin 2048) :
    (iblk m c 5 t : Vec Ideal S1x2048 .f32) (ix2 0 k) = arr7 m c (ix1 k) := by
  blk_simp [iblk, idx t]
  entry_read
  pointwise
  refine congrArg (fun k => arr7 m c (ix1 k)) (Fin.ext ?_)
  have h : ((win0_5.blk t).view.emb (ix2 0 k) 1).val = k.val := by blk_simp [idx t]
  exact h

/-- The gate's columns of the up projection. -/
theorem read6 (c : Dev nD) (t : Fin cfg0.N) (k : Fin 2048) (n : Fin 512) :
    (iblk m c 6 t : Vec Ideal S1x2048x512 .bf16) (ix3 0 k n)
      = arr3 m c (ix3 3 k ⟨t.val % 11 * 512 + n.val, by omega⟩) := by
  blk_ext [iblk, V, idx t]

/-- The value's columns of the up projection. -/
theorem read7 (c : Dev nD) (t : Fin cfg0.N) (k : Fin 2048) (n : Fin 512) :
    (iblk m c 7 t : Vec Ideal S1x2048x512 .bf16) (ix3 0 k n)
      = arr3 m c (ix3 3 k ⟨(11 + t.val % 11) * 512 + n.val, by omega⟩) := by
  blk_ext [iblk, V, idx t]

/-- The taps. -/
theorem read8 (c : Dev nD) (t : Fin cfg0.N) (a : Fin 3) (n : Fin 11264) :
    (iblk m c 8 t : Vec Ideal S3x11264 .f32) (ix2 a n) = arr4 m c (ix2 a n) := by
  blk_ext [iblk, V, idx t]

/-- The biases. -/
theorem read9 (c : Dev nD) (t : Fin cfg0.N) (n : Fin 11264) :
    (iblk m c 9 t : Vec Ideal S1x11264 .f32) (ix2 0 n) = arr5 m c (ix1 n) := by
  blk_simp [iblk, idx t]
  entry_read
  pointwise
  refine congrArg (fun k => arr5 m c (ix1 k)) (Fin.ext ?_)
  have h : ((win0_9.blk t).view.emb (ix2 0 n) 1).val = n.val := by blk_simp [idx t]
  exact h

/-- The rows of the down projection. -/
theorem read10 (c : Dev nD) (t : Fin cfg0.N) (n : Fin 512) (k : Fin 2048) :
    (iblk m c 10 t : Vec Ideal S1x512x2048 .bf16) (ix3 0 n k)
      = arr6 m c (ix3 3 ⟨t.val % 11 * 512 + n.val, by omega⟩ k) := by
  blk_ext [iblk, V, idx t]

end Cert.Kernel2Ideal.Ffn
-- ==== Proof.Ffn.Rows.lean ====
module

public import proofs.«01_k».proof.Proof.Ffn.Spec

/-! The tiles of the feed-forward layer: a row tile's buffer of normalised rows, their up projections, the parts of the
    down projection by column tile, and the sequence of grid points that adds them up. -/

@[expose] public section

noncomputable section

namespace Cert.Ffn

open Idealize.ShloMosaic

variable (L : Fin 4) (x : FVec Ideal (⟨2, ![16384, 2048]⟩ : Shape) .f32) (md : FVec Ideal (⟨3, ![4, 8, 2048]⟩ : Shape) .f32)
  (g : FVec Ideal (⟨1, ![2048]⟩ : Shape) .f32) (wu : FVec Ideal (⟨3, ![4, 2048, 11264]⟩ : Shape) .bf16)
  (cw : FVec Ideal (⟨2, ![3, 11264]⟩ : Shape) .f32) (cb : FVec Ideal (⟨1, ![11264]⟩ : Shape) .f32)
  (wd : FVec Ideal (⟨3, ![4, 5632, 2048]⟩ : Shape) .bf16)

/-- The hidden rows of tile `i`: its 1024 rows, the eight before and the eight after, zero outside the sample. -/
def rowsExt (i : Fin 16) : FVec Ideal (⟨2, ![1040, 2048]⟩ : Shape) .bf16 := fun y =>
  if h : 8 ≤ i.val % 4 * 1024 + (y 0).val ∧ i.val % 4 * 1024 + (y 0).val < 4104 then
    hid x md g ⟨i.val * 1024 + (y 0).val - 8, by have := i.isLt; omega⟩ (y 1) else 0

/-- A buffer row inside the sample. -/
theorem rowsExt_in (i : Fin 16) (ρ : Fin 1040) (k : Fin 2048) (r : Fin 16384) (hr : r.val + 8 = i.val * 1024 + ρ.val) (hs : r.val / 4096 = i.val / 4) :
    rowsExt x md g i (ix2 ρ k) = hid x md g r k := by
  refine (dif_pos (show 8 ≤ i.val % 4 * 1024 + ρ.val ∧ i.val % 4 * 1024 + ρ.val < 4104 by omega)).trans ?_
  exact congrArg (fun r => hid x md g r k) (Fin.ext (by show i.val * 1024 + ρ.val - 8 = r.val; omega))

/-- A buffer row outside the sample. -/
theorem rowsExt_out (i : Fin 16) (ρ : Fin 1040) (k : Fin 2048) (h : ¬ (8 ≤ i.val % 4 * 1024 + ρ.val ∧ i.val % 4 * 1024 + ρ.val < 4104)) :
    rowsExt x md g i (ix2 ρ k) = 0 := dif_neg h

/-- A row of a tile in the whole array. -/
abbrev rowOf (i : Fin 16) (r : Fin 1024) : Fin 16384 := ⟨i.val * 1024 + r.val, by omega⟩

/-- The up projection of a buffer row inside the sample. -/
theorem up_in (i : Fin 16) (ρ : Fin 1040) (N : Fin 11264) (r : Fin 16384) (hr : r.val + 8 = i.val * 1024 + ρ.val) (hs : r.val / 4096 = i.val / 4) :
    ∑ k : Fin 2048, rowsExt x md g i (ix2 ρ k) * wu (ix3 L k N) = up L x md g wu r N :=
  Finset.sum_congr rfl fun k _ => congrArg (· * _) (rowsExt_in x md g i ρ k r hr hs)

/-- The up projection of a buffer row outside the sample. -/
theorem up_out (i : Fin 16) (ρ : Fin 1040) (N : Fin 11264) (h : ¬ (8 ≤ i.val % 4 * 1024 + ρ.val ∧ i.val % 4 * 1024 + ρ.val < 4104)) :
    (∑ k : Fin 2048, rowsExt x md g i (ix2 ρ k) * wu (ix3 L k N) : EReal) = 0 :=
  Finset.sum_eq_zero fun k _ => (congrArg (· * _) (rowsExt_out x md g i ρ k h)).trans (zero_mul _)

/-- The part of a down projection that column block `j` gives. -/
def part (i : Fin 16) (j : ℕ) (r : Fin 1024) (k : Fin 2048) : EReal :=
  if h : j < 11 then ∑ n : Fin 512, act L x md g wu cw cb (rowOf i r) ⟨j * 512 + n.val, by omega⟩
    * wd (ix3 L ⟨j * 512 + n.val, by omega⟩ k) else 0

/-- All parts together are the down projection. -/
theorem parts_all (i : Fin 16) (r : Fin 1024) (k : Fin 2048) :
    ∑ j ∈ Finset.range 11, part L x md g wu cw cb wd i j r k = down L x md g wu cw cb wd (rowOf i r) k := by
  rw [Finset.sum_range]
  unfold down
  refine Eq.trans (Finset.sum_congr rfl fun s _ => (dif_pos s.isLt).trans rfl) (Fin.sum_mul_add_congr (fun s n _ => rfl))

/-- Blocks and buffers left by 176 points, 11 to a row tile: where a first point stores its tile's buffer and part, a
    middle point adds its part, and no other point changes the buffer, the points before the last of a tile hold the sum of the
    parts so far. -/
theorem leaves {κ : Type} (P : Fin 16 → ℕ → κ → EReal) {H : Type} (B : Fin 16 → H) (o : ∀ n, n < 176 → κ → EReal) (u : ∀ n, n < 176 → H)
    (ha : ∀ n hn, n % 11 = 0 → u n hn = B ⟨n / 11, by omega⟩ ∧ ∀ q, o n hn q = 0 + P ⟨n / 11, by omega⟩ (n % 11) q)
    (hb : ∀ n hn, ¬(n + 1) % 11 = 0 → ¬(n + 1) % 11 = 10 → u n (by omega) = B ⟨(n + 1) / 11, by omega⟩ →
      ∀ q, o (n + 1) hn q = o n (by omega) q + P ⟨(n + 1) / 11, by omega⟩ ((n + 1) % 11) q)
    (hu : ∀ n hn, ¬(n + 1) % 11 = 0 → u (n + 1) hn = u n (by omega)) (n : ℕ) : ∀ hn : n < 176,
    u n hn = B ⟨n / 11, by omega⟩ ∧ (n % 11 ≠ 10 → ∀ q, o n hn q = ∑ j ∈ Finset.range (n % 11 + 1), P ⟨n / 11, by omega⟩ j q) := by
  have first : ∀ n hn, n % 11 = 0 → u n hn = B ⟨n / 11, by omega⟩
      ∧ (n % 11 ≠ 10 → ∀ q, o n hn q = ∑ j ∈ Finset.range (n % 11 + 1), P ⟨n / 11, by omega⟩ j q) := by
    intro n hn h0
    refine ⟨(ha n hn h0).1, fun _ q => ?_⟩
    rw [(ha n hn h0).2 q, h0, Finset.sum_range_one, zero_add]
  induction n with
  | zero => exact fun hn => first 0 hn rfl
  | succ n ih =>
    intro hn
    by_cases h0 : (n + 1) % 11 = 0
    · exact first (n + 1) hn h0
    · obtain ⟨p2, p1⟩ := ih (by omega)
      have e : n / 11 = (n + 1) / 11 := by omega
      have ej : n % 11 + 1 = (n + 1) % 11 := by omega
      simp only [e, ej] at p2 p1
      refine ⟨(hu n hn h0).trans p2, fun h1 q => ?_⟩
      rw [hb n hn h0 h1 p2 q, p1 (by omega), Finset.sum_range_succ]

end Cert.Ffn
-- ==== Proof.Ffn.Hidden.lean ====
module

public import proofs.«01_k».proof.Proof.Ffn.Windows
public import proofs.«01_k».proof.Proof.Ffn.Rows

/-! The hidden rows of a row tile: 1024 normalised rows with the eight before and the eight after them, zero where
    they lie outside the sample. -/

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen
open Cert.Ffn (invRms hid rowsExt rowsExt_in rowsExt_out)

theorem pay6_at (S G : FVec Ideal S1x2048 .f32) (X : Vec Ideal S256x2048 .f32) (r : Fin 256) (k : Fin 2048) :
    k0_pay6 S G X (ix2 r k) = X (ix2 r k) * invRms (fun k => X (ix2 r k)) * G (ix2 0 k) + S (ix2 0 k) := by
  unfold invRms
  pointwise [k0_pay6]

theorem pay7_at (S G : FVec Ideal S1x2048 .f32) (X : Vec Ideal S256x2048 .f32) (r : Fin 256) (k : Fin 2048) :
    k0_pay7 S G X (ix2 r k) = X (ix2 r k) * invRms (fun k => X (ix2 r k)) * G (ix2 0 k) + S (ix2 0 k) := by
  unfold invRms
  pointwise [k0_pay7]

theorem pay8_at (S G : FVec Ideal S1x2048 .f32) (X : Vec Ideal S256x2048 .f32) (r : Fin 256) (k : Fin 2048) :
    k0_pay8 S G X (ix2 r k) = X (ix2 r k) * invRms (fun k => X (ix2 r k)) * G (ix2 0 k) + S (ix2 0 k) := by
  unfold invRms
  pointwise [k0_pay8]

theorem pay11_at (S G : FVec Ideal S1x2048 .f32) (X : Vec Ideal S256x2048 .f32) (r : Fin 256) (k : Fin 2048) :
    k0_pay11 S G X (k0_pay9 X) k0_pay10 (ix2 r k) = X (ix2 r k) * invRms (fun k => X (ix2 r k)) * G (ix2 0 k) + S (ix2 0 k) := by
  unfold invRms
  pointwise [k0_pay11, k0_pay9, k0_pay10]

theorem pay5_at (S G : FVec Ideal S1x2048 .f32) (b : BitVec 1) (X : Vec Ideal S8x2048 .f32) (r : Fin 8) (k : Fin 2048) :
    k0_pay5 S G b X (ix2 r k) = if b = 1#1 then 0 else X (ix2 r k) * invRms (fun k => X (ix2 r k)) * G (ix2 0 k) + S (ix2 0 k) := by
  unfold invRms
  rcases (by decide : ∀ b : BitVec 1, b = 1#1 ∨ b = 0#1) b with rfl | rfl
  · pointwise [k0_pay5]
  · rw [if_neg (by decide)]
    pointwise [k0_pay5]

theorem pay12_at (S G : FVec Ideal S1x2048 .f32) (b : BitVec 1) (X : Vec Ideal S8x2048 .f32) (r : Fin 8) (k : Fin 2048) :
    k0_pay12 S G b X (ix2 r k) = if b = 1#1 then 0 else X (ix2 r k) * invRms (fun k => X (ix2 r k)) * G (ix2 0 k) + S (ix2 0 k) := by
  unfold invRms
  rcases (by decide : ∀ b : BitVec 1, b = 1#1 ∨ b = 0#1) b with rfl | rfl
  · pointwise [k0_pay12]
  · rw [if_neg (by decide)]
    pointwise [k0_pay12]

/-- Whether the row at `n` tiles from the start begins a sample, as the kernel computes it. -/
abbrev startsAt (i : BitVec 32) : BitVec 1 :=
  Scalar.cmpi .eq (Scalar.select (Scalar.andi (Scalar.xori (Scalar.cmpi .slt (Scalar.remsi (Scalar.muli i 1024#32) 4096#32) 0#32) 0#1)
    (Scalar.cmpi .ne (Scalar.remsi (Scalar.muli i 1024#32) 4096#32) 0#32)) (Scalar.addi (Scalar.remsi (Scalar.muli i 1024#32) 4096#32) 4096#32)
    (Scalar.remsi (Scalar.muli i 1024#32) 4096#32)) 0#32

theorem starts_first : ∀ i : Fin 16, (startsAt (BitVec.ofNat 32 i.val) = 1#1) ↔ (i.val % 4 = 0) := by decide +kernel
theorem starts_next : ∀ i : Fin 16, (startsAt (Scalar.addi (BitVec.ofNat 32 i.val) 1#32) = 1#1) ↔ (i.val % 4 = 3) := by decide +kernel

/-- The shift among a sample's modulations. -/
abbrev shiftOf (B3 : FVec Ideal S1x8x2048 .f32) : FVec Ideal S1x2048 .f32 :=
  k0_pay3 (View.ld (Val := Elt Ideal) (e' := .f32) B3 (Rect.unit (s := S1x8x2048) ![0, 3, 0] ![1, 1, 2048] inb_S1x8x2048_S1x1x2048_0_3_0))

/-- The gains with a sample's scale. -/
abbrev gainOf (B3 : FVec Ideal S1x8x2048 .f32) (B4 : FVec Ideal S1x2048 .f32) : FVec Ideal S1x2048 .f32 :=
  k0_pay4 B4 (View.ld (Val := Elt Ideal) (e' := .f32) B3 (Rect.unit (s := S1x8x2048) ![0, 4, 0] ![1, 1, 2048] inb_S1x8x2048_S1x1x2048_0_4_0))

theorem shift_at (B3 : FVec Ideal S1x8x2048 .f32) (k : Fin 2048) : shiftOf B3 (ix2 0 k) = B3 (ix3 0 3 k) := by
  pointwise [k0_pay3]

theorem gain_at (B3 : FVec Ideal S1x8x2048 .f32) (B4 : FVec Ideal S1x2048 .f32) (k : Fin 2048) :
    gainOf B3 B4 (ix2 0 k) = B4 (ix2 0 k) * (1 + B3 (ix3 0 4 k)) := by
  pointwise [k0_pay4]

/-- What the blocks of a first point of row tile `i` hold. -/
structure Blocks (x : FVec Ideal S16384x2048 .f32) (md : FVec Ideal S4x8x2048 .f32) (g : FVec Ideal S2048 .f32) (i : Fin 16)
    (B0 : FVec Ideal S8x2048 .f32) (B1 : FVec Ideal S1024x2048 .f32) (B2 : FVec Ideal S8x2048 .f32) (B3 : FVec Ideal S1x8x2048 .f32)
    (B4 : FVec Ideal S1x2048 .f32) : Prop where
  before : ∀ (r : Fin 8) (k : Fin 2048), B0 (ix2 r k) = x (ix2 ⟨(i.val * 128 - 1) * 8 + r.val, by omega⟩ k)
  tile : ∀ (r : Fin 1024) (k : Fin 2048), B1 (ix2 r k) = x (ix2 ⟨i.val * 1024 + r.val, by omega⟩ k)
  behind : ∀ (r : Fin 8) (k : Fin 2048), B2 (ix2 r k) = x (ix2 ⟨min (i.val * 128 + 128) 2047 * 8 + r.val, by omega⟩ k)
  mods : ∀ (a : Fin 8) (k : Fin 2048), B3 (ix3 0 a k) = md (ix3 ⟨i.val / 4, by omega⟩ a k)
  gains : ∀ k : Fin 2048, B4 (ix2 0 k) = g (ix1 k)

variable {x : FVec Ideal S16384x2048 .f32} {md : FVec Ideal S4x8x2048 .f32} {g : FVec Ideal S2048 .f32} {i : Fin 16}
  {B0 : FVec Ideal S8x2048 .f32} {B1 : FVec Ideal S1024x2048 .f32} {B2 : FVec Ideal S8x2048 .f32} {B3 : FVec Ideal S1x8x2048 .f32}
  {B4 : FVec Ideal S1x2048 .f32} (hB : Blocks x md g i B0 B1 B2 B3 B4)
include hB

/-- A normalised row, from a row of a block. -/
theorem hid_eq (r : Fin 16384) (k : Fin 2048) (X : Fin 2048 → EReal) (hX : ∀ k, X k = x (ix2 r k)) (hs : r.val / 4096 = i.val / 4) :
    X k * invRms X * gainOf B3 B4 (ix2 0 k) + shiftOf B3 (ix2 0 k) = hid x md g r k := by
  obtain rfl : X = fun k => x (ix2 r k) := funext hX
  rw [gain_at, shift_at, hB.mods, hB.mods, hB.gains]
  have e : (⟨i.val / 4, by omega⟩ : Fin 4) = Cert.Ffn.sample r := Fin.ext hs.symm
  rw [e]
  rfl

/-- A band of the tile's rows. -/
theorem band_at (off : ℕ) (ho : off + 256 ≤ 1024) (inb : ∀ a, (![off, 0] : Fin 2 → ℕ) a + S256x2048.size a ≤ S1024x2048.size a) (r : Fin 256) (k : Fin 2048) :
    View.ld (Val := Elt Ideal) (e' := .f32) B1 (Rect.unit (s := S1024x2048) ![off, 0] ![256, 2048] inb) (ix2 r k)
      = x (ix2 ⟨i.val * 1024 + off + r.val, by omega⟩ k) := by
  refine Eq.trans ?_ ((hB.tile ⟨off + r.val, by omega⟩ k).trans (congrArg (fun r => x (ix2 r k)) (Fin.ext ?_)))
  · pointwise
  · dsimp only; omega

/-- Rows 776 to 1031 of the buffer. -/
theorem rows776 (r : Fin 256) (k : Fin 2048) :
    k0_pay11 (shiftOf B3) (gainOf B3 B4) (View.ld (Val := Elt Ideal) (e' := .f32) B1 (Rect.unit (s := S1024x2048) ![768, 0] ![256, 2048] inb_S1024x2048_S256x2048_768_0)) (k0_pay9 (View.ld (Val := Elt Ideal) (e' := .f32) B1 (Rect.unit (s := S1024x2048) ![768, 0] ![256, 2048] inb_S1024x2048_S256x2048_768_0))) k0_pay10 (ix2 r k)
      = rowsExt x md g i (ix2 ⟨776 + r.val, by omega⟩ k) := by
  refine (pay11_at _ _ _ r k).trans ?_
  refine (hid_eq hB ⟨i.val * 1024 + 768 + r.val, by omega⟩ k (fun k => (View.ld (Val := Elt Ideal) (e' := .f32) B1 (Rect.unit (s := S1024x2048) ![768, 0] ![256, 2048] inb_S1024x2048_S256x2048_768_0)) (ix2 r k)) (fun k => band_at hB 768 (by omega) _ r k) (by dsimp only; omega)).trans ?_
  exact (rowsExt_in x md g _ _ _ _ (by dsimp only; omega) (by dsimp only; omega)).symm

/-- Rows 520 to 775 of the buffer. -/
theorem rows520 (r : Fin 256) (k : Fin 2048) :
    k0_pay8 (shiftOf B3) (gainOf B3 B4) (View.ld (Val := Elt Ideal) (e' := .f32) B1 (Rect.unit (s := S1024x2048) ![512, 0] ![256, 2048] inb_S1024x2048_S256x2048_512_0)) (ix2 r k)
      = rowsExt x md g i (ix2 ⟨520 + r.val, by omega⟩ k) := by
  refine (pay8_at _ _ _ r k).trans ?_
  refine (hid_eq hB ⟨i.val * 1024 + 512 + r.val, by omega⟩ k (fun k => (View.ld (Val := Elt Ideal) (e' := .f32) B1 (Rect.unit (s := S1024x2048) ![512, 0] ![256, 2048] inb_S1024x2048_S256x2048_512_0)) (ix2 r k)) (fun k => band_at hB 512 (by omega) _ r k) (by dsimp only; omega)).trans ?_
  exact (rowsExt_in x md g _ _ _ _ (by dsimp only; omega) (by dsimp only; omega)).symm

/-- Rows 264 to 519 of the buffer. -/
theorem rows264 (r : Fin 256) (k : Fin 2048) :
    k0_pay7 (shiftOf B3) (gainOf B3 B4) (View.ld (Val := Elt Ideal) (e' := .f32) B1 (Rect.unit (s := S1024x2048) ![256, 0] ![256, 2048] inb_S1024x2048_S256x2048_256_0)) (ix2 r k)
      = rowsExt x md g i (ix2 ⟨264 + r.val, by omega⟩ k) := by
  refine (pay7_at _ _ _ r k).trans ?_
  refine (hid_eq hB ⟨i.val * 1024 + 256 + r.val, by omega⟩ k (fun k => (View.ld (Val := Elt Ideal) (e' := .f32) B1 (Rect.unit (s := S1024x2048) ![256, 0] ![256, 2048] inb_S1024x2048_S256x2048_256_0)) (ix2 r k)) (fun k => band_at hB 256 (by omega) _ r k) (by dsimp only; omega)).trans ?_
  exact (rowsExt_in x md g _ _ _ _ (by dsimp only; omega) (by dsimp only; omega)).symm

/-- Rows 8 to 263 of the buffer. -/
theorem rows8 (r : Fin 256) (k : Fin 2048) :
    k0_pay6 (shiftOf B3) (gainOf B3 B4) (View.ld (Val := Elt Ideal) (e' := .f32) B1 (Rect.unit (s := S1024x2048) ![0, 0] ![256, 2048] inb_S1024x2048_S256x2048_0_0)) (ix2 r k)
      = rowsExt x md g i (ix2 ⟨8 + r.val, by omega⟩ k) := by
  refine (pay6_at _ _ _ r k).trans ?_
  refine (hid_eq hB ⟨i.val * 1024 + 0 + r.val, by omega⟩ k (fun k => (View.ld (Val := Elt Ideal) (e' := .f32) B1 (Rect.unit (s := S1024x2048) ![0, 0] ![256, 2048] inb_S1024x2048_S256x2048_0_0)) (ix2 r k)) (fun k => band_at hB 0 (by omega) _ r k) (by dsimp only; omega)).trans ?_
  exact (rowsExt_in x md g _ _ _ _ (by dsimp only; omega) (by dsimp only; omega)).symm

/-- The eight rows after the tile. -/
theorem rows1032 (r : Fin 8) (k : Fin 2048) :
    k0_pay12 (shiftOf B3) (gainOf B3 B4) (startsAt (Scalar.addi (BitVec.ofNat 32 i.val) 1#32)) B2 (ix2 r k)
      = rowsExt x md g i (ix2 ⟨1032 + r.val, by omega⟩ k) := by
  refine (pay12_at _ _ _ _ r k).trans ?_
  split_ifs with hf
  · have hf := (starts_next i).mp hf
    exact (rowsExt_out x md g _ _ _ (by dsimp only at hf ⊢; omega)).symm
  · have hf := mt (starts_next i).mpr hf
    refine (hid_eq hB ⟨i.val * 1024 + 1024 + r.val, by omega⟩ k (fun k => B2 (ix2 r k)) (fun k => ?_) (by dsimp only; omega)).trans ?_
    · rw [hB.behind]
      refine congrArg (fun r => x (ix2 r k)) (Fin.ext ?_); dsimp only; omega
    · exact (rowsExt_in x md g _ _ _ _ (by dsimp only; omega) (by dsimp only; omega)).symm

/-- The eight rows before the tile. -/
theorem rows0 (r : Fin 8) (k : Fin 2048) :
    k0_pay5 (shiftOf B3) (gainOf B3 B4) (startsAt (BitVec.ofNat 32 i.val)) B0 (ix2 r k)
      = rowsExt x md g i (ix2 ⟨r.val, by omega⟩ k) := by
  refine (pay5_at _ _ _ _ r k).trans ?_
  split_ifs with hf
  · have hf := (starts_first i).mp hf
    exact (rowsExt_out x md g _ _ _ (by dsimp only at hf ⊢; omega)).symm
  · have hf := mt (starts_first i).mpr hf
    refine (hid_eq hB ⟨i.val * 1024 - 8 + r.val, by omega⟩ k (fun k => B0 (ix2 r k)) (fun k => ?_) (by dsimp only; omega)).trans ?_
    · rw [hB.before]
      refine congrArg (fun r => x (ix2 r k)) (Fin.ext ?_); dsimp only; omega
    · exact (rowsExt_in x md g _ _ _ _ (by dsimp only; omega) (by dsimp only; omega)).symm

/-- The six stores of a first point leave the hidden rows of its tile. -/
theorem hidden_stores : View.canon (Val := Elt Ideal) (s := S1040x2048) (e := .bf16)
    [⟨Rect.unit ![1032, 0] ![8, 2048] inb_S1040x2048_S8x2048_1032_0, k0_pay12 (shiftOf B3) (gainOf B3 B4) (startsAt (Scalar.addi (BitVec.ofNat 32 i.val) 1#32)) B2⟩,
      ⟨Rect.unit ![776, 0] ![256, 2048] inb_S1040x2048_S256x2048_776_0, k0_pay11 (shiftOf B3) (gainOf B3 B4) (View.ld (Val := Elt Ideal) (e' := .f32) B1 (Rect.unit (s := S1024x2048) ![768, 0] ![256, 2048] inb_S1024x2048_S256x2048_768_0)) (k0_pay9 (View.ld (Val := Elt Ideal) (e' := .f32) B1 (Rect.unit (s := S1024x2048) ![768, 0] ![256, 2048] inb_S1024x2048_S256x2048_768_0))) k0_pay10⟩,
      ⟨Rect.unit ![520, 0] ![256, 2048] inb_S1040x2048_S256x2048_520_0, k0_pay8 (shiftOf B3) (gainOf B3 B4) (View.ld (Val := Elt Ideal) (e' := .f32) B1 (Rect.unit (s := S1024x2048) ![512, 0] ![256, 2048] inb_S1024x2048_S256x2048_512_0))⟩,
      ⟨Rect.unit ![264, 0] ![256, 2048] inb_S1040x2048_S256x2048_264_0, k0_pay7 (shiftOf B3) (gainOf B3 B4) (View.ld (Val := Elt Ideal) (e' := .f32) B1 (Rect.unit (s := S1024x2048) ![256, 0] ![256, 2048] inb_S1024x2048_S256x2048_256_0))⟩,
      ⟨Rect.unit ![8, 0] ![256, 2048] inb_S1040x2048_S256x2048_8_0, k0_pay6 (shiftOf B3) (gainOf B3 B4) (View.ld (Val := Elt Ideal) (e' := .f32) B1 (Rect.unit (s := S1024x2048) ![0, 0] ![256, 2048] inb_S1024x2048_S256x2048_0_0))⟩,
      ⟨Rect.unit ![0, 0] ![8, 2048] inb_S1040x2048_S8x2048_0_0, k0_pay5 (shiftOf B3) (gainOf B3 B4) (startsAt (BitVec.ofNat 32 i.val)) B0⟩]
    = rowsExt x md g i := by
  funext y
  idx_vars y
  canon_tiles q h using View.cover_of_tiledBy _ ![8, 2048] (by sl_kernel_rfl) _
  all_goals
    idx_vars q
    obtain rfl : q1 = y1 := (Fin.ext h1).symm
  · rw [show y0 = ⟨1032 + q0.val, by omega⟩ from Fin.ext h0]
    exact rows1032 hB q0 q1
  · rw [show y0 = ⟨776 + q0.val, by omega⟩ from Fin.ext h0]
    exact rows776 hB q0 q1
  · rw [show y0 = ⟨520 + q0.val, by omega⟩ from Fin.ext h0]
    exact rows520 hB q0 q1
  · rw [show y0 = ⟨264 + q0.val, by omega⟩ from Fin.ext h0]
    exact rows264 hB q0 q1
  · rw [show y0 = ⟨8 + q0.val, by omega⟩ from Fin.ext h0]
    exact rows8 hB q0 q1
  · rw [show y0 = ⟨q0.val, by omega⟩ from Fin.ext h0]
    exact rows0 hB q0 q1

omit hB
variable (m : (ℓ : Loc nD τ sig) → Buf (Elt Ideal) ℓ)

/-- The blocks of a point. -/
theorem blocks (c : Dev nD) (t : Fin cfg0.N) : Blocks (arr0 m c) (arr1 m c) (arr2 m c) ⟨t.val / 11, by have := lt176 t; omega⟩
    (iblk m c 0 t) (iblk m c 1 t) (iblk m c 2 t) (iblk m c 3 t) (iblk m c 4 t) where
  before := read0 m c t
  tile := read1 m c t
  behind := read2 m c t
  mods a k := (read3 m c t a k).trans (congrArg (fun s => arr1 m c (ix3 s a k)) (Fin.ext (by dsimp only; omega)))
  gains := read4 m c t

/-- A first point stores the hidden rows of its tile. -/
theorem afterA2 (c : Dev nD) (t : Fin cfg0.N) (h0 : t.val % 11 = 0) (h1 : ¬t.val % 11 = 10) :
    (outsAt0 m c t.val t.isLt).2 = rowsExt (arr0 m c) (arr1 m c) (arr2 m c) ⟨t.val / 11, by have := lt176 t; omega⟩ := by
  rw [outsAt0_A m c t h0 h1]
  frame_out
  simp only [coord0 t]
  have h := hidden_stores (blocks m c t)
  exact h

end Cert.Kernel2Ideal.Ffn
-- ==== Proof.Ffn.Kernel.lean ====
module

public import proofs.«01_k».proof.Proof.Ffn.Hidden

/-! The feed-forward kernel's result array is the layer's entry at every row and column. -/

@[expose] public section

set_option maxRecDepth 16384

noncomputable section

namespace Cert.Kernel2Ideal.Ffn

open Idealize.ShloMosaic Idealize.ShloMosaic.TcCoe Idealize.SL.Sem
open Idealize.ShloMosaic.Pipeline (Dat)
open Cert.Kernel2Ideal Cert.Kernel2Ideal.Gen

open Cert.Ffn (rowsExt rowOf part)

theorem pay14_at (H : FVec Ideal S1040x2048 .bf16) (W : FVec Ideal S1x2048x512 .bf16) (ρ : Fin 1040) (n : Fin 512) :
    k0_pay14 (F := Ideal) H W (ix2 ρ n) = ∑ k : Fin 2048, H (ix2 ρ k) * W (ix3 0 k n) := by
  pointwise [k0_pay14]

theorem pay15_at (H : FVec Ideal S1040x2048 .bf16) (W : FVec Ideal S1x2048x512 .bf16) (ρ : Fin 1040) (n : Fin 512) :
    k0_pay15 (F := Ideal) H W (ix2 ρ n) = ∑ k : Fin 2048, H (ix2 ρ k) * W (ix3 0 k n) := by
  pointwise [k0_pay15]

theorem silu_eq (v : EReal) : silu v = Cert.Ffn.silu v := by
  unfold silu Cert.Ffn.silu
  rw [Ideal.ofBits_one_f32, Ideal.ofBits_zero_f32, sub_eq_add_neg, zero_add]

section
variable (L : Fin 4) (x : FVec Ideal S16384x2048 .f32) (md : FVec Ideal S4x8x2048 .f32) (g : FVec Ideal S2048 .f32)
  (wu : FVec Ideal S4x2048x11264 .bf16) (cw : FVec Ideal S3x11264 .f32) (cb : FVec Ideal S11264 .f32) (wd : FVec Ideal S4x5632x2048 .bf16)

/-- The convolution of a point's column. -/
theorem conv3_at (i : Fin 16) (u : FVec Ideal S1040x512 .f32) (w : FVec Ideal S3x512 .f32) (b : FVec Ideal S1x512 .f32)
    (r : Fin 1024) (n : Fin 512) (N : Fin 11264) (hw : ∀ a, w (ix2 a n) = cw (ix2 a N)) (hb : b (ix2 0 n) = cb (ix1 N))
    (hu : ∀ ρ, u (ix2 ρ n) = ∑ k : Fin 2048, rowsExt x md g i (ix2 ρ k) * wu (ix3 L k N)) :
    conv3 u w b r n = Cert.Ffn.conv L x md g wu cw cb (rowOf i r) N := by
  unfold conv3 Cert.Ffn.conv
  rw [hw, hw, hw, hb, hu, hu, hu]
  rw [Cert.Ffn.up_in L x md g wu i ⟨r.val + 8, by omega⟩ N (rowOf i r) (by dsimp only; omega) (by dsimp only; omega)]
  refine congrArg₂ (· + ·) (congrArg (· + _) (congrArg (_ + ·) (congrArg (_ * ·) ?_))) (congrArg (_ * ·) ?_)
  · split_ifs with h
    · exact Cert.Ffn.up_in L x md g wu i _ N _ (by dsimp only at h ⊢; omega) (by dsimp only at h ⊢; omega)
    · exact Cert.Ffn.up_out L x md g wu i _ N (by dsimp only at h ⊢; omega)
  · split_ifs with h
    · exact Cert.Ffn.up_in L x md g wu i _ N _ (by dsimp only at h ⊢; omega) (by dsimp only at h ⊢; omega)
    · exact Cert.Ffn.up_out L x md g wu i _ N (by dsimp only at h ⊢; omega)

/-- What the blocks of weights of column tile `j` hold. -/
structure Weights (j : ℕ) (hj : j < 11) (B6 B7 : FVec Ideal S1x2048x512 .bf16) (B8 : FVec Ideal S3x11264 .f32) (B9 : FVec Ideal S1x11264 .f32)
    (B10 : FVec Ideal S1x512x2048 .bf16) : Prop where
  gate : ∀ (k : Fin 2048) (n : Fin 512), B6 (ix3 0 k n) = wu (ix3 L k ⟨j * 512 + n.val, by omega⟩)
  value : ∀ (k : Fin 2048) (n : Fin 512), B7 (ix3 0 k n) = wu (ix3 L k ⟨(11 + j) * 512 + n.val, by omega⟩)
  taps : ∀ (a : Fin 3) (n : Fin 11264), B8 (ix2 a n) = cw (ix2 a n)
  bias : ∀ n : Fin 11264, B9 (ix2 0 n) = cb (ix1 n)
  down : ∀ (n : Fin 512) (k : Fin 2048), B10 (ix3 0 n k) = wd (ix3 L ⟨j * 512 + n.val, by omega⟩ k)

variable {L x md g wu cw cb wd} {t : Fin cfg0.N} {B6 B7 : FVec Ideal S1x2048x512 .bf16} {B8 : FVec Ideal S3x11264 .f32} {B9 : FVec Ideal S1x11264 .f32}
  {B10 : FVec Ideal S1x512x2048 .bf16} (hW : Weights L wu cw cb wd (t.val % 11) (Nat.mod_lt _ (by decide)) B6 B7 B8 B9 B10)
include hW

/-- The gated tile of a point, over the hidden rows of a row tile. -/
theorem tile_at (i : Fin 16) (r : Fin 1024) (n : Fin 512) :
    tileFrom t B6 B7 B8 B9 (rowsExt x md g i) (ix2 r n)
      = Cert.Ffn.act L x md g wu cw cb (rowOf i r) ⟨t.val % 11 * 512 + n.val, by omega⟩ := by
  have o := offs t
  unfold tileFrom Cert.Ffn.act
  rw [gated_at, silu_eq]
  refine congrArg₂ (fun a b => Cert.Ffn.silu a * b) ?_ ?_
  · refine conv3_at L x md g wu cw cb i _ _ _ r n _ (fun a => ?_) ?_ (fun ρ => ?_)
    · rw [← hW.taps]
      pointwise [o]
    · rw [← hW.bias]
      pointwise [k0_pay16, o]
    · rw [pay14_at]
      simp only [hW.gate]
  · refine conv3_at L x md g wu cw cb i _ _ _ r n _ (fun a => ?_) ?_ (fun ρ => ?_)
    · rw [← hW.taps]
      pointwise [o]
      simp only [Nat.add_assoc]
    · rw [← hW.bias]
      pointwise [k0_pay17, o]
      simp only [Nat.add_assoc]
    · rw [pay15_at]
      simp only [hW.value, show (11 + t.val % 11) * 512 + n.val = 5632 + (t.val % 11 * 512 + n.val) by omega]

/-- A point adds its part. -/
theorem plus_part (i : Fin 16) (acc : FVec Ideal S1024x2048 .f32) (r : Fin 1024) (k : Fin 2048) :
    plusDown acc (tileFrom t B6 B7 B8 B9 (rowsExt x md g i)) B10 (ix2 r k) = acc (ix2 r k) + part L x md g wu cw cb wd i (t.val % 11) r k := by
  rw [part, dif_pos (Nat.mod_lt _ (by decide))]
  refine congrArg (acc (ix2 r k) + ·) (Finset.sum_congr rfl fun n _ => ?_)
  exact congrArg₂ (· * ·) (tile_at hW i r n) (hW.down n k)

end

variable (m : (ℓ : Loc nD τ sig) → Buf (Elt Ideal) ℓ)

/-- The row tile of a point. -/
abbrev tileNo (t : Fin cfg0.N) : Fin 16 := ⟨t.val / 11, by have := lt176 t; omega⟩

/-- The weights of a point. -/
theorem weights (c : Dev nD) (t : Fin cfg0.N) : Weights 3 (arr3 m c) (arr4 m c) (arr5 m c) (arr6 m c) (t.val % 11) (Nat.mod_lt _ (by decide))
    (iblk m c 6 t) (iblk m c 7 t) (iblk m c 8 t) (iblk m c 9 t) (iblk m c 10 t) :=
  ⟨read6 m c t, read7 m c t, read8 m c t, read9 m c t, read10 m c t⟩

/-- What a point leaves: the hidden rows of its tile, and before the last column tile the parts so far. -/
theorem left (c : Dev nD) (n : ℕ) (hn : n < 176) : (outsAt0 m c n hn).2 = rowsExt (arr0 m c) (arr1 m c) (arr2 m c) ⟨n / 11, by omega⟩
    ∧ (n % 11 ≠ 10 → ∀ q : Fin 1024 × Fin 2048, (outsAt0 m c n hn).1 (ix2 q.1 q.2)
      = ∑ j ∈ Finset.range (n % 11 + 1), part 3 (arr0 m c) (arr1 m c) (arr2 m c) (arr3 m c) (arr4 m c) (arr5 m c) (arr6 m c) ⟨n / 11, by omega⟩ j q.1 q.2) := by
  refine Cert.Ffn.leaves (fun i j (q : Fin 1024 × Fin 2048) => part 3 (arr0 m c) (arr1 m c) (arr2 m c) (arr3 m c) (arr4 m c) (arr5 m c) (arr6 m c) i j q.1 q.2)
    (rowsExt (arr0 m c) (arr1 m c) (arr2 m c)) (fun n hn q => (outsAt0 m c n hn).1 (ix2 q.1 q.2)) (fun n hn => (outsAt0 m c n hn).2)
    (fun n hn h0 => ?_) (fun n hn h0 h1 p q => ?_) (fun n hn h0 => ?_) n hn
  · have b := afterA2 m c ⟨n, hn⟩ h0 (by dsimp only; omega)
    refine ⟨b, fun q => ?_⟩
    have a := afterA m c ⟨n, hn⟩ h0 (by dsimp only; omega)
    rw [b] at a
    exact (congrFun a _).trans (plus_part (weights m c ⟨n, hn⟩) _ _ q.1 q.2)
  · have a := afterB m c ⟨n + 1, hn⟩ h0 h1 (by show n + 1 - 1 < 176; omega)
    simp only [Nat.add_sub_cancel] at a
    rw [p] at a
    exact (congrFun a _).trans (plus_part (weights m c ⟨n + 1, hn⟩) _ _ q.1 q.2)
  · by_cases h1 : (n + 1) % 11 = 10
    · exact afterC2 m c ⟨n + 1, hn⟩ h0 h1
    · exact afterB2 m c ⟨n + 1, hn⟩ h0 h1 (by show n + 1 - 1 < 176; omega)

/-- A last point's block before the loop holds the down projection. -/
theorem before_last (c : Dev nD) (t : Fin cfg0.N) (h1 : t.val % 11 = 10) (r : Fin 1024) (k : Fin 2048) :
    plusDown (outsAt0 m c (t.val - 1) (Nat.lt_of_le_of_lt (Nat.sub_le _ _) t.isLt)).1
      (tileOf m c t (outsAt0 m c (t.val - 1) (Nat.lt_of_le_of_lt (Nat.sub_le _ _) t.isLt)).2) (iblk m c 10 t) (ix2 r k)
      = Cert.Ffn.down 3 (arr0 m c) (arr1 m c) (arr2 m c) (arr3 m c) (arr4 m c) (arr5 m c) (arr6 m c) (rowOf (tileNo t) r) k := by
  obtain ⟨p2, p1⟩ := left m c (t.val - 1) (Nat.lt_of_le_of_lt (Nat.sub_le _ _) t.isLt)
  have e : (t.val - 1) / 11 = t.val / 11 := by omega
  have ej : (t.val - 1) % 11 + 1 = 10 := by omega
  simp only [e, ej] at p2 p1
  rw [p2]
  refine (plus_part (weights m c t) _ _ r k).trans ?_
  rw [p1 (by omega) (r, k), h1, ← Finset.sum_range_succ]
  exact Cert.Ffn.parts_all 3 _ _ _ _ _ _ _ _ r k

/-- The kernel's result array. -/
theorem final (c : Dev nD) : (dats m 0 c).arrAt 11 (cfgs 0).N
    = fun y : S16384x2048.Idx => Cert.Ffn.layerAt 3 (arr0 m c) (arr1 m c) (arr2 m c) (arr3 m c) (arr4 m c) (arr5 m c) (arr6 m c) (arr7 m c) (y 0) (y 1) := by
  refine (dats m 0 c).arrAt_eq_of_covers 11 _ (by decide +kernel) fun t hf y => ?_
  have h1 : t.val % 11 = 10 := (flush0_11 t).mp hf
  idx_vars y
  blk_simp
  rw [after0_11, afterC m c t (by omega) h1]
  have ht := lt176 t
  have e0 : (win0_11.blk t).view.emb (ix2 y0 y1) 0 = rowOf (tileNo t) y0 := Fin.ext (by
    have h : ((win0_11.blk t).view.emb (ix2 y0 y1) 0).val = t.val / 11 * 1024 + y0.val := by blk_simp [idx t]
    exact h)
  have e1 : (win0_11.blk t).view.emb (ix2 y0 y1) 1 = y1 := Fin.ext (by
    have h : ((win0_11.blk t).view.emb (ix2 y0 y1) 1).val = y1.val := by blk_simp [idx t]
    exact h)
  rw [e0, e1]
  have er : ∀ k : Fin 2048, resid (iblk m c 1 t) (iblk m c 3 t) (plusDown (outsAt0 m c (t.val - 1) (Nat.lt_of_le_of_lt (Nat.sub_le _ _) t.isLt)).1
      (tileOf m c t (outsAt0 m c (t.val - 1) (Nat.lt_of_le_of_lt (Nat.sub_le _ _) t.isLt)).2) (iblk m c 10 t)) y0 k
      = Cert.Ffn.res 3 (arr0 m c) (arr1 m c) (arr2 m c) (arr3 m c) (arr4 m c) (arr5 m c) (arr6 m c) (rowOf (tileNo t) y0) k := by
    intro k
    unfold resid Cert.Ffn.res
    rw [before_last m c t h1, read1, read3]
    have es : (⟨t.val / 44, by omega⟩ : Fin 4) = Cert.Ffn.sample (rowOf (tileNo t) y0) := Fin.ext (by dsimp only; omega)
    rw [es]
  unfold epi Cert.Ffn.layerAt Cert.Ffn.invRms
  show resid _ _ _ y0 y1 * _ * (iblk m c 5 t : Vec Ideal S1x2048 .f32) (ix2 0 y1) = _
  rw [read5]
  simp only [← er]
  rfl

end Cert.Kernel2Ideal.Ffn
-- ==== Proof.Claims.FeedForward.lean ====
module

public import proofs.«01_k».proof.Defs
public import proofs.«01_k».proof.Proof.Ffn.ReferenceRead
public import proofs.«01_k».proof.Proof.Ffn.Kernel
public import proofs.«01_k».proof.Proof.Gen.Kernel2Ideal.Frame
public import Idealize.ShloMosaic.Lib.Claim

/-! The feed-forward kernel and its reference return the same array. -/

@[expose] public section

noncomputable section

namespace Cert.Proof

open Idealize.ShloMosaic Idealize.SL.Sem

/-- From memories that agree on the arguments, the feed-forward kernel and the plain layer return the same array. -/
theorem feedforward : Cert.algebraic_Kernel2Ideal_Reference2Ideal := by
  pair_intro
  · run_from Cert.Kernel2Ideal.Gen.run_main m g
  · run_from Cert.Reference2Ideal.Value.run m' g'
    obtain ⟨a0, a1, a2, a3, a4, a5, a6, a7⟩ := hagree c
    refine (Cert.Reference2Ideal.Ffn.res_eq m' c).trans ?_
    rw [a0, a1, a2, a3, a4, a5, a6, a7]
    exact (Cert.Reference2Ideal.Ffn.whole_eq _ _ _ _ _ _ _ _).trans (Cert.Kernel2Ideal.Ffn.final m c).symm

end Cert.Proof
-- ==== Proof.FfnMid.Reference.lean ====
module

public import proofs.«01_k».proof.Proof.Ffn.ReferenceRead
public import proofs.«01_k».proof.Proof.Gen.Reference3Ideal.Run

/-! The reference of the feed-forward layer without the last norm: the stages of the one with it, at the first layer's
    weights. -/

@[expose] public section

set_option maxRecDepth 16384

noncomputable section

namespace Cert.Reference3Ideal.Ffn

open Idealize.ShloMosaic Idealize.ShloMosaic.TcCoe Idealize.SL.Sem
open Cert.Reference3Ideal Cert.Reference3Ideal.Gen
open Cert.Reference2Ideal.Ffn (byStream scaled modulated padded taps gatedHalves rows flat)

/-- The up projection. -/
def upward (H : FVec Ideal S4x4096x2048 .f32) (wu : FVec Ideal S4x2048x11264 .bf16) : FVec Ideal S4x4096x11264 .f32 :=
  Host.dotGeneral dot_S4x4096x2048_S2048x11264_S4x4096x11264_2_0_01_1_n_n none H
    (extf .f32 (shapeCast _ (extractStridedSlice S1x2048x11264 ![0, 0, 0] wu slices_S4x2048x11264_S1x2048x11264_0_0_0)
      shapeCasts_S1x2048x11264_S2048x11264 : FVec Ideal S2048x11264 .bf16) bitsLt_bf16_f32)

/-- The residual plus the sample's gate times the down projection. -/
def residual (X : FVec Ideal S4x4096x2048 .f32) (A : FVec Ideal S4x4096x5632 .f32) (md : FVec Ideal S4x8x2048 .f32)
    (wd : FVec Ideal S4x5632x2048 .bf16) : FVec Ideal S4x4096x2048 .f32 :=
  addf X (mulf (broadcastInDim S4x4096x2048 ![0, 1, 2] bcast_S4x1x2048_S4x4096x2048_0_1_2
      (extractStridedSlice S4x1x2048 ![0, 5, 0] md slices_S4x8x2048_S4x1x2048_0_5_0))
    (Host.dotGeneral dot_S4x4096x5632_S5632x2048_S4x4096x2048_2_0_01_1_n_n none A
      (extf .f32 (shapeCast _ (extractStridedSlice S1x5632x2048 ![0, 0, 0] wd slices_S4x5632x2048_S1x5632x2048_0_0_0)
        shapeCasts_S1x5632x2048_S5632x2048 : FVec Ideal S5632x2048 .bf16) bitsLt_bf16_f32)))

theorem upward_at (H : FVec Ideal S4x4096x2048 .f32) (wu : FVec Ideal S4x2048x11264 .bf16) (s : Fin 4) (q : Fin 4096) (n : Fin 11264) :
    upward H wu (ix3 s q n) = ∑ k : Fin 2048, H (ix3 s q k) * wu (ix3 0 k n) := by
  pointwise [upward]

theorem residual_at (X : FVec Ideal S4x4096x2048 .f32) (A : FVec Ideal S4x4096x5632 .f32) (md : FVec Ideal S4x8x2048 .f32)
    (wd : FVec Ideal S4x5632x2048 .bf16) (s : Fin 4) (q : Fin 4096) (k : Fin 2048) :
    residual X A md wd (ix3 s q k) = X (ix3 s q k) + md (ix3 s 5 k) * ∑ n : Fin 5632, A (ix3 s q n) * wd (ix3 0 n k) := by
  pointwise [residual]

/-- The whole reference over its seven arguments. -/
def whole (x : FVec Ideal S16384x2048 .f32) (md : FVec Ideal S4x8x2048 .f32) (g : FVec Ideal S2048 .f32)
    (wu : FVec Ideal S4x2048x11264 .bf16) (cw : FVec Ideal S3x11264 .f32) (cb : FVec Ideal S11264 .f32)
    (wd : FVec Ideal S4x5632x2048 .bf16) : FVec Ideal S16384x2048 .f32 :=
  rows (residual (byStream x) (gatedHalves (taps (padded (upward (modulated (scaled (byStream x) g) md) wu)) cw cb)) md wd)

/-- The run's composed term is the staged reference. -/
theorem res_eq (m : (ℓ : Loc nD τ sig) → Buf (Elt Ideal) ℓ) (c : Dev nD) : Value.res_out0 m c =
    whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) := rfl

variable (x : FVec Ideal S16384x2048 .f32) (md : FVec Ideal S4x8x2048 .f32) (g : FVec Ideal S2048 .f32)
  (wu : FVec Ideal S4x2048x11264 .bf16) (cw : FVec Ideal S3x11264 .f32) (cb : FVec Ideal S11264 .f32)
  (wd : FVec Ideal S4x5632x2048 .bf16)

/-- The up projection is the specification's. -/
theorem up_at (s : Fin 4) (q : Fin 4096) (n : Fin 11264) :
    upward (modulated (scaled (byStream x) g) md) wu (ix3 s q n) = Cert.Ffn.up 0 x md g wu (flat s q) n := by
  rw [upward_at]
  unfold Cert.Ffn.up
  exact Fin.sum_fin_congr fun k => congrArg (· * wu (ix3 0 k n)) (Cert.Reference2Ideal.Ffn.hidden_at x md g s q k)

/-- The whole reference is the residual stream of the specification. -/
theorem whole_eq : whole x md g wu cw cb wd
    = fun y : S16384x2048.Idx => Cert.Ffn.res 0 x md g wu cw cb wd (y 0) (y 1) := by
  funext y
  idx_vars y
  have e : flat ⟨y0.val / 4096, by omega⟩ ⟨y0.val % 4096, by omega⟩ = y0 := Fin.ext (by dsimp only; omega)
  rw [whole, Cert.Reference2Ideal.Ffn.rows_at, residual_at, Cert.Reference2Ideal.Ffn.byStream_at, e]
  unfold Cert.Ffn.res Cert.Ffn.down
  refine congrArg (fun z => x (ix2 y0 y1) + md (ix3 ⟨y0.val / 4096, by omega⟩ 5 y1) * z) (Fin.sum_fin_congr fun n => ?_)
  refine congrArg (· * wd (ix3 0 n y1)) ((Cert.Reference2Ideal.Ffn.act_at cw cb (up_at x md g wu) _ _ n).trans ?_)
  rw [e]

end Cert.Reference3Ideal.Ffn
-- ==== Proof.FfnMid.Block.lean ====
module

public import proofs.«01_k».proof.Proof.Ffn.Block
public import proofs.«01_k».proof.Proof.Gen.Kernel3Ideal.Frame

/-! The grid points of the feed-forward call without the last norm: their tiles and sums are those of the call with it. -/

@[expose] public section

set_option maxRecDepth 16384

noncomputable section

namespace Cert.Kernel3Ideal.Ffn

open Idealize.ShloMosaic Idealize.ShloMosaic.TcCoe Idealize.SL.Sem
open Cert.Kernel3Ideal Cert.Kernel3Ideal.Gen
open Cert.Kernel2Ideal.Ffn (rowsAt gated colsAt downAt plusDown tileFrom)

variable (ug uv : FVec Ideal S1040x512 .f32) (wg wv : FVec Ideal S3x512 .f32) (bg bv : FVec Ideal S1x512 .f32)

/-- The gated tile read back whole after its four stores. -/
theorem gated_read {κ : Kind} {sp : Space} (v : View sig κ sp S1024x512 .bf16) : v.readCov (Val := Elt Ideal)
    [⟨Rect.unit ![768, 0] ![256, 512] inb_S1024x512_S256x512_768_0, k0_pay28 (k0_pay25 wg bg (rowsAt ug 775 inb_S1040x512_S256x512_775_0) (rowsAt ug 777 inb_S1040x512_S256x512_777_0) (rowsAt ug 776 inb_S1040x512_S256x512_776_0)) (rowsAt uv 777 inb_S1040x512_S256x512_777_0) (k0_pay26 wv bv (rowsAt uv 775 inb_S1040x512_S256x512_775_0) (rowsAt uv 776 inb_S1040x512_S256x512_776_0)) (k0_pay27 wv)⟩,
      ⟨Rect.unit ![512, 0] ![256, 512] inb_S1024x512_S256x512_512_0, k0_pay24 (k0_pay22 wg bg (rowsAt ug 519 inb_S1040x512_S256x512_519_0) (rowsAt ug 521 inb_S1040x512_S256x512_521_0) (rowsAt ug 520 inb_S1040x512_S256x512_520_0)) (k0_pay23 wv bv (rowsAt uv 519 inb_S1040x512_S256x512_519_0) (rowsAt uv 521 inb_S1040x512_S256x512_521_0) (rowsAt uv 520 inb_S1040x512_S256x512_520_0))⟩,
      ⟨Rect.unit ![256, 0] ![256, 512] inb_S1024x512_S256x512_256_0, k0_pay21 (k0_pay20 wg bg wv bv (rowsAt ug 263 inb_S1040x512_S256x512_263_0) (rowsAt ug 265 inb_S1040x512_S256x512_265_0) (rowsAt ug 264 inb_S1040x512_S256x512_264_0) (rowsAt uv 263 inb_S1040x512_S256x512_263_0) (rowsAt uv 265 inb_S1040x512_S256x512_265_0) (rowsAt uv 264 inb_S1040x512_S256x512_264_0))⟩,
      ⟨Rect.unit ![0, 0] ![256, 512] inb_S1024x512_S256x512_0_0, k0_pay19 (k0_pay18 wg bg wv bv (rowsAt ug 7 inb_S1040x512_S256x512_7_0) (rowsAt ug 9 inb_S1040x512_S256x512_9_0) (rowsAt ug 8 inb_S1040x512_S256x512_8_0) (rowsAt uv 7 inb_S1040x512_S256x512_7_0) (rowsAt uv 9 inb_S1040x512_S256x512_9_0) (rowsAt uv 8 inb_S1040x512_S256x512_8_0))⟩] (Rect.unit (s := S1024x512) ![0, 0] ![1024, 512] inb_S1024x512_S1024x512_0_0).toLoadRect
    = gated ug uv wg wv bg bv := by
  rw [View.readCov_eq_canon']
  refine (congrArg (fun G => View.ld (Val := Elt Ideal) G (Rect.unit (s := S1024x512) ![0, 0] ![1024, 512] inb_S1024x512_S1024x512_0_0)) (Cert.Kernel2Ideal.Ffn.gated_stores ug uv wg wv bg bv)).trans ?_
  exact View.ld_unit_lit (Val := Elt Ideal) (e := .bf16) (S := S1024x512) inb_S1024x512_S1024x512_0_0 (gated ug uv wg wv bg bv) (by decide)

/-- The four stores of 512 columns add the product to the block, whatever was stored before. -/
theorem down_stores (acc : FVec Ideal S1024x2048 .f32) (A : FVec Ideal S1024x512 .bf16) (w : FVec Ideal S1x512x2048 .bf16)
    (L : List (View.Piece (Elt Ideal) S1024x2048 .f32)) :
    View.canon (Val := Elt Ideal) (s := S1024x2048) (e := .f32)
    (⟨Rect.unit ![0, 1536] ![1024, 512] inb_S1024x2048_S1024x512_0_1536, k0_pay1 A (colsAt acc 1536 inb_S1024x2048_S1024x512_0_1536) (downAt w 1536 inb_S1x512x2048_S1x512x512_0_0_1536)⟩ :: ⟨Rect.unit ![0, 1024] ![1024, 512] inb_S1024x2048_S1024x512_0_1024, k0_pay31 A (colsAt acc 1024 inb_S1024x2048_S1024x512_0_1024) (downAt w 1024 inb_S1x512x2048_S1x512x512_0_0_1024)⟩ :: ⟨Rect.unit ![0, 512] ![1024, 512] inb_S1024x2048_S1024x512_0_512, k0_pay30 A (colsAt acc 512 inb_S1024x2048_S1024x512_0_512) (downAt w 512 inb_S1x512x2048_S1x512x512_0_0_512)⟩ :: ⟨Rect.unit ![0, 0] ![1024, 512] inb_S1024x2048_S1024x512_0_0, k0_pay29 A (colsAt acc 0 inb_S1024x2048_S1024x512_0_0) (downAt w 0 inb_S1x512x2048_S1x512x512_0_0_0)⟩ :: L)
    = plusDown acc A w := Cert.Kernel2Ideal.Ffn.down_stores acc A w L

variable (m : (ℓ : Loc nD τ sig) → Buf (Elt Ideal) ℓ)

/-- The gated tile of a grid point, from the hidden rows it finds in the scratch. -/
abbrev tileOf (c : Dev nD) (t : Fin cfg0.N) (H : FVec Ideal S1040x2048 .bf16) : FVec Ideal S1024x512 .bf16 :=
  tileFrom t (iblk m c 6 t) (iblk m c 7 t) (iblk m c 8 t) (iblk m c 9 t) H

/-- A middle point adds its tile's product to the block the point before left. -/
theorem afterB (c : Dev nD) (t : Fin cfg0.N) (h0 : ¬t.val % 11 = 0) (h1 : ¬t.val % 11 = 10) (hp : t.val - 1 < cfg0.N) :
    (outsAt0 m c t.val t.isLt).1 = plusDown (outsAt0 m c (t.val - 1) hp).1 (tileOf m c t (outsAt0 m c (t.val - 1) hp).2) (iblk m c 10 t) := by
  rw [outsAt0_B m c t h0 h1]
  frame_out
  simp (disch := decide) only [View.readCov_fill, read_unread_whole, gated_read]
  exact down_stores _ _ _ _

theorem afterB2 (c : Dev nD) (t : Fin cfg0.N) (h0 : ¬t.val % 11 = 0) (h1 : ¬t.val % 11 = 10) (hp : t.val - 1 < cfg0.N) :
    (outsAt0 m c t.val t.isLt).2 = (outsAt0 m c (t.val - 1) hp).2 := by
  rw [outsAt0_B m c t h0 h1]
  rfl

/-- The zero fill. -/
theorem zeros : k0_pay13 (F := Ideal) = fun _ => 0 := Cert.Kernel2Ideal.Ffn.zeros

/-- A first point starts the block from zero. -/
theorem afterA (c : Dev nD) (t : Fin cfg0.N) (h0 : t.val % 11 = 0) (h1 : ¬t.val % 11 = 10) :
    (outsAt0 m c t.val t.isLt).1 = plusDown (fun _ => 0) (tileOf m c t (outsAt0 m c t.val t.isLt).2) (iblk m c 10 t) := by
  rw [outsAt0_A m c t h0 h1]
  frame_out
  simp (disch := decide) only [↓View.readCov_skip, View.readCov_fill, read_unread_whole, gated_read]
  rw [← zeros]
  refine (down_stores _ _ _ [_]).trans ?_
  rw [View.readCov_eq_canon']
  generalize View.canon (Val := Elt Ideal) (s := S1040x2048) (e := .bf16) _ = H
  have e : (fun j => H ((Rect.unit (s := S1040x2048) ![0, 0] ![1040, 2048] inb_S1040x2048_S1040x2048_0_0).idx j)) = H :=
    View.ld_unit_lit (Val := Elt Ideal) (e := .bf16) (S := S1040x2048) inb_S1040x2048_S1040x2048_0_0 H (by decide)
  exact congrArg (fun X => plusDown k0_pay13 (tileOf m c t X) (iblk m c 10 t)) e

end Cert.Kernel3Ideal.Ffn
-- ==== Proof.FfnMid.Loop.lean ====
module

public import proofs.«01_k».proof.Proof.FfnMid.Block
public import proofs.«01_k».proof.Proof.Ffn.Loop
public import proofs.«01_k».proof.Proof.Gen.Kernel3Ideal.Loops

/-! The loop that ends a row tile without a norm: eight bands of 128 rows, each adding the gated product to the residual. -/

@[expose] public section

set_option maxRecDepth 16384

noncomputable section

namespace Cert.Kernel3Ideal.Ffn

open Idealize.ShloMosaic Idealize.ShloMosaic.TcCoe Idealize.SL.Sem
open Cert.Kernel3Ideal Cert.Kernel3Ideal.Gen
open Cert.Kernel2Ideal.Ffn (resid plusDown)

/-- The rows of the result: the residual with the gated product. -/
def ending (x : FVec Ideal S1024x2048 .f32) (md : FVec Ideal S1x8x2048 .f32) (o : FVec Ideal S1024x2048 .f32) : FVec Ideal S1024x2048 .f32 :=
  fun y => resid x md o (y 0) (y 1)

/-- One band of 128 rows. -/
theorem band_value (a : FVec Ideal S128x2048 .f32) (b : FVec Ideal S1x1x2048 .f32) (o : FVec Ideal S128x2048 .f32) (r : Fin 128) (k : Fin 2048) :
    k0_pay2 (F := Ideal) a b o (ix2 r k) = a (ix2 r k) + b (ix3 0 0 k) * o (ix2 r k) := by
  pointwise [k0_pay2]

/-- The band of trip `k` starts at row 128 k. -/
theorem off5_row : ∀ k : Fin k0_t1_loop.trips, (k0_off5 k : Fin 2 → ℕ) 0 = k.val * 128 := by decide +kernel

/-- and at the first column. -/
theorem off5_col : ∀ k : Fin k0_t1_loop.trips, (k0_off5 k : Fin 2 → ℕ) 1 = 0 := by decide +kernel

section
variable (𝒱 : Variants) (c : Dev nD) (bd : Option 𝒱.V) (i : grid0.Coords) (arg2 : Memref sig .tc .vmem S8x2048 .f32) (harg2 : arg2.IsWhole) (arg3 : Memref sig .tc .vmem S1024x2048 .f32) (harg3 : arg3.IsWhole) (arg4 : Memref sig .tc .vmem S8x2048 .f32) (harg4 : arg4.IsWhole) (arg5 : Memref sig .tc .vmem S1x8x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S3x11264 .f32) (harg10 : arg10.IsWhole) (arg11 : Memref sig .tc .vmem S1x11264 .f32) (harg11 : arg11.IsWhole) (arg12 : Memref sig .tc .vmem S1x512x2048 .bf16) (harg12 : arg12.IsWhole) (arg13 : Memref sig .tc .vmem S1024x2048 .f32) (harg13 : arg13.IsWhole) (arg14 : Memref sig .tc .vmem S1040x2048 .bf16) (harg14 : arg14.IsWhole) (arg15 : Memref sig .tc .vmem S1040x512 .f32) (harg15 : arg15.IsWhole) (arg16 : Memref sig .tc .vmem S1040x512 .f32) (harg16 : arg16.IsWhole) (arg17 : Memref sig .tc .vmem S1024x512 .bf16) (harg17 : arg17.IsWhole) (k0_h2 : k0_cond2 i = 1#1)

/-- What one trip of the loop stores. -/
theorem trip_pieces (X_arg3 : BufTy.Contents (Elt Ideal) arg3.view.ty) (X_arg5 : BufTy.Contents (Elt Ideal) arg5.view.ty)
    (k : Fin k0_t1_loop.trips) (f : BufTy.Contents (Elt Ideal) arg13.view.ty) :
    (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X_arg3 X_arg5 k).1 f
    = [⟨Rect.unit (s := S1024x2048) (k0_off5 k) ![128, 2048] (k0_off5_inb i k k0_h2),
        k0_pay2
          (View.readAt (Elt Ideal) arg3.view (Rect.unit (s := S1024x2048) (k0_off5 k) ![128, 2048] (k0_off5_inb i k k0_h2)).toLoadRect X_arg3)
          (View.readAt (Elt Ideal) arg5.view (Rect.unit (s := S1x8x2048) ![0, 5, 0] ![1, 1, 2048] inb_S1x8x2048_S1x1x2048_0_5_0).toLoadRect X_arg5)
          (View.readAt (Elt Ideal) arg13.view (Rect.unit (s := S1024x2048) (k0_off5 k) ![128, 2048] (k0_off5_inb i k k0_h2)).toLoadRect f)⟩] := by
  unfold trip_k0_t1
  rfl

/-- After `n` trips the first `n` bands hold the result and the other rows are as the loop found them. -/
theorem bands (x : FVec Ideal S1024x2048 .f32) (md : FVec Ideal S1x8x2048 .f32)
    (L : List (View.Piece (Elt Ideal) S1024x2048 .f32)) (B : FVec Ideal S1024x2048 .f32) (hB : View.canon L = B) (n : ℕ) (hn : n ≤ 8) (y : S1024x2048.Idx) :
    View.canon (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 (harg3.unread x) (harg5.unread md) (arg13.view.writes (Elt Ideal) arg13.view.junk L) n ++ L) y
    = if (y 0).val < n * 128 then ending x md B y else B y := by
  induction n generalizing y with
  | zero =>
    rw [← hB]
    rfl
  | succ n ih =>
    have ht : k0_t1_loop.trips = 8 := by decide
    have hs := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 (harg3.unread x) (harg5.unread md) (arg13.view.writes (Elt Ideal) arg13.view.junk L) ⟨n, by omega⟩
    dsimp only at hs
    rw [hs, tripL_k0_t1, trip_pieces, List.append_assoc, List.singleton_append]
    clear hs
    replace ih := fun (r : Fin 1024) (k : Fin 2048) => ih (by omega) (ix2 r k)
    rw [← View.writes_append]
    generalize pb_k0_t1 (F := Ideal) _ _ _ _ _ _ _ _ _ _ _ _ _ _ _ _ _ _ _ _ _ _ _ _ _ _ _ _ _ _ _ _ _ _ _ _ _ _ _ _ _ ++ L = P at ih ⊢
    change ∀ (r : Fin 1024) (k : Fin 2048), View.canon P (ix2 r k) = if r.val < n * 128 then ending x md B (ix2 r k) else B (ix2 r k) at ih
    have h00 : (k0_off5 ⟨n, by omega⟩ : Fin 2 → ℕ) 0 = n * 128 := off5_row ⟨n, by omega⟩
    have h01 : (k0_off5 ⟨n, by omega⟩ : Fin 2 → ℕ) 1 = 0 := off5_col ⟨n, by omega⟩
    idx_vars y
    show _ = if y0.val < (n + 1) * 128 then ending x md B (ix2 y0 y1) else B (ix2 y0 y1)
    by_cases hy : n * 128 ≤ y0.val ∧ y0.val < n * 128 + 128
    · have hin : ix2 y0 y1 = (Rect.unit (s := S1024x2048) (k0_off5 ⟨n, by omega⟩) ![128, 2048] (k0_off5_inb i ⟨n, by omega⟩ k0_h2)).emb (ix2 (⟨y0.val - n * 128, by omega⟩ : Fin 128) y1) := by
        funext a
        apply Fin.ext
        fin_cases a
        · show y0.val = (k0_off5 ⟨n, by omega⟩ : Fin 2 → ℕ) 0 + 1 * (y0.val - n * 128)
          omega
        · show y1.val = (k0_off5 ⟨n, by omega⟩ : Fin 2 → ℕ) 1 + 1 * y1.val
          omega
      rw [hin, View.canon_cons_emb, ← hin, if_pos (show y0.val < (n + 1) * 128 by omega)]
      have ea : ∀ k : Fin 2048, (Rect.unit (s := S1024x2048) (k0_off5 ⟨n, by omega⟩) ![128, 2048] (k0_off5_inb i ⟨n, by omega⟩ k0_h2)).toLoadRect.idx (ix2 (⟨y0.val - n * 128, by omega⟩ : Fin 128) k) = ix2 y0 k := by
        intro k
        funext a
        apply Fin.ext
        fin_cases a
        · show (k0_off5 ⟨n, by omega⟩ : Fin 2 → ℕ) 0 + 1 * (y0.val - n * 128) = y0.val
          omega
        · show (k0_off5 ⟨n, by omega⟩ : Fin 2 → ℕ) 1 + 1 * k.val = k.val
          omega
      refine (band_value _ _ _ _ _).trans ?_
      rw [View.readAt_writes_junk_eq_canon]
      simp only [View.readAt_apply, Memref.IsWhole.read_unread, ea]
      simp only [ih, if_neg (show ¬ y0.val < n * 128 by omega)]
      have eb : ∀ k : Fin 2048, (Rect.unit (s := S1x8x2048) ![0, 5, 0] ![1, 1, 2048] inb_S1x8x2048_S1x1x2048_0_5_0).toLoadRect.idx (ix3 (0 : Fin 1) (0 : Fin 1) k) = ix3 0 5 k := by
        intro k
        funext a
        apply Fin.ext
        fin_cases a
        · rfl
        · rfl
        · show 0 + 1 * k.val = k.val
          omega
      simp only [eb]
      rfl
    · rw [View.canon_cons_of_not_mem]
      · rw [ih]
        by_cases h : y0.val < n * 128
        · rw [if_pos h, if_pos (show y0.val < (n + 1) * 128 by omega)]
        · rw [if_neg h, if_neg (show ¬ y0.val < (n + 1) * 128 by omega)]
      · intro hm
        have hm := (Rect.mem_set_unit (inb := k0_off5_inb i ⟨n, by omega⟩ k0_h2)).mp hm 0
        refine hy ⟨?_, ?_⟩
        · have : (k0_off5 ⟨n, by omega⟩ : Fin 2 → ℕ) 0 ≤ y0.val := hm.1
          omega
        · have : y0.val < (k0_off5 ⟨n, by omega⟩ : Fin 2 → ℕ) 0 + 128 := hm.2
          omega

/-- The block after the whole loop. -/
theorem bands_all (x : FVec Ideal S1024x2048 .f32) (md : FVec Ideal S1x8x2048 .f32)
    (L : List (View.Piece (Elt Ideal) S1024x2048 .f32)) (B : FVec Ideal S1024x2048 .f32) (hB : View.canon L = B) (n : ℕ) (hn : n = 8) :
    View.canon (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 (harg3.unread x) (harg5.unread md) (arg13.view.writes (Elt Ideal) arg13.view.junk L) n ++ L)
    = ending x md B := by
  subst hn
  funext y
  refine (bands 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 x md L B hB 8 le_rfl y).trans (if_pos ?_)
  exact (y 0).isLt

end

variable (m : (ℓ : Loc nD τ sig) → Buf (Elt Ideal) ℓ)

/-- A last point adds its product and ends the block. -/
theorem afterC (c : Dev nD) (t : Fin cfg0.N) (h0 : ¬t.val % 11 = 0) (h1 : t.val % 11 = 10) :
    (outsAt0 m c t.val t.isLt).1 = ending (iblk m c 1 t) (iblk m c 3 t) (plusDown (outsAt0 m c (t.val - 1) (Nat.lt_of_le_of_lt (Nat.sub_le _ _) t.isLt)).1
      (tileOf m c t (outsAt0 m c (t.val - 1) (Nat.lt_of_le_of_lt (Nat.sub_le _ _) t.isLt)).2) (iblk m c 10 t)) := by
  rw [outsAt0_C m c t h0 h1]
  frame_out
  simp (disch := decide) only [↓View.readCov_skip, View.readCov_fill, read_unread_whole, gated_read]
  generalize hL : (_ :: _ : List (View.Piece (Elt Ideal) S1024x2048 .f32)) = L
  have hB : View.canon L = plusDown (outsAt0 m c (t.val - 1) (Nat.lt_of_le_of_lt (Nat.sub_le _ _) t.isLt)).1
      (tileOf m c t (outsAt0 m c (t.val - 1) (Nat.lt_of_le_of_lt (Nat.sub_le _ _) t.isLt)).2) (iblk m c 10 t) := by
    rw [← hL]
    exact down_stores _ _ _ []
  clear hL
  exact bands_all (hB := hB) (hn := rfl) ..

/-- and leaves the hidden rows as they are. -/
theorem afterC2 (c : Dev nD) (t : Fin cfg0.N) (h0 : ¬t.val % 11 = 0) (h1 : t.val % 11 = 10) :
    (outsAt0 m c t.val t.isLt).2 = (outsAt0 m c (t.val - 1) (Nat.lt_of_le_of_lt (Nat.sub_le _ _) t.isLt)).2 := by
  rw [outsAt0_C m c t h0 h1]
  rfl

end Cert.Kernel3Ideal.Ffn
-- ==== Proof.FfnMid.Windows.lean ====
module

public import proofs.«01_k».proof.Proof.FfnMid.Loop
public import proofs.«01_k».proof.Proof.Ffn.Spec

/-! What each input block of a grid point holds, in coordinates of its array. -/

@[expose] public section

set_option maxRecDepth 16384

noncomputable section

namespace Cert.Kernel3Ideal.Ffn

open Idealize.ShloMosaic Idealize.ShloMosaic.TcCoe Idealize.SL.Sem
open Cert.Kernel3Ideal Cert.Kernel3Ideal.Gen

variable (m : (ℓ : Loc nD τ sig) → Buf (Elt Ideal) ℓ)

/-- The block every window sits at, at every grid point. -/
theorem idx : ∀ t : Fin cfg0.N, win0_0.index t = ![t.val / 11 * 128 - 1, 0] ∧ win0_1.index t = ![t.val / 11, 0]
    ∧ win0_2.index t = ![min (t.val / 11 * 128 + 128) 2047, 0] ∧ win0_3.index t = ![t.val / 44, 0, 0]
    ∧ win0_4.index t = ![0, 0] ∧ win0_5.index t = ![0, 0] ∧ win0_6.index t = ![0, 0, t.val % 11]
    ∧ win0_7.index t = ![0, 0, 11 + t.val % 11] ∧ win0_8.index t = ![0, 0] ∧ win0_9.index t = ![0, 0]
    ∧ win0_10.index t = ![0, t.val % 11, 0] ∧ win0_11.index t = ![t.val / 11, 0] :=
  (by decide +kernel : ∀ t : Fin grid0.N, _)

/-- There are 176 grid points. -/
theorem lt176 (t : Fin cfg0.N) : t.val < 176 := t.isLt

/-- The first grid coordinate. -/
theorem coord0 : ∀ t : Fin cfg0.N, (grid0.coords t 0).val = t.val / 11 := (by decide +kernel : ∀ t : Fin grid0.N, _)

/-- The residual stream of the run. -/
abbrev arr0 (c : Dev nD) : FVec Ideal S16384x2048 .f32 := m ((c : Thread nD τ).loc main_arg0)
/-- The modulations. -/
abbrev arr1 (c : Dev nD) : FVec Ideal S4x8x2048 .f32 := m ((c : Thread nD τ).loc main_arg1)
/-- The norm's gains. -/
abbrev arr2 (c : Dev nD) : FVec Ideal S2048 .f32 := m ((c : Thread nD τ).loc main_arg2)
/-- The up projections. -/
abbrev arr3 (c : Dev nD) : FVec Ideal S4x2048x11264 .bf16 := m ((c : Thread nD τ).loc main_arg3)
/-- The taps. -/
abbrev arr4 (c : Dev nD) : FVec Ideal S3x11264 .f32 := m ((c : Thread nD τ).loc main_arg4)
/-- The biases. -/
abbrev arr5 (c : Dev nD) : FVec Ideal S11264 .f32 := m ((c : Thread nD τ).loc main_arg5)
/-- The down projections. -/
abbrev arr6 (c : Dev nD) : FVec Ideal S4x5632x2048 .bf16 := m ((c : Thread nD τ).loc main_arg6)
/-- The eight rows before the tile. -/
theorem read0 (c : Dev nD) (t : Fin cfg0.N) (r : Fin 8) (k : Fin 2048) :
    (iblk m c 0 t : Vec Ideal S8x2048 .f32) (ix2 r k)
      = arr0 m c (ix2 ⟨(t.val / 11 * 128 - 1) * 8 + r.val, by have := lt176 t; omega⟩ k) := by
  blk_ext [iblk, V, idx t]

/-- The tile. -/
theorem read1 (c : Dev nD) (t : Fin cfg0.N) (r : Fin 1024) (k : Fin 2048) :
    (iblk m c 1 t : Vec Ideal S1024x2048 .f32) (ix2 r k)
      = arr0 m c (ix2 ⟨t.val / 11 * 1024 + r.val, by have := lt176 t; omega⟩ k) := by
  blk_ext [iblk, V, idx t]

/-- The eight rows after the tile. -/
theorem read2 (c : Dev nD) (t : Fin cfg0.N) (r : Fin 8) (k : Fin 2048) :
    (iblk m c 2 t : Vec Ideal S8x2048 .f32) (ix2 r k)
      = arr0 m c (ix2 ⟨min (t.val / 11 * 128 + 128) 2047 * 8 + r.val, by have := lt176 t; omega⟩ k) := by
  blk_ext [iblk, V, idx t]

/-- The sample's modulations. -/
theorem read3 (c : Dev nD) (t : Fin cfg0.N) (a : Fin 8) (k : Fin 2048) :
    (iblk m c 3 t : Vec Ideal S1x8x2048 .f32) (ix3 0 a k)
      = arr1 m c (ix3 ⟨t.val / 44, by have := lt176 t; omega⟩ a k) := by
  blk_ext [iblk, V, idx t]

/-- The norm's gains. -/
theorem read4 (c : Dev nD) (t : Fin cfg0.N) (k : Fin 2048) :
    (iblk m c 4 t : Vec Ideal S1x2048 .f32) (ix2 0 k) = arr2 m c (ix1 k) := by
  blk_simp [iblk, idx t]
  entry_read
  pointwise
  refine congrArg (fun k => arr2 m c (ix1 k)) (Fin.ext ?_)
  have h : ((win0_4.blk t).view.emb (ix2 0 k) 1).val = k.val := by blk_simp [idx t]
  exact h

/-- The gate's columns of the up projection. -/
theorem read6 (c : Dev nD) (t : Fin cfg0.N) (k : Fin 2048) (n : Fin 512) :
    (iblk m c 6 t : Vec Ideal S1x2048x512 .bf16) (ix3 0 k n)
      = arr3 m c (ix3 0 k ⟨t.val % 11 * 512 + n.val, by omega⟩) := by
  blk_ext [iblk, V, idx t]

/-- The value's columns of the up projection. -/
theorem read7 (c : Dev nD) (t : Fin cfg0.N) (k : Fin 2048) (n : Fin 512) :
    (iblk m c 7 t : Vec Ideal S1x2048x512 .bf16) (ix3 0 k n)
      = arr3 m c (ix3 0 k ⟨(11 + t.val % 11) * 512 + n.val, by omega⟩) := by
  blk_ext [iblk, V, idx t]

/-- The taps. -/
theorem read8 (c : Dev nD) (t : Fin cfg0.N) (a : Fin 3) (n : Fin 11264) :
    (iblk m c 8 t : Vec Ideal S3x11264 .f32) (ix2 a n) = arr4 m c (ix2 a n) := by
  blk_ext [iblk, V, idx t]

/-- The biases. -/
theorem read9 (c : Dev nD) (t : Fin cfg0.N) (n : Fin 11264) :
    (iblk m c 9 t : Vec Ideal S1x11264 .f32) (ix2 0 n) = arr5 m c (ix1 n) := by
  blk_simp [iblk, idx t]
  entry_read
  pointwise
  refine congrArg (fun k => arr5 m c (ix1 k)) (Fin.ext ?_)
  have h : ((win0_9.blk t).view.emb (ix2 0 n) 1).val = n.val := by blk_simp [idx t]
  exact h

/-- The rows of the down projection. -/
theorem read10 (c : Dev nD) (t : Fin cfg0.N) (n : Fin 512) (k : Fin 2048) :
    (iblk m c 10 t : Vec Ideal S1x512x2048 .bf16) (ix3 0 n k)
      = arr6 m c (ix3 0 ⟨t.val % 11 * 512 + n.val, by omega⟩ k) := by
  blk_ext [iblk, V, idx t]

end Cert.Kernel3Ideal.Ffn
-- ==== Proof.FfnMid.Kernel.lean ====
module

public import proofs.«01_k».proof.Proof.FfnMid.Windows
public import proofs.«01_k».proof.Proof.Ffn.Kernel

/-! The feed-forward call without the last norm: its result array is the residual stream after the layer. -/

@[expose] public section

set_option maxRecDepth 16384

noncomputable section

namespace Cert.Kernel3Ideal.Ffn

open Idealize.ShloMosaic Idealize.ShloMosaic.TcCoe Idealize.SL.Sem
open Cert.Kernel3Ideal Cert.Kernel3Ideal.Gen
open Idealize.ShloMosaic.Pipeline (Dat)
open Cert.Ffn (rowsExt rowOf part)
open Cert.Kernel2Ideal.Ffn (resid plusDown Blocks Weights plus_part)

variable (m : (ℓ : Loc nD τ sig) → Buf (Elt Ideal) ℓ)

/-- The blocks of a point. -/
theorem blocks (c : Dev nD) (t : Fin cfg0.N) : Blocks (arr0 m c) (arr1 m c) (arr2 m c) ⟨t.val / 11, by have := lt176 t; omega⟩
    (iblk m c 0 t) (iblk m c 1 t) (iblk m c 2 t) (iblk m c 3 t) (iblk m c 4 t) where
  before := read0 m c t
  tile := read1 m c t
  behind := read2 m c t
  mods a k := (read3 m c t a k).trans (congrArg (fun s => arr1 m c (ix3 s a k)) (Fin.ext (by dsimp only; omega)))
  gains := read4 m c t

/-- A first point stores the hidden rows of its tile. -/
theorem afterA2 (c : Dev nD) (t : Fin cfg0.N) (h0 : t.val % 11 = 0) (h1 : ¬t.val % 11 = 10) :
    (outsAt0 m c t.val t.isLt).2 = rowsExt (arr0 m c) (arr1 m c) (arr2 m c) ⟨t.val / 11, by have := lt176 t; omega⟩ := by
  rw [outsAt0_A m c t h0 h1]
  frame_out
  simp only [coord0 t]
  have h := Cert.Kernel2Ideal.Ffn.hidden_stores (blocks m c t)
  exact h

/-- The row tile of a point. -/
abbrev tileNo (t : Fin cfg0.N) : Fin 16 := ⟨t.val / 11, by have := lt176 t; omega⟩

/-- The weights of a point. -/
theorem weights (c : Dev nD) (t : Fin cfg0.N) : Weights 0 (arr3 m c) (arr4 m c) (arr5 m c) (arr6 m c) (t.val % 11) (Nat.mod_lt _ (by decide))
    (iblk m c 6 t) (iblk m c 7 t) (iblk m c 8 t) (iblk m c 9 t) (iblk m c 10 t) :=
  ⟨read6 m c t, read7 m c t, read8 m c t, read9 m c t, read10 m c t⟩

/-- What a point leaves: the hidden rows of its tile, and before the last column tile the parts so far. -/
theorem left (c : Dev nD) (n : ℕ) (hn : n < 176) : (outsAt0 m c n hn).2 = rowsExt (arr0 m c) (arr1 m c) (arr2 m c) ⟨n / 11, by omega⟩
    ∧ (n % 11 ≠ 10 → ∀ q : Fin 1024 × Fin 2048, (outsAt0 m c n hn).1 (ix2 q.1 q.2)
      = ∑ j ∈ Finset.range (n % 11 + 1), part 0 (arr0 m c) (arr1 m c) (arr2 m c) (arr3 m c) (arr4 m c) (arr5 m c) (arr6 m c) ⟨n / 11, by omega⟩ j q.1 q.2) := by
  refine Cert.Ffn.leaves (fun i j (q : Fin 1024 × Fin 2048) => part 0 (arr0 m c) (arr1 m c) (arr2 m c) (arr3 m c) (arr4 m c) (arr5 m c) (arr6 m c) i j q.1 q.2)
    (rowsExt (arr0 m c) (arr1 m c) (arr2 m c)) (fun n hn q => (outsAt0 m c n hn).1 (ix2 q.1 q.2)) (fun n hn => (outsAt0 m c n hn).2)
    (fun n hn h0 => ?_) (fun n hn h0 h1 p q => ?_) (fun n hn h0 => ?_) n hn
  · have b := afterA2 m c ⟨n, hn⟩ h0 (by dsimp only; omega)
    refine ⟨b, fun q => ?_⟩
    have a := afterA m c ⟨n, hn⟩ h0 (by dsimp only; omega)
    rw [b] at a
    exact (congrFun a _).trans (plus_part (weights m c ⟨n, hn⟩) _ _ q.1 q.2)
  · have a := afterB m c ⟨n + 1, hn⟩ h0 h1 (by show n + 1 - 1 < 176; omega)
    simp only [Nat.add_sub_cancel] at a
    rw [p] at a
    exact (congrFun a _).trans (plus_part (weights m c ⟨n + 1, hn⟩) _ _ q.1 q.2)
  · by_cases h1 : (n + 1) % 11 = 10
    · exact afterC2 m c ⟨n + 1, hn⟩ h0 h1
    · exact afterB2 m c ⟨n + 1, hn⟩ h0 h1 (by show n + 1 - 1 < 176; omega)

/-- A last point's block before the loop holds the down projection. -/
theorem before_last (c : Dev nD) (t : Fin cfg0.N) (h1 : t.val % 11 = 10) (r : Fin 1024) (k : Fin 2048) :
    plusDown (outsAt0 m c (t.val - 1) (Nat.lt_of_le_of_lt (Nat.sub_le _ _) t.isLt)).1
      (tileOf m c t (outsAt0 m c (t.val - 1) (Nat.lt_of_le_of_lt (Nat.sub_le _ _) t.isLt)).2) (iblk m c 10 t) (ix2 r k)
      = Cert.Ffn.down 0 (arr0 m c) (arr1 m c) (arr2 m c) (arr3 m c) (arr4 m c) (arr5 m c) (arr6 m c) (rowOf (tileNo t) r) k := by
  obtain ⟨p2, p1⟩ := left m c (t.val - 1) (Nat.lt_of_le_of_lt (Nat.sub_le _ _) t.isLt)
  have e : (t.val - 1) / 11 = t.val / 11 := by omega
  have ej : (t.val - 1) % 11 + 1 = 10 := by omega
  simp only [e, ej] at p2 p1
  rw [p2]
  refine (plus_part (weights m c t) _ _ r k).trans ?_
  rw [p1 (by omega) (r, k), h1, ← Finset.sum_range_succ]
  exact Cert.Ffn.parts_all 0 _ _ _ _ _ _ _ _ r k

/-- The kernel's result array. -/
theorem final (c : Dev nD) : (dats m 0 c).arrAt 11 (cfgs 0).N
    = fun y : S16384x2048.Idx => Cert.Ffn.res 0 (arr0 m c) (arr1 m c) (arr2 m c) (arr3 m c) (arr4 m c) (arr5 m c) (arr6 m c) (y 0) (y 1) := by
  refine (dats m 0 c).arrAt_eq_of_covers 11 _ (by decide +kernel) fun t hf y => ?_
  have h1 : t.val % 11 = 10 := (flush0_11 t).mp hf
  idx_vars y
  blk_simp
  rw [after0_11, afterC m c t (by omega) h1]
  have ht := lt176 t
  have e0 : (win0_11.blk t).view.emb (ix2 y0 y1) 0 = rowOf (tileNo t) y0 := Fin.ext (by
    have h : ((win0_11.blk t).view.emb (ix2 y0 y1) 0).val = t.val / 11 * 1024 + y0.val := by blk_simp [idx t]
    exact h)
  have e1 : (win0_11.blk t).view.emb (ix2 y0 y1) 1 = y1 := Fin.ext (by
    have h : ((win0_11.blk t).view.emb (ix2 y0 y1) 1).val = y1.val := by blk_simp [idx t]
    exact h)
  rw [e0, e1]
  show resid _ _ _ y0 y1 = _
  unfold resid Cert.Ffn.res
  rw [before_last m c t h1, read1, read3]
  have es : (⟨t.val / 44, by omega⟩ : Fin 4) = Cert.Ffn.sample (rowOf (tileNo t) y0) := Fin.ext (by dsimp only; omega)
  rw [es]

end Cert.Kernel3Ideal.Ffn
-- ==== Proof.Claims.FeedForwardMid.lean ====
module

public import proofs.«01_k».proof.Defs
public import proofs.«01_k».proof.Proof.FfnMid.Reference
public import proofs.«01_k».proof.Proof.FfnMid.Kernel
public import proofs.«01_k».proof.Proof.Gen.Kernel3Ideal.Frame
public import Idealize.ShloMosaic.Lib.Claim

/-! The feed-forward kernel without the last norm and its reference return the same array. -/

@[expose] public section

noncomputable section

namespace Cert.Proof

open Idealize.ShloMosaic Idealize.SL.Sem

/-- From memories that agree on the arguments, the feed-forward kernel without the last norm
    and the plain layer return the same array. -/
theorem feedforward_mid : Cert.algebraic_Kernel3Ideal_Reference3Ideal := by
  pair_intro
  · run_from Cert.Kernel3Ideal.Gen.run_main m g
  · run_from Cert.Reference3Ideal.Value.run m' g'
    obtain ⟨a0, a1, a2, a3, a4, a5, a6⟩ := hagree c
    refine (Cert.Reference3Ideal.Ffn.res_eq m' c).trans ?_
    rw [a0, a1, a2, a3, a4, a5, a6]
    exact (Cert.Reference3Ideal.Ffn.whole_eq _ _ _ _ _ _ _).trans (Cert.Kernel3Ideal.Ffn.final m c).symm

end Cert.Proof
-- ==== Proof.GlaOut.Spec.lean ====
module

public import proofs.«01_k».proof.Proof.Ffn.Spec

/-! The output part of a gated linear attention layer over its argument arrays: the two scans' sum, the norm of every
    head, the gate, the output product and the residual. -/

@[expose] public section

noncomputable section

namespace Cert.GlaOut

open Idealize.ShloMosaic

variable (f b r : FVec Ideal (⟨2, ![16384, 2048]⟩ : Shape) .bf16) (x : FVec Ideal (⟨2, ![16384, 2048]⟩ : Shape) .f32)
  (md : FVec Ideal (⟨3, ![4, 8, 2048]⟩ : Shape) .f32) (g : FVec Ideal (⟨1, ![512]⟩ : Shape) .f32)
  (wo : FVec Ideal (⟨3, ![2, 2048, 2048]⟩ : Shape) .bf16)

/-- The reciprocal root mean square of 512 entries. -/
def invRms (f : Fin 512 → EReal) : EReal :=
  Ideal.rsqrt (Ideal.div (∑ k : Fin 512, f k * f k) (Ideal.ofBits .f32 0x44000000#32) + Ideal.ofBits .f32 0x358637BD#32)

/-- Entry `d` of head `h` of a row: the sum of the two directions. -/
def both (q : Fin 16384) (h : Fin 4) (d : Fin 512) : EReal :=
  f (ix2 q ⟨h.val * 512 + d.val, by omega⟩) + b (ix2 q ⟨h.val * 512 + d.val, by omega⟩)

/-- The normalised head times the gate, at column `n`. -/
def gatedAt (q : Fin 16384) (n : Fin 2048) : EReal :=
  both f b q ⟨n.val / 512, by omega⟩ ⟨n.val % 512, by omega⟩ * invRms (both f b q ⟨n.val / 512, by omega⟩)
    * g (ix1 ⟨n.val % 512, by omega⟩) * Cert.Ffn.silu (r (ix2 q n))

/-- The layer's entry. -/
def layerAt (q : Fin 16384) (k : Fin 2048) : EReal :=
  x (ix2 q k) + md (ix3 (Cert.Ffn.sample q) 2 k) * ∑ n : Fin 2048, gatedAt f b r g q n * wo (ix3 0 n k)

end Cert.GlaOut
-- ==== Proof.GlaOut.Reference.lean ====
module

public import proofs.«01_k».proof.Proof.Gen.Reference4Ideal.Run
public import proofs.«01_k».proof.Proof.GlaOut.Spec
public import Idealize.ShloMosaic.Lib.Pipeline.ValueKit
public import Idealize.ShloMosaic.Lib.Pointwise

/-! The reference of the output part of gated linear attention in stages, each read at one index. -/

@[expose] public section

set_option maxRecDepth 16384

noncomputable section

namespace Cert.Reference4Ideal.GlaOut

open Idealize.ShloMosaic Idealize.ShloMosaic.TcCoe Idealize.SL.Sem
open Cert.Reference4Ideal Cert.Reference4Ideal.Gen

/-- The heads of every row of every sample. -/
def byHead (f b : FVec Ideal S16384x2048 .bf16) : FVec Ideal S4x4096x4x512 .f32 :=
  shapeCast _ (addf (extf .f32 f bitsLt_bf16_f32) (extf .f32 b bitsLt_bf16_f32)) shapeCasts_S16384x2048_S4x4096x4x512

/-- Every head normalised and weighted. -/
def normed (O : FVec Ideal S4x4096x4x512 .f32) (g : FVec Ideal S512 .f32) : FVec Ideal S4x4096x4x512 .f32 :=
  mulf (mulf O (broadcastInDim S4x4096x4x512 ![0, 1, 2, 3] bcast_S4x4096x4x1_S4x4096x4x512_0_1_2_3
      (Host.rsqrt (addf (Host.divf (broadcastInDim S4x4096x4x1 ![0, 1, 2] bcast_S4x4096x4_S4x4096x4x1_0_1_2
          (Host.reduceAdd (mulf O O) (constant S_ .f32 0x00000000#32) reducesTo_S4x4096x4x512_S4x4096x4_d3 h_S_))
        (broadcastInDim S4x4096x4x1 ![] bcast_S_S4x4096x4x1 (constant S_ .f32 0x44000000#32)))
        (broadcastInDim S4x4096x4x1 ![] bcast_S_S4x4096x4x1 (constant S_ .f32 0x358637BD#32))))))
    (broadcastInDim S4x4096x4x512 ![0, 1, 2, 3] bcast_S1x1x1x512_S4x4096x4x512_0_1_2_3 (broadcastInDim S1x1x1x512 ![3] bcast_S512_S1x1x1x512_3 g))

/-- The heads of a row side by side again. -/
def beside (O : FVec Ideal S4x4096x4x512 .f32) : FVec Ideal S4x4096x2048 .f32 :=
  shapeCast _ O shapeCasts_S4x4096x4x512_S4x4096x2048

/-- The gates by sample. -/
def gates (r : FVec Ideal S16384x2048 .bf16) : FVec Ideal S4x4096x2048 .f32 :=
  shapeCast _ (extf .f32 r bitsLt_bf16_f32 : FVec Ideal S16384x2048 .f32) shapeCasts_S16384x2048_S4x4096x2048

/-- A value times its logistic. -/
def logistic (R : FVec Ideal S4x4096x2048 .f32) : FVec Ideal S4x4096x2048 .f32 :=
  mulf R (Host.divf (broadcastInDim S4x4096x2048 ![] bcast_S_S4x4096x2048 (constant S_ .f32 0x3F800000#32))
    (addf (broadcastInDim S4x4096x2048 ![] bcast_S_S4x4096x2048 (constant S_ .f32 0x3F800000#32)) (Host.exp (Host.negf R))))

/-- The residual plus the sample's gate times the output product. -/
def residual (x : FVec Ideal S16384x2048 .f32) (A : FVec Ideal S4x4096x2048 .f32) (md : FVec Ideal S4x8x2048 .f32)
    (wo : FVec Ideal S2x2048x2048 .bf16) : FVec Ideal S16384x2048 .f32 :=
  shapeCast _ (addf (shapeCast _ x shapeCasts_S16384x2048_S4x4096x2048 : FVec Ideal S4x4096x2048 .f32)
    (mulf (broadcastInDim S4x4096x2048 ![0, 1, 2] bcast_S4x1x2048_S4x4096x2048_0_1_2
      (extractStridedSlice S4x1x2048 ![0, 2, 0] md slices_S4x8x2048_S4x1x2048_0_2_0))
    (Host.dotGeneral dot_S4x4096x2048_S2048x2048_S4x4096x2048_2_0_01_1_n_n none A
      (extf .f32 (shapeCast _ (extractStridedSlice S1x2048x2048 ![0, 0, 0] wo slices_S2x2048x2048_S1x2048x2048_0_0_0)
        shapeCasts_S1x2048x2048_S2048x2048 : FVec Ideal S2048x2048 .bf16) bitsLt_bf16_f32))))
    shapeCasts_S4x4096x2048_S16384x2048

/-- The whole reference over its seven arguments. -/
def whole (f b r : FVec Ideal S16384x2048 .bf16) (x : FVec Ideal S16384x2048 .f32) (md : FVec Ideal S4x8x2048 .f32)
    (g : FVec Ideal S512 .f32) (wo : FVec Ideal S2x2048x2048 .bf16) : FVec Ideal S16384x2048 .f32 :=
  residual x (mulf (beside (normed (byHead f b) g)) (logistic (gates r))) md wo

/-- Row `q` of sample `s` in the list of rows. -/
abbrev flat (s : Fin 4) (q : Fin 4096) : Fin 16384 := ⟨s.val * 4096 + q.val, by omega⟩

theorem byHead_at (f b : FVec Ideal S16384x2048 .bf16) (s : Fin 4) (q : Fin 4096) (h : Fin 4) (d : Fin 512) :
    byHead f b (ix4 s q h d) = Cert.GlaOut.both f b (flat s q) h d := by
  unfold Cert.GlaOut.both
  pointwise [byHead]

theorem normed_at (O : FVec Ideal S4x4096x4x512 .f32) (g : FVec Ideal S512 .f32) (s : Fin 4) (q : Fin 4096) (h : Fin 4) (d : Fin 512) :
    normed O g (ix4 s q h d) = O (ix4 s q h d) * Cert.GlaOut.invRms (fun d => O (ix4 s q h d)) * g (ix1 d) := by
  unfold Cert.GlaOut.invRms
  pointwise [normed]

theorem beside_at (O : FVec Ideal S4x4096x4x512 .f32) (s : Fin 4) (q : Fin 4096) (n : Fin 2048) :
    beside O (ix3 s q n) = O (ix4 s q ⟨n.val / 512, by omega⟩ ⟨n.val % 512, by omega⟩) := by
  pointwise [beside]

theorem logistic_at (r : FVec Ideal S16384x2048 .bf16) (s : Fin 4) (q : Fin 4096) (n : Fin 2048) :
    logistic (gates r) (ix3 s q n) = Cert.Ffn.silu (r (ix2 (flat s q) n)) := by
  unfold Cert.Ffn.silu
  pointwise [logistic, gates]

theorem residual_at (x : FVec Ideal S16384x2048 .f32) (A : FVec Ideal S4x4096x2048 .f32) (md : FVec Ideal S4x8x2048 .f32)
    (wo : FVec Ideal S2x2048x2048 .bf16) (r : Fin 16384) (k : Fin 2048) :
    residual x A md wo (ix2 r k) = x (ix2 r k) + md (ix3 (Cert.Ffn.sample r) 2 k)
      * ∑ n : Fin 2048, A (ix3 ⟨r.val / 4096, by omega⟩ ⟨r.val % 4096, by omega⟩ n) * wo (ix3 0 n k) := by
  have e : flat ⟨r.val / 4096, by omega⟩ ⟨r.val % 4096, by omega⟩ = r := Fin.ext (by dsimp only; omega)
  pointwise [residual]

/-- The whole reference is the specification at every index. -/
theorem whole_eq (f b r : FVec Ideal S16384x2048 .bf16) (x : FVec Ideal S16384x2048 .f32) (md : FVec Ideal S4x8x2048 .f32)
    (g : FVec Ideal S512 .f32) (wo : FVec Ideal S2x2048x2048 .bf16) : whole f b r x md g wo
    = fun y : S16384x2048.Idx => Cert.GlaOut.layerAt f b r x md g wo (y 0) (y 1) := by
  funext y
  idx_vars y
  have e : flat ⟨y0.val / 4096, by omega⟩ ⟨y0.val % 4096, by omega⟩ = y0 := Fin.ext (by dsimp only; omega)
  rw [whole, residual_at]
  unfold Cert.GlaOut.layerAt
  refine congrArg (fun z => x (ix2 y0 y1) + md (ix3 (Cert.Ffn.sample y0) 2 y1) * z) (Fin.sum_fin_congr fun n => ?_)
  refine congrArg (· * wo (ix3 0 n y1)) ?_
  show beside (normed (byHead f b) g) (ix3 _ _ n) * logistic (gates r) (ix3 _ _ n) = _
  rw [beside_at, normed_at, logistic_at]
  simp only [byHead_at]
  rw [e]
  rfl

end Cert.Reference4Ideal.GlaOut
-- ==== Proof.GlaOut.Kernel.lean ====
module

public import proofs.«01_k».proof.Proof.Gen.Kernel4Ideal.Value
public import proofs.«01_k».proof.Proof.GlaOut.Spec
public import Idealize.ShloMosaic.Lib.Pipeline.ValueKit
public import Idealize.ShloMosaic.Lib.Pointwise

/-! The output kernel of gated linear attention: one block as four normalised heads side by side, and the array after
    the run. -/

@[expose] public section

set_option maxRecDepth 16384

noncomputable section

namespace Cert.Kernel4Ideal.GlaOut

open Idealize.ShloMosaic Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ)

/-- Head `h`'s 512 columns lie in the block. -/
theorem sliceH (h : ℕ) (hh : h < 4) : S512x2048.Slices ![0, h * 512] S512x512 :=
  (by decide +kernel : ∀ k : Fin 4, S512x2048.Slices ![0, k.val * 512] S512x512) ⟨h, hh⟩

/-- One head's columns. -/
def head (o : FVec Ideal S512x2048 .f32) (h : ℕ) (hh : h < 4) : FVec Ideal S512x512 .f32 :=
  extractStridedSlice S512x512 ![0, h * 512] o (sliceH h hh)

/-- One head normalised and weighted. -/
def headNorm (o : FVec Ideal S512x2048 .f32) (g : Vec Ideal S1x512 .f32) (h : ℕ) (hh : h < 4) : FVec Ideal S512x512 .f32 :=
  mulf (mulf (head o h hh) (broadcastTo S512x512 (rsqrt (addf (divf (shapeCast S512x1
      (multiReduction .add [1] S512 (mulf (head o h hh) (head o h hh)) 0x00000000#32 reduces_S512x512_S512 (.inl rfl) rfl : FVec Ideal S512 .f32) shapeCasts_S512_S512x1)
    (broadcast S512x1 (Scalar.ofBits .f32 0x44000000#32))) (broadcast S512x1 (Scalar.ofBits .f32 0x358637BD#32)))) broadcasts_S512x1_S512x512))
    (broadcastTo S512x512 (shapeCast S1x512 g shapeCasts_S1x512_S1x512 : FVec Ideal S1x512 .f32) broadcasts_S1x512_S512x512)

/-- The four heads side by side. -/
def heads (o : FVec Ideal S512x2048 .f32) (g : Vec Ideal S1x512 .f32) : FVec Ideal S512x2048 .f32 :=
  concatenate S512x2048 1 (List.ofFn fun n : Fin 4 => ⟨S512x512, headNorm o g n.val n.isLt⟩)
    concatenates_S512x512_S512x512_S512x512_S512x512_S512x2048_d1

/-- The gate's value. -/
def gate (r : Vec Ideal S512x2048 .bf16) : FVec Ideal S512x2048 .f32 :=
  have w : FVec Ideal S512x2048 .f32 := extf .f32 r bitsLt_bf16_f32
  mulf w (divf (broadcast S512x2048 (Scalar.ofBits .f32 0x3F800000#32)) (addf (broadcast S512x2048 (Scalar.ofBits .f32 0x3F800000#32))
    (exp (subf (broadcast S512x2048 (Scalar.ofBits .f32 0x00000000#32)) w))))

/-- The rows that the output weights multiply. -/
def gated (f b r : Vec Ideal S512x2048 .bf16) (g : Vec Ideal S1x512 .f32) : FVec Ideal S512x2048 .bf16 :=
  truncf .bf16 (mulf (heads (k0_pay2 f b) g) (gate r)) bitsLt_bf16_f32

/-- What a grid point stores. -/
def blockOut (A : FVec Ideal S512x2048 .bf16) (x : Vec Ideal S512x2048 .f32) (md : Vec Ideal S1x8x2048 .f32)
    (wo : Vec Ideal S1x2048x2048 .bf16) : FVec Ideal S512x2048 .f32 :=
  k0_pay1 A x (k0_pay9 (View.ld md r0_2)) wo

theorem after_eq (c : Dev nD) (t : Fin cfg0.N) : (dats m 0 c).after 7 t =
    blockOut (gated (iblk m c 0 t) (iblk m c 1 t) (iblk m c 2 t) (iblk m c 5 t)) (iblk m c 3 t) (iblk m c 4 t) (iblk m c 6 t) := by
  rw [after0_7]; unfold out0_7; frame_out
  rfl

theorem headNorm_at (o : FVec Ideal S512x2048 .f32) (g : Vec Ideal S1x512 .f32) (h : Fin 4) (q d : Fin 512) :
    headNorm o g h.val h.isLt (ix2 q d) = o (ix2 q ⟨h.val * 512 + d.val, by omega⟩)
      * Cert.GlaOut.invRms (fun d => o (ix2 q ⟨h.val * 512 + d.val, by omega⟩)) * g (ix2 0 d) := by
  unfold Cert.GlaOut.invRms
  pointwise [headNorm, head]

theorem heads_at (o : FVec Ideal S512x2048 .f32) (g : Vec Ideal S1x512 .f32) (q : Fin 512) (n : Fin 2048) :
    heads o g (ix2 q n) = headNorm o g (n.val / 512) (by omega) (ix2 q ⟨n.val % 512, by omega⟩) := by
  refine concatenate_ofFn_apply (t := S512x2048) (1 : Fin 2) (s₁ := S512x512) (fun k : Fin 4 => headNorm o g k.val k.isLt) _ rfl 512 rfl
    (ix2 q n) ⟨n.val / 512, by omega⟩ rfl (ix2 q ⟨n.val % 512, by omega⟩) rfl (by
      intro b hb; fin_cases b
      · rfl
      · exact absurd rfl hb)

theorem gate_at (r : Vec Ideal S512x2048 .bf16) (q : Fin 512) (n : Fin 2048) :
    gate r (ix2 q n) = Cert.Ffn.silu (r (ix2 q n)) := by
  unfold Cert.Ffn.silu
  pointwise [gate]
  rw [zero_sub]

theorem gated_at (f b r : Vec Ideal S512x2048 .bf16) (g : Vec Ideal S1x512 .f32) (q : Fin 512) (n : Fin 2048) :
    gated f b r g (ix2 q n) = heads (k0_pay2 f b) g (ix2 q n) * gate r (ix2 q n) := by
  pointwise [gated]

theorem sum_at (f b : Vec Ideal S512x2048 .bf16) (q : Fin 512) (n : Fin 2048) :
    k0_pay2 f b (ix2 q n) = f (ix2 q n) + b (ix2 q n) := by
  pointwise [k0_pay2]

theorem blockOut_at (A : FVec Ideal S512x2048 .bf16) (x : Vec Ideal S512x2048 .f32) (md : Vec Ideal S1x8x2048 .f32)
    (wo : Vec Ideal S1x2048x2048 .bf16) (q : Fin 512) (k : Fin 2048) :
    blockOut A x md wo (ix2 q k) = x (ix2 q k) + md (ix3 0 2 k) * ∑ n : Fin 2048, A (ix2 q n) * wo (ix3 0 n k) := by
  pointwise [blockOut, k0_pay1, k0_pay9]

/-- The block every window sits at, at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val / 8, 0, 0] ∧ win0_5.index t = ![0, 0]
    ∧ win0_6.index t = ![0, 0, 0] ∧ win0_7.index t = ![t.val, 0] :=
  (by decide +kernel : ∀ t : Fin grid0.N, _)

/-- There are 32 grid points. -/
theorem lt32 (t : Fin cfg0.N) : t.val < 32 := t.isLt

/-- The forward scan of the run. -/
abbrev arr0 (c : Dev nD) : FVec Ideal S16384x2048 .bf16 := m ((c : Thread nD τ).loc main_arg0)
/-- The backward scan. -/
abbrev arr1 (c : Dev nD) : FVec Ideal S16384x2048 .bf16 := m ((c : Thread nD τ).loc main_arg1)
/-- The gates. -/
abbrev arr2 (c : Dev nD) : FVec Ideal S16384x2048 .bf16 := m ((c : Thread nD τ).loc main_arg2)
/-- The residual stream. -/
abbrev arr3 (c : Dev nD) : FVec Ideal S16384x2048 .f32 := m ((c : Thread nD τ).loc main_arg3)
/-- The modulations. -/
abbrev arr4 (c : Dev nD) : FVec Ideal S4x8x2048 .f32 := m ((c : Thread nD τ).loc main_arg4)
/-- The heads' gains. -/
abbrev arr5 (c : Dev nD) : FVec Ideal S512 .f32 := m ((c : Thread nD τ).loc main_arg5)
/-- The output weights. -/
abbrev arr6 (c : Dev nD) : FVec Ideal S2x2048x2048 .bf16 := m ((c : Thread nD τ).loc main_arg6)

/-- Row `q` of a point's block in the whole array. -/
abbrev rowOf (t : Fin cfg0.N) (q : Fin 512) : Fin 16384 := ⟨t.val * 512 + q.val, by have := lt32 t; omega⟩

theorem read0 (c : Dev nD) (t : Fin cfg0.N) (q : Fin 512) (n : Fin 2048) :
    (iblk m c 0 t : Vec Ideal S512x2048 .bf16) (ix2 q n) = arr0 m c (ix2 (rowOf t q) n) := by
  blk_ext [iblk, V, idx t]

theorem read1 (c : Dev nD) (t : Fin cfg0.N) (q : Fin 512) (n : Fin 2048) :
    (iblk m c 1 t : Vec Ideal S512x2048 .bf16) (ix2 q n) = arr1 m c (ix2 (rowOf t q) n) := by
  blk_ext [iblk, V, idx t]

theorem read2 (c : Dev nD) (t : Fin cfg0.N) (q : Fin 512) (n : Fin 2048) :
    (iblk m c 2 t : Vec Ideal S512x2048 .bf16) (ix2 q n) = arr2 m c (ix2 (rowOf t q) n) := by
  blk_ext [iblk, V, idx t]

theorem read3 (c : Dev nD) (t : Fin cfg0.N) (q : Fin 512) (n : Fin 2048) :
    (iblk m c 3 t : Vec Ideal S512x2048 .f32) (ix2 q n) = arr3 m c (ix2 (rowOf t q) n) := by
  blk_ext [iblk, V, idx t]

theorem read4 (c : Dev nD) (t : Fin cfg0.N) (a : Fin 8) (n : Fin 2048) :
    (iblk m c 4 t : Vec Ideal S1x8x2048 .f32) (ix3 0 a n) = arr4 m c (ix3 ⟨t.val / 8, by have := lt32 t; omega⟩ a n) := by
  blk_ext [iblk, V, idx t]

theorem read5 (c : Dev nD) (t : Fin cfg0.N) (n : Fin 512) :
    (iblk m c 5 t : Vec Ideal S1x512 .f32) (ix2 0 n) = arr5 m c (ix1 n) := by
  blk_simp [iblk, idx t]
  entry_read
  pointwise
  refine congrArg (fun k => arr5 m c (ix1 k)) (Fin.ext ?_)
  have h : ((win0_5.blk t).view.emb (ix2 0 n) 1).val = n.val := by blk_simp [idx t]
  exact h

theorem read6 (c : Dev nD) (t : Fin cfg0.N) (n k : Fin 2048) :
    (iblk m c 6 t : Vec Ideal S1x2048x2048 .bf16) (ix3 0 n k) = arr6 m c (ix3 0 n k) := by
  blk_ext [iblk, V, idx t]

/-- The rows that the output weights multiply are the specification's. -/
theorem gated_eq (c : Dev nD) (t : Fin cfg0.N) (q : Fin 512) (n : Fin 2048) :
    gated (iblk m c 0 t) (iblk m c 1 t) (iblk m c 2 t) (iblk m c 5 t) (ix2 q n)
      = Cert.GlaOut.gatedAt (arr0 m c) (arr1 m c) (arr2 m c) (arr5 m c) (rowOf t q) n := by
  rw [gated_at, gate_at, read2, heads_at, headNorm_at (h := ⟨n.val / 512, by omega⟩), read5]
  simp only [sum_at, read0, read1]
  rfl

/-- The kernel's result array. -/
theorem final (c : Dev nD) : (dats m 0 c).arrAt 7 (cfgs 0).N
    = fun y : S16384x2048.Idx => Cert.GlaOut.layerAt (arr0 m c) (arr1 m c) (arr2 m c) (arr3 m c) (arr4 m c) (arr5 m c) (arr6 m c) (y 0) (y 1) := by
  refine (dats m 0 c).arrAt_eq_of_covers 7 _ (by decide +kernel) fun t _ y => ?_
  idx_vars y
  blk_simp
  rw [after_eq]
  have ht := lt32 t
  have e0 : (win0_7.blk t).view.emb (ix2 y0 y1) 0 = rowOf t y0 := Fin.ext (by
    have h : ((win0_7.blk t).view.emb (ix2 y0 y1) 0).val = t.val * 512 + y0.val := by blk_simp [idx t]
    exact h)
  have e1 : (win0_7.blk t).view.emb (ix2 y0 y1) 1 = y1 := Fin.ext (by
    have h : ((win0_7.blk t).view.emb (ix2 y0 y1) 1).val = y1.val := by blk_simp [idx t]
    exact h)
  rw [e0, e1]
  have e2 : (⟨t.val / 8, by omega⟩ : Fin 4) = Cert.Ffn.sample (rowOf t y0) := Fin.ext (by dsimp only; omega)
  refine (blockOut_at _ _ _ _ y0 y1).trans ?_
  rw [read3, read4, e2]
  unfold Cert.GlaOut.layerAt
  refine congrArg (fun z => arr3 m c (ix2 (rowOf t y0) y1) + arr4 m c (ix3 (Cert.Ffn.sample (rowOf t y0)) 2 y1) * z) (Fin.sum_fin_congr fun n => ?_)
  rw [read6]
  exact congrArg (· * _) (gated_eq m c t y0 n)

end Cert.Kernel4Ideal.GlaOut
-- ==== Proof.Claims.GlaOutput.lean ====
module

public import proofs.«01_k».proof.Defs
public import proofs.«01_k».proof.Proof.GlaOut.Reference
public import proofs.«01_k».proof.Proof.GlaOut.Kernel
public import Idealize.ShloMosaic.Lib.Claim

/-! The output kernel of gated linear attention and its reference return the same array. -/

@[expose] public section

set_option maxRecDepth 16384

noncomputable section

namespace Cert.Proof

open Idealize.ShloMosaic Idealize.SL.Sem Cert.Kernel4Ideal.GlaOut

/-- From memories that agree on the arguments, the output kernel of gated linear attention and the plain lines return
    the same array. -/
theorem gla_output : Cert.algebraic_Kernel4Ideal_Reference4Ideal := by
  pair_intro
  · run_from Cert.Kernel4Ideal.Gen.run_main m g
  · run_from Cert.Reference4Ideal.Value.run m' g'
    change Cert.Reference4Ideal.GlaOut.whole (arr0 m c) (arr1 m c) (arr2 m c) (arr3 m c) (arr4 m c) (arr5 m c) (arr6 m c) = _
    exact (Cert.Reference4Ideal.GlaOut.whole_eq _ _ _ _ _ _ _).trans (Cert.Kernel4Ideal.GlaOut.final m c).symm

end Cert.Proof
-- ==== Proof.GlaIn.Spec.lean ====
module

public import proofs.«01_k».proof.Proof.Ffn.Spec

/-! The input projection of a gated linear attention layer over its argument arrays: the normalised and modulated rows
    times columns of the first layer's input weights. -/

@[expose] public section

noncomputable section

namespace Cert.GlaIn

open Idealize.ShloMosaic

variable (x : FVec Ideal (⟨2, ![16384, 2048]⟩ : Shape) .f32) (md : FVec Ideal (⟨3, ![4, 8, 2048]⟩ : Shape) .f32)
  (g : FVec Ideal (⟨1, ![2048]⟩ : Shape) .f32) (w : FVec Ideal (⟨3, ![2, 2048, 6144]⟩ : Shape) .f32)

/-- The normalised, modulated row. -/
def hid (r : Fin 16384) (k : Fin 2048) : EReal :=
  x (ix2 r k) * Cert.Ffn.invRms (fun k => x (ix2 r k)) * (g (ix1 k) * (1 + md (ix3 (Cert.Ffn.sample r) 1 k)))
    + md (ix3 (Cert.Ffn.sample r) 0 k)

/-- Column `n` of its projection. -/
def projAt (r : Fin 16384) (n : Fin 6144) : EReal := ∑ k : Fin 2048, hid x md g r k * w (ix3 0 k n)

end Cert.GlaIn
-- ==== Proof.GlaIn.Reference.lean ====
module

public import proofs.«01_k».proof.Proof.Gen.Reference5Ideal.Run
public import proofs.«01_k».proof.Proof.Ffn.ReferenceRead
public import proofs.«01_k».proof.Proof.GlaIn.Spec

/-! The reference of the input projection of gated linear attention in stages, each read at one index. -/

@[expose] public section

set_option maxRecDepth 16384

noncomputable section

namespace Cert.Reference5Ideal.GlaIn

open Idealize.ShloMosaic Idealize.ShloMosaic.TcCoe Idealize.SL.Sem
open Cert.Reference5Ideal Cert.Reference5Ideal.Gen
open Cert.Reference2Ideal.Ffn (byStream scaled flat byStream_at scaled_at rowScale_at sample_flat)

/-- The sample's scale and shift applied. -/
def modulated (Z : FVec Ideal S4x4096x2048 .f32) (md : FVec Ideal S4x8x2048 .f32) : FVec Ideal S4x4096x2048 .f32 :=
  addf (mulf Z (broadcastInDim S4x4096x2048 ![0, 1, 2] bcast_S4x1x2048_S4x4096x2048_0_1_2
      (addf (broadcastInDim S4x1x2048 ![] bcast_S_S4x1x2048 (constant S_ .f32 0x3F800000#32))
        (extractStridedSlice S4x1x2048 ![0, 1, 0] md slices_S4x8x2048_S4x1x2048_0_1_0))))
    (broadcastInDim S4x4096x2048 ![0, 1, 2] bcast_S4x1x2048_S4x4096x2048_0_1_2
      (extractStridedSlice S4x1x2048 ![0, 0, 0] md slices_S4x8x2048_S4x1x2048_0_0_0))

/-- The product with the first layer's input weights. -/
def projected (H : FVec Ideal S4x4096x2048 .f32) (w : FVec Ideal S2x2048x6144 .f32) : FVec Ideal S4x4096x6144 .f32 :=
  Host.dotGeneral dot_S4x4096x2048_S2048x6144_S4x4096x6144_2_0_01_1_n_n none H
    (shapeCast _ (extractStridedSlice S1x2048x6144 ![0, 0, 0] w slices_S2x2048x6144_S1x2048x6144_0_0_0) shapeCasts_S1x2048x6144_S2048x6144)

/-- All columns of the projection. -/
def all (x : FVec Ideal S16384x2048 .f32) (md : FVec Ideal S4x8x2048 .f32) (g : FVec Ideal S2048 .f32)
    (w : FVec Ideal S2x2048x6144 .f32) : FVec Ideal S4x4096x6144 .f32 :=
  projected (modulated (scaled (byStream x) g) md) w

/-- The 2048 columns from column `o` on, the rows in one list. -/
def part (P : FVec Ideal S4x4096x6144 .f32) (o : ℕ) (h : S4x4096x6144.Slices ![0, 0, o] S4x4096x2048) : FVec Ideal S16384x2048 .bf16 :=
  truncf .bf16 (shapeCast S16384x2048 (extractStridedSlice S4x4096x2048 ![0, 0, o] P h : FVec Ideal S4x4096x2048 .f32)
    shapeCasts_S4x4096x2048_S16384x2048) bitsLt_bf16_f32

theorem modulated_at (Z : FVec Ideal S4x4096x2048 .f32) (md : FVec Ideal S4x8x2048 .f32) (s : Fin 4) (q : Fin 4096) (k : Fin 2048) :
    modulated Z md (ix3 s q k) = Z (ix3 s q k) * (1 + md (ix3 s 1 k)) + md (ix3 s 0 k) := by
  pointwise [modulated]

theorem projected_at (H : FVec Ideal S4x4096x2048 .f32) (w : FVec Ideal S2x2048x6144 .f32) (s : Fin 4) (q : Fin 4096) (n : Fin 6144) :
    projected H w (ix3 s q n) = ∑ k : Fin 2048, H (ix3 s q k) * w (ix3 0 k n) := by
  pointwise [projected]

/-- The normalised, modulated rows are the specification's. -/
theorem hidden_at (x : FVec Ideal S16384x2048 .f32) (md : FVec Ideal S4x8x2048 .f32) (g : FVec Ideal S2048 .f32) (s : Fin 4) (q : Fin 4096)
    (k : Fin 2048) : modulated (scaled (byStream x) g) md (ix3 s q k) = Cert.GlaIn.hid x md g (flat s q) k := by
  rw [modulated_at, scaled_at, rowScale_at]
  unfold Cert.GlaIn.hid
  simp only [byStream_at, sample_flat]
  rw [mul_assoc _ (g (ix1 k)) _]

/-- The projection is the specification's. -/
theorem all_at (x : FVec Ideal S16384x2048 .f32) (md : FVec Ideal S4x8x2048 .f32) (g : FVec Ideal S2048 .f32) (w : FVec Ideal S2x2048x6144 .f32)
    (s : Fin 4) (q : Fin 4096) (n : Fin 6144) : all x md g w (ix3 s q n) = Cert.GlaIn.projAt x md g w (flat s q) n := by
  rw [all, projected_at]
  unfold Cert.GlaIn.projAt
  exact Fin.sum_fin_congr fun k => congrArg (· * w (ix3 0 k n)) (hidden_at x md g s q k)

theorem part_at (P : FVec Ideal S4x4096x6144 .f32) (o : ℕ) (ho : o + 2048 ≤ 6144) (h : S4x4096x6144.Slices ![0, 0, o] S4x4096x2048) (r : Fin 16384)
    (n : Fin 2048) : part P o h (ix2 r n) = P (ix3 ⟨r.val / 4096, by omega⟩ ⟨r.val % 4096, by omega⟩ ⟨o + n.val, by omega⟩) := by
  pointwise [part]

/-- Each result of the reference is the specification at every index. -/
theorem part_eq (x : FVec Ideal S16384x2048 .f32) (md : FVec Ideal S4x8x2048 .f32) (g : FVec Ideal S2048 .f32) (w : FVec Ideal S2x2048x6144 .f32)
    (o : ℕ) (ho : o + 2048 ≤ 6144) (h : S4x4096x6144.Slices ![0, 0, o] S4x4096x2048) : part (all x md g w) o h
    = fun y : S16384x2048.Idx => Cert.GlaIn.projAt x md g w (y 0) ⟨o + (y 1).val, by have := (y 1).isLt; have e : S16384x2048.size 1 = 2048 := rfl; omega⟩ := by
  funext y
  idx_vars y
  have e : flat ⟨y0.val / 4096, by omega⟩ ⟨y0.val % 4096, by omega⟩ = y0 := Fin.ext (by dsimp only; omega)
  rw [part_at _ o ho, all_at, e]

end Cert.Reference5Ideal.GlaIn
-- ==== Proof.GlaIn.Kernel.lean ====
module

public import proofs.«01_k».proof.Proof.Gen.Kernel5Ideal.Value
public import proofs.«01_k».proof.Proof.GlaIn.Spec
public import Idealize.ShloMosaic.Lib.Pipeline.ValueKit
public import Idealize.ShloMosaic.Lib.Pipeline.ReadBack
public import Idealize.ShloMosaic.Lib.Pointwise

/-! The input projection kernel of gated linear attention. Every grid point stores the normalised rows of its tile in one
    of two buffers, and multiplies the rows that the point before stored in the other. -/

@[expose] public section

set_option maxRecDepth 16384

noncomputable section

namespace Cert.Kernel5Ideal.GlaIn

open Idealize.ShloMosaic Idealize.ShloMosaic.TcCoe Idealize.SL.Sem
open Idealize.ShloMosaic.Pipeline (Dat)
open Cert.Kernel5Ideal Cert.Kernel5Ideal.Gen

variable (m : (ℓ : Loc nD τ sig) → Buf (Elt Ideal) ℓ)

/-- One row of the sample's modulations. -/
abbrev modRow (M : Vec Ideal S1x8x2048 .f32) (a : ℕ) (h : ∀ b, (![0, a, 0] : Fin 3 → Nat) b + S1x1x2048.size b ≤ S1x8x2048.size b) :
    Vec Ideal S1x1x2048 .f32 :=
  View.ld (Val := Elt Ideal) (e' := .f32) M (Rect.unit (s := S1x8x2048) ![0, a, 0] S1x1x2048.size h)

/-- The rows a grid point normalises and stores. -/
def newRows (X : Vec Ideal S512x2048 .f32) (M : Vec Ideal S1x8x2048 .f32) (G : Vec Ideal S1x2048 .f32) : FVec Ideal S512x2048 .bf16 :=
  k0_pay2 X (k0_pay8 G) (modRow M 1 inb_S1x8x2048_S1x1x2048_0_1_0) (modRow M 0 inb_S1x8x2048_S1x1x2048_0_0_0)

/-- The products of rows with 2048 columns of the weights from column `o` on. -/
def products (o : ℕ) (ho : o + 2048 ≤ 4096) (H : FVec Ideal S512x2048 .bf16) (w : Vec Ideal S1x2048x4096 .bf16) : FVec Ideal S512x2048 .bf16 :=
  fun y => ∑ k : Fin 2048, H (ix2 (y 0) k) * w (ix3 0 k ⟨o + (y 1).val, by have := (y 1).isLt; have e : S512x2048.size 1 = 2048 := rfl; omega⟩)

/-- 1024 columns of the weights. -/
abbrev cols (w : Vec Ideal S1x2048x4096 .bf16) (o : ℕ) (h : ∀ b, (![0, 0, o] : Fin 3 → Nat) b + S1x2048x1024.size b ≤ S1x2048x4096.size b) :
    Vec Ideal S1x2048x1024 .bf16 :=
  View.ld (Val := Elt Ideal) (e' := .bf16) w (Rect.unit (s := S1x2048x4096) ![0, 0, o] S1x2048x1024.size h)

/-- A product with 1024 columns. -/
theorem chunk_at (H : FVec Ideal S512x2048 .bf16) (w : Vec Ideal S1x2048x4096 .bf16) (o : ℕ)
    (h : ∀ b, (![0, 0, o] : Fin 3 → Nat) b + S1x2048x1024.size b ≤ S1x2048x4096.size b) (ho : o + 1024 ≤ 4096) (q : Fin 512) (n : Fin 1024) :
    k0_pay4 H (cols w o h) (ix2 q n) = ∑ k : Fin 2048, H (ix2 q k) * w (ix3 0 k ⟨o + n.val, by omega⟩) := by
  pointwise [k0_pay4, cols]

/-- The two stores of 1024 columns leave the products. -/
theorem product_stores (H : FVec Ideal S512x2048 .bf16) (w : Vec Ideal S1x2048x4096 .bf16) (o : ℕ) (ho : o + 2048 ≤ 4096)
    (h : ∀ b, (![0, 0, o] : Fin 3 → Nat) b + S1x2048x1024.size b ≤ S1x2048x4096.size b)
    (h' : ∀ b, (![0, 0, o + 1024] : Fin 3 → Nat) b + S1x2048x1024.size b ≤ S1x2048x4096.size b) :
    View.canon (Val := Elt Ideal) (s := S512x2048) (e := .bf16)
      [⟨Rect.unit ![0, 1024] ![512, 1024] inb_S512x2048_S512x1024_0_1024, k0_pay4 H (cols w (o + 1024) h')⟩,
        ⟨Rect.unit ![0, 0] ![512, 1024] inb_S512x2048_S512x1024_0_0, k0_pay4 H (cols w o h)⟩] = products o ho H w := by
  funext y
  idx_vars y
  canon_tiles x hx
  all_goals
    idx_vars x
    obtain rfl : x0 = y0 := (Fin.ext hx0).symm
  · refine (chunk_at H w _ h' (by omega) x0 x1).trans (Fin.sum_fin_congr fun k => ?_)
    exact congrArg (fun n => H (ix2 x0 k) * w (ix3 0 k n)) (Fin.ext (by show o + 1024 + x1.val = o + y1.val; omega))
  · refine (chunk_at H w _ h (by omega) x0 x1).trans (Fin.sum_fin_congr fun k => ?_)
    exact congrArg (fun n => H (ix2 x0 k) * w (ix3 0 k n)) (Fin.ext (by show o + x1.val = o + y1.val; omega))

/-- There are 33 grid points. -/
theorem lt33 (t : Fin cfg0.N) : t.val < 33 := t.isLt

/-- An even point stores its rows in the first buffer. -/
theorem stored_even (c : Dev nD) (t : Fin cfg0.N) (h : t.val % 2 = 0) :
    (outsAt0 m c t.val t.isLt).2.2.1 = newRows (iblk m c 0 t) (iblk m c 1 t) (iblk m c 2 t) := by
  have ht := lt33 t
  by_cases h0 : t.val % 33 = 0
  · rw [outsAt0_A m c t h0 h (by omega)]
    frame_out
    rfl
  · rw [outsAt0_C m c t h0 h (by omega)]
    frame_out
    rfl

/-- An odd point stores its rows in the second buffer. -/
theorem stored_odd (c : Dev nD) (t : Fin cfg0.N) (h : t.val % 2 = 1) :
    (outsAt0 m c t.val t.isLt).2.2.2 = newRows (iblk m c 0 t) (iblk m c 1 t) (iblk m c 2 t) := by
  have ht := lt33 t
  rw [outsAt0_B m c t (by omega) (by omega) h]
  frame_out
  rfl

/-- The block every window sits at, at every grid point. -/
theorem idx : ∀ t : Fin cfg0.N, win0_0.index t = ![min t.val 31, 0] ∧ win0_1.index t = ![min t.val 31 / 8, 0, 0]
    ∧ win0_2.index t = ![0, 0] ∧ win0_3.index t = ![0, 0, 0] ∧ win0_4.index t = ![t.val - 1, 0] ∧ win0_5.index t = ![t.val - 1, 0] :=
  (by decide +kernel : ∀ t : Fin grid0.N, _)

/-- The point before. -/
abbrev prev (t : Fin cfg0.N) : Fin cfg0.N := ⟨t.val - 1, Nat.lt_of_le_of_lt (Nat.sub_le _ _) t.isLt⟩

/-- The rows that a point multiplies: those of the point before. -/
abbrev rowsBefore (c : Dev nD) (t : Fin cfg0.N) : FVec Ideal S512x2048 .bf16 :=
  newRows (iblk m c 0 (prev t)) (iblk m c 1 (prev t)) (iblk m c 2 (prev t))

/-- Every point after the first leaves the products of the rows of the point before in the two output windows. -/
theorem outs (c : Dev nD) (t : Fin cfg0.N) (hz : t.val ≠ 0) :
    (outsAt0 m c t.val t.isLt).1 = products 0 (by omega) (rowsBefore m c t) (iblk m c 3 t)
    ∧ (outsAt0 m c t.val t.isLt).2.1 = products 2048 (by omega) (rowsBefore m c t) (iblk m c 3 t) := by
  have ht := lt33 t
  have p0 := fun H => product_stores H (iblk m c 3 t) 0 (by omega) inb_S1x2048x4096_S1x2048x1024_0_0_0 inb_S1x2048x4096_S1x2048x1024_0_0_1024
  have p1 := fun H => product_stores H (iblk m c 3 t) 2048 (by omega) inb_S1x2048x4096_S1x2048x1024_0_0_2048 inb_S1x2048x4096_S1x2048x1024_0_0_3072
  by_cases h : t.val % 2 = 1
  · have e : rowsBefore m c t = _ := (stored_even m c (prev t) (by show (t.val - 1) % 2 = 0; omega)).symm
    rw [outsAt0_B m c t (by omega) (by omega) h, e]
    constructor
    · frame_out
      simp (disch := decide) only [read_unread_whole]
      exact p0 _
    · frame_out
      simp (disch := decide) only [read_unread_whole]
      exact p1 _
  · have e : rowsBefore m c t = _ := (stored_odd m c (prev t) (by show (t.val - 1) % 2 = 1; omega)).symm
    rw [outsAt0_C m c t (by omega) (by omega) h, e]
    constructor
    · frame_out
      simp (disch := decide) only [read_unread_whole]
      exact p0 _
    · frame_out
      simp (disch := decide) only [read_unread_whole]
      exact p1 _

/-- The residual stream of the run. -/
abbrev arr0 (c : Dev nD) : FVec Ideal S16384x2048 .f32 := m ((c : Thread nD τ).loc main_arg0)
/-- The modulations. -/
abbrev arr1 (c : Dev nD) : FVec Ideal S4x8x2048 .f32 := m ((c : Thread nD τ).loc main_arg1)
/-- The norm's gains. -/
abbrev arr2 (c : Dev nD) : FVec Ideal S2048 .f32 := m ((c : Thread nD τ).loc main_arg2)
/-- The input weights. -/
abbrev arr3 (c : Dev nD) : FVec Ideal S2x2048x6144 .f32 := m ((c : Thread nD τ).loc main_arg3)

/-- The tile whose rows a point normalises. -/
abbrev tileAt (t : Fin cfg0.N) (q : Fin 512) : Fin 16384 := ⟨min t.val 31 * 512 + q.val, by omega⟩

theorem read0 (c : Dev nD) (t : Fin cfg0.N) (q : Fin 512) (k : Fin 2048) :
    (iblk m c 0 t : Vec Ideal S512x2048 .f32) (ix2 q k) = arr0 m c (ix2 (tileAt t q) k) := by
  blk_ext [iblk, V, idx t]

theorem read1 (c : Dev nD) (t : Fin cfg0.N) (a : Fin 8) (k : Fin 2048) :
    (iblk m c 1 t : Vec Ideal S1x8x2048 .f32) (ix3 0 a k) = arr1 m c (ix3 ⟨min t.val 31 / 8, by omega⟩ a k) := by
  blk_ext [iblk, V, idx t]

theorem read2 (c : Dev nD) (t : Fin cfg0.N) (k : Fin 2048) :
    (iblk m c 2 t : Vec Ideal S1x2048 .f32) (ix2 0 k) = arr2 m c (ix1 k) := by
  blk_simp [iblk, idx t]
  entry_read
  pointwise
  refine congrArg (fun k => arr2 m c (ix1 k)) (Fin.ext ?_)
  have h : ((win0_2.blk t).view.emb (ix2 0 k) 1).val = k.val := by blk_simp [idx t]
  exact h

/-- The weights' columns after the first 2048 ones. -/
theorem read3 (c : Dev nD) (t : Fin cfg0.N) (k : Fin 2048) (n : Fin 4096) :
    (iblk m c 3 t : Vec Ideal S1x2048x4096 .bf16) (ix3 0 k n) = arr3 m c (ix3 0 k ⟨2048 + n.val, by omega⟩) := by
  blk_simp [iblk, idx t]
  entry_read
  pointwise
  have h0 : ((View.whole main_v1).slice (win0_3.rect t)).emb (ix3 0 k n) 0 = (0 : Fin 2) := Fin.ext (by
    have h : ((win0_3.blk t).view.emb (ix3 0 k n) 0).val = 0 := by
      blk_simp [idx t]
      rfl
    exact h)
  have h1 : ((View.whole main_v1).slice (win0_3.rect t)).emb (ix3 0 k n) 1 = k := Fin.ext (by
    have h : ((win0_3.blk t).view.emb (ix3 0 k n) 1).val = k.val := by blk_simp [idx t]
    exact h)
  have h2 : (((View.whole main_v1).slice (win0_3.rect t)).emb (ix3 0 k n) 2).val = n.val := by
    have h : ((win0_3.blk t).view.emb (ix3 0 k n) 2).val = n.val := by blk_simp [idx t]
    exact h
  simp only [h0, h1, h2]

/-- The rows a point stores, at one index. -/
theorem newRows_at (X : Vec Ideal S512x2048 .f32) (M : Vec Ideal S1x8x2048 .f32) (G : Vec Ideal S1x2048 .f32) (q : Fin 512) (k : Fin 2048) :
    newRows X M G (ix2 q k) = X (ix2 q k) * Cert.Ffn.invRms (fun k => X (ix2 q k)) * (G (ix2 0 k) * (1 + M (ix3 0 1 k))) + M (ix3 0 0 k) := by
  unfold Cert.Ffn.invRms
  pointwise [newRows, k0_pay2, k0_pay8, modRow]

/-- The rows a point stores are the specification's. -/
theorem newRows_eq (c : Dev nD) (t : Fin cfg0.N) (q : Fin 512) (k : Fin 2048) :
    newRows (iblk m c 0 t) (iblk m c 1 t) (iblk m c 2 t) (ix2 q k) = Cert.GlaIn.hid (arr0 m c) (arr1 m c) (arr2 m c) (tileAt t q) k := by
  rw [newRows_at, read1, read1, read2]
  simp only [read0]
  have e : (⟨min t.val 31 / 8, by omega⟩ : Fin 4) = Cert.Ffn.sample (tileAt t q) := Fin.ext (by dsimp only; omega)
  rw [e]
  rfl

/-- The products a point leaves are the specification's columns. -/
theorem products_eq (c : Dev nD) (t : Fin cfg0.N) (hz : t.val ≠ 0) (o : ℕ) (ho : o + 2048 ≤ 4096) (q : Fin 512) (n : Fin 2048) :
    products o ho (rowsBefore m c t) (iblk m c 3 t) (ix2 q n) = Cert.GlaIn.projAt (arr0 m c) (arr1 m c) (arr2 m c) (arr3 m c)
      ⟨(t.val - 1) * 512 + q.val, by have := lt33 t; omega⟩ ⟨2048 + (o + n.val), by omega⟩ := by
  have ht := lt33 t
  have e : tileAt (prev t) q = ⟨(t.val - 1) * 512 + q.val, by omega⟩ := Fin.ext (by dsimp only; omega)
  unfold Cert.GlaIn.projAt products
  rw [← e]
  refine Fin.sum_fin_congr fun k => ?_
  rw [read3]
  exact congrArg (· * _) (newRows_eq m c (prev t) q k)

/-- Points that write back come after the first. -/
theorem flush_pos : ∀ t : Fin cfg0.N, (cfg0.win 4).flush t = true ∨ (cfg0.win 5).flush t = true → t.val ≠ 0 :=
  (by decide +kernel : ∀ t : Fin grid0.N, _)

/-- The first result array. -/
theorem final4 (c : Dev nD) : (dats m 0 c).arrAt 4 (cfgs 0).N = fun y : S16384x2048.Idx =>
    Cert.GlaIn.projAt (arr0 m c) (arr1 m c) (arr2 m c) (arr3 m c) (y 0) ⟨2048 + (y 1).val, by have := (y 1).isLt; have e : S16384x2048.size 1 = 2048 := rfl; omega⟩ := by
  refine (dats m 0 c).arrAt_eq_of_covers 4 _ (by decide +kernel) fun t hf y => ?_
  have hz := flush_pos t (.inl hf)
  idx_vars y
  blk_simp
  rw [after0_4, (outs m c t hz).1]
  have ht := lt33 t
  refine (products_eq m c t hz 0 (by omega) y0 y1).trans ?_
  refine congrArg₂ (Cert.GlaIn.projAt _ _ _ _) (Fin.ext ?_) (Fin.ext ?_)
  · have h : ((win0_4.blk t).view.emb (ix2 y0 y1) 0).val = (t.val - 1) * 512 + y0.val := by blk_simp [idx t]
    exact h.symm
  · show 2048 + (0 + y1.val) = 2048 + (win0_4.index t 1 * 2048 + y1.val)
    rw [(idx t).2.2.2.2.1]
    show _ = 2048 + (0 * 2048 + y1.val)
    omega

/-- The second result array. -/
theorem final5 (c : Dev nD) : (dats m 0 c).arrAt 5 (cfgs 0).N = fun y : S16384x2048.Idx =>
    Cert.GlaIn.projAt (arr0 m c) (arr1 m c) (arr2 m c) (arr3 m c) (y 0) ⟨4096 + (y 1).val, by have := (y 1).isLt; have e : S16384x2048.size 1 = 2048 := rfl; omega⟩ := by
  refine (dats m 0 c).arrAt_eq_of_covers 5 _ (by decide +kernel) fun t hf y => ?_
  have hz := flush_pos t (.inr hf)
  idx_vars y
  blk_simp
  rw [after0_5, (outs m c t hz).2]
  have ht := lt33 t
  refine (products_eq m c t hz 2048 (by omega) y0 y1).trans ?_
  refine congrArg₂ (Cert.GlaIn.projAt _ _ _ _) (Fin.ext ?_) (Fin.ext ?_)
  · have h : ((win0_5.blk t).view.emb (ix2 y0 y1) 0).val = (t.val - 1) * 512 + y0.val := by blk_simp [idx t]
    exact h.symm
  · show 2048 + (2048 + y1.val) = 4096 + (win0_5.index t 1 * 2048 + y1.val)
    rw [(idx t).2.2.2.2.2]
    show _ = 4096 + (0 * 2048 + y1.val)
    omega

end Cert.Kernel5Ideal.GlaIn
-- ==== Proof.Claims.GlaProjection.lean ====
module

public import proofs.«01_k».proof.Defs
public import proofs.«01_k».proof.Proof.GlaIn.Reference
public import proofs.«01_k».proof.Proof.GlaIn.Kernel
public import Idealize.ShloMosaic.Lib.Claim

/-! The input projection kernel of gated linear attention and its reference return the same two arrays. -/

@[expose] public section

set_option maxRecDepth 16384

noncomputable section

namespace Cert.Proof

open Idealize.ShloMosaic Idealize.SL.Sem Cert.Kernel5Ideal.GlaIn

/-- From memories that agree on the arguments, the input projection kernel of gated linear attention and the plain lines
    return the same values and the same gates. -/
theorem gla_projection : Cert.algebraic_Kernel5Ideal_Reference5Ideal := by
  pair_intro
  · run_from Cert.Kernel5Ideal.Gen.run_main m g
  · run_from Cert.Reference5Ideal.Value.run m' g'
    · change Cert.Reference5Ideal.GlaIn.part (Cert.Reference5Ideal.GlaIn.all (arr0 m c) (arr1 m c) (arr2 m c) (arr3 m c)) 2048 _ = _
      exact (Cert.Reference5Ideal.GlaIn.part_eq _ _ _ _ 2048 (by omega) _).trans (Cert.Kernel5Ideal.GlaIn.final4 m c).symm
    · change Cert.Reference5Ideal.GlaIn.part (Cert.Reference5Ideal.GlaIn.all (arr0 m c) (arr1 m c) (arr2 m c) (arr3 m c)) 4096 _ = _
      exact (Cert.Reference5Ideal.GlaIn.part_eq _ _ _ _ 4096 (by omega) _).trans (Cert.Kernel5Ideal.GlaIn.final5 m c).symm

end Cert.Proof
-- ==== Proof.Qkv.Spec.lean ====
module

public import proofs.«01_k».proof.Proof.Gen.Reference6Ideal
public import proofs.«01_k».proof.Proof.GlaIn.Spec

/-! The projection of an attention layer's queries, keys and values over its argument arrays: the normalised and modulated
    rows times the first layer's weights, every head of the queries and the keys turned by its token's two angles. -/

@[expose] public section

noncomputable section

namespace Cert.Qkv

open Idealize.ShloMosaic Cert.Reference6Ideal Cert.Reference6Ideal.Gen

/-- The 32 frequencies of one axis of the grid. -/
def frequencies : FVec Ideal S32 .f32 :=
  Host.powf (broadcastInDim S32 ![] bcast_S_S32 (constant S_ .f32 0x461C4000#32))
    (Host.divf (Host.negf (addf (broadcastInDim S32 ![] bcast_S_S32 (constant S_ .f32 0x00000000#32))
        (mulf (broadcastInDim S32 ![] bcast_S_S32 (constant S_ .f32 0x40000000#32)) (sitofp .f32 (iotaInDim S32 32 0)))))
      (broadcastInDim S32 ![] bcast_S_S32 (constant S_ .f32 0x42800000#32)))

/-- Positions times frequencies. -/
def angles (p : FVec Ideal S4096 .f32) : FVec Ideal S4096x32 .f32 :=
  mulf (broadcastInDim S4096x32 ![0, 1] bcast_S4096x1_S4096x32_0_1 (broadcastInDim S4096x1 ![0] bcast_S4096_S4096x1_0 p))
    (broadcastInDim S4096x32 ![0, 1] bcast_S1x32_S4096x32_0_1 (broadcastInDim S1x32 ![1] bcast_S32_S1x32_1 frequencies))

/-- The angles of every token's row in the grid. -/
def rowAngles : FVec Ideal S4096x32 .f32 :=
  angles (shapeCast _ (broadcastInDim S64x64 ![0] bcast_S64_S64x64_0 (sitofp .f32 (iotaInDim S64 32 0))) shapeCasts_S64x64_S4096)

/-- The angles of every token's column in the grid. -/
def colAngles : FVec Ideal S4096x32 .f32 :=
  angles (shapeCast _ (broadcastInDim S64x64 ![0, 1] bcast_S1x64_S64x64_0_1
    (shapeCast _ (sitofp .f32 (iotaInDim S64 32 0)) shapeCasts_S64_S1x64)) shapeCasts_S64x64_S4096)

/-- The angles that lane `l` of a head turns by: the row's in the first half, the column's in the second. -/
def laneAngles (l : Fin 128) : FVec Ideal S4096x32 .f32 := if l.val < 64 then rowAngles else colAngles

/-- Lane `l` of a head `y` turned by token `q`'s angles: lanes 32 apart make a pair. -/
def turned (q : Fin 4096) (y : Fin 128 → EReal) (l : Fin 128) : EReal :=
  if l.val / 32 % 2 = 0 then
    y l * Host.cos (laneAngles l) (ix2 q ⟨l.val % 32, by omega⟩)
      - y ⟨(l.val + 32) % 128, by omega⟩ * Host.sin (laneAngles l) (ix2 q ⟨l.val % 32, by omega⟩)
  else
    y l * Host.cos (laneAngles l) (ix2 q ⟨l.val % 32, by omega⟩)
      + y ⟨(l.val + 96) % 128, by omega⟩ * Host.sin (laneAngles l) (ix2 q ⟨l.val % 32, by omega⟩)

variable (x : FVec Ideal (⟨2, ![16384, 2048]⟩ : Shape) .f32) (md : FVec Ideal (⟨3, ![4, 8, 2048]⟩ : Shape) .f32)
  (g : FVec Ideal (⟨1, ![2048]⟩ : Shape) .f32) (w : FVec Ideal (⟨3, ![2, 2048, 3072]⟩ : Shape) .f32)

/-- Column `n` of the product. -/
def projAt (r : Fin 16384) (n : Fin 3072) : EReal := ∑ k : Fin 2048, Cert.GlaIn.hid x md g r k * w (ix3 0 k n)

/-- One lane of the head of 128 columns that column `n` lies in. -/
def headLane (r : Fin 16384) (n : Fin 3072) (l : Fin 128) : EReal :=
  projAt x md g w r ⟨n.val / 128 * 128 + l.val, by omega⟩

/-- Column `n` of the result: queries and keys are turned, values are not. -/
def outAt (r : Fin 16384) (n : Fin 3072) : EReal :=
  if n.val < 2560 then turned ⟨r.val % 4096, by omega⟩ (headLane x md g w r n) ⟨n.val % 128, by omega⟩
  else projAt x md g w r n

end Cert.Qkv
-- ==== Proof.Qkv.Reference.lean ====
module

public import proofs.«01_k».proof.Proof.Gen.Reference6Ideal.Run
public import proofs.«01_k».proof.Proof.Ffn.ReferenceRead
public import proofs.«01_k».proof.Proof.GlaIn.Reference
public import proofs.«01_k».proof.Proof.Qkv.Spec

/-! The reference of the query, key and value projection in stages, each read at one index. -/

@[expose] public section

set_option maxRecDepth 16384

noncomputable section

namespace Cert.Reference6Ideal.Qkv

open Idealize.ShloMosaic Idealize.ShloMosaic.TcCoe Idealize.SL.Sem
open Cert.Reference6Ideal Cert.Reference6Ideal.Gen
open Cert.Reference2Ideal.Ffn (byStream scaled flat byStream_at scaled_at rowScale_at sample_flat)
open Cert.Reference5Ideal.GlaIn (modulated hidden_at)
open Cert.Qkv

/-- The product with the first layer's weights. -/
def projected (H : FVec Ideal S4x4096x2048 .f32) (w : FVec Ideal S2x2048x3072 .f32) : FVec Ideal S4x4096x3072 .f32 :=
  Host.dotGeneral dot_S4x4096x2048_S2048x3072_S4x4096x3072_2_0_01_1_n_n none H
    (shapeCast _ (extractStridedSlice S1x2048x3072 ![0, 0, 0] w slices_S2x2048x3072_S1x2048x3072_0_0_0) shapeCasts_S1x2048x3072_S2048x3072)

/-- A table of one row per token, for every query head. -/
def tableQ (t : FVec Ideal S4096x32 .f32) : FVec Ideal S4x4096x4x4x32 .f32 :=
  broadcastInDim S4x4096x4x4x32 ![0, 1, 2, 3, 4] bcast_S1x4096x1x1x32_S4x4096x4x4x32_0_1_2_3_4
    (broadcastInDim S1x4096x1x1x32 ![1, 2, 3, 4] bcast_S4096x1x1x32_S1x4096x1x1x32_1_2_3_4 (shapeCast _ t shapeCasts_S4096x32_S4096x1x1x32))

/-- Half a query head, turned. -/
def halfQ (X : FVec Ideal S4x4096x4x4x64 .f32) (a : FVec Ideal S4096x32 .f32) : FVec Ideal S4x4096x4x4x64 .f32 :=
  concatenate S4x4096x4x4x64 4 [
    ⟨S4x4096x4x4x32, subf
      (mulf (extractStridedSlice S4x4096x4x4x32 ![0, 0, 0, 0, 0] X slices_S4x4096x4x4x64_S4x4096x4x4x32_0_0_0_0_0) (tableQ (Host.cos a)))
      (mulf (extractStridedSlice S4x4096x4x4x32 ![0, 0, 0, 0, 32] X slices_S4x4096x4x4x64_S4x4096x4x4x32_0_0_0_0_32) (tableQ (Host.sin a)))⟩,
    ⟨S4x4096x4x4x32, addf
      (mulf (extractStridedSlice S4x4096x4x4x32 ![0, 0, 0, 0, 32] X slices_S4x4096x4x4x64_S4x4096x4x4x32_0_0_0_0_32) (tableQ (Host.cos a)))
      (mulf (extractStridedSlice S4x4096x4x4x32 ![0, 0, 0, 0, 0] X slices_S4x4096x4x4x64_S4x4096x4x4x32_0_0_0_0_0) (tableQ (Host.sin a)))⟩]
    concatenates_S4x4096x4x4x32_S4x4096x4x4x32_S4x4096x4x4x64_d4

/-- Every query head, turned. -/
def turnedQ (X : FVec Ideal S4x4096x4x4x128 .f32) : FVec Ideal S4x4096x4x4x128 .f32 :=
  concatenate S4x4096x4x4x128 4 [
    ⟨S4x4096x4x4x64, halfQ (extractStridedSlice S4x4096x4x4x64 ![0, 0, 0, 0, 0] X slices_S4x4096x4x4x128_S4x4096x4x4x64_0_0_0_0_0) rowAngles⟩,
    ⟨S4x4096x4x4x64, halfQ (extractStridedSlice S4x4096x4x4x64 ![0, 0, 0, 0, 64] X slices_S4x4096x4x4x128_S4x4096x4x4x64_0_0_0_0_64) colAngles⟩]
    concatenates_S4x4096x4x4x64_S4x4096x4x4x64_S4x4096x4x4x128_d4

/-- A table of one row per token, for every key head. -/
def tableK (t : FVec Ideal S4096x32 .f32) : FVec Ideal S4x4096x4x32 .f32 :=
  broadcastInDim S4x4096x4x32 ![0, 1, 2, 3] bcast_S1x4096x1x32_S4x4096x4x32_0_1_2_3
    (broadcastInDim S1x4096x1x32 ![1, 2, 3] bcast_S4096x1x32_S1x4096x1x32_1_2_3 (shapeCast _ t shapeCasts_S4096x32_S4096x1x32))

/-- Half a key head, turned. -/
def halfK (X : FVec Ideal S4x4096x4x64 .f32) (a : FVec Ideal S4096x32 .f32) : FVec Ideal S4x4096x4x64 .f32 :=
  concatenate S4x4096x4x64 3 [
    ⟨S4x4096x4x32, subf
      (mulf (extractStridedSlice S4x4096x4x32 ![0, 0, 0, 0] X slices_S4x4096x4x64_S4x4096x4x32_0_0_0_0) (tableK (Host.cos a)))
      (mulf (extractStridedSlice S4x4096x4x32 ![0, 0, 0, 32] X slices_S4x4096x4x64_S4x4096x4x32_0_0_0_32) (tableK (Host.sin a)))⟩,
    ⟨S4x4096x4x32, addf
      (mulf (extractStridedSlice S4x4096x4x32 ![0, 0, 0, 32] X slices_S4x4096x4x64_S4x4096x4x32_0_0_0_32) (tableK (Host.cos a)))
      (mulf (extractStridedSlice S4x4096x4x32 ![0, 0, 0, 0] X slices_S4x4096x4x64_S4x4096x4x32_0_0_0_0) (tableK (Host.sin a)))⟩]
    concatenates_S4x4096x4x32_S4x4096x4x32_S4x4096x4x64_d3

/-- Every key head, turned. -/
def turnedK (X : FVec Ideal S4x4096x4x128 .f32) : FVec Ideal S4x4096x4x128 .f32 :=
  concatenate S4x4096x4x128 3 [
    ⟨S4x4096x4x64, halfK (extractStridedSlice S4x4096x4x64 ![0, 0, 0, 0] X slices_S4x4096x4x128_S4x4096x4x64_0_0_0_0) rowAngles⟩,
    ⟨S4x4096x4x64, halfK (extractStridedSlice S4x4096x4x64 ![0, 0, 0, 64] X slices_S4x4096x4x128_S4x4096x4x64_0_0_0_64) colAngles⟩]
    concatenates_S4x4096x4x64_S4x4096x4x64_S4x4096x4x128_d3

/-- The queries' columns of the projection, by head. -/
def queryHeads (P : FVec Ideal S4x4096x3072 .f32) : FVec Ideal S4x4096x4x4x128 .f32 :=
  shapeCast _ (extractStridedSlice S4x4096x2048 ![0, 0, 0] P slices_S4x4096x3072_S4x4096x2048_0_0_0) shapeCasts_S4x4096x2048_S4x4096x4x4x128

/-- The keys' columns of the projection, by head. -/
def keyHeads (P : FVec Ideal S4x4096x3072 .f32) : FVec Ideal S4x4096x4x128 .f32 :=
  shapeCast _ (extractStridedSlice S4x4096x512 ![0, 0, 2048] P slices_S4x4096x3072_S4x4096x512_0_0_2048) shapeCasts_S4x4096x512_S4x4096x4x128

/-- The turned queries, the rows in one list. -/
def queries (P : FVec Ideal S4x4096x3072 .f32) : FVec Ideal S16384x2048 .f32 :=
  shapeCast _ (turnedQ (queryHeads P)) shapeCasts_S4x4096x4x4x128_S16384x2048

/-- The turned keys, the rows in one list. -/
def keys (P : FVec Ideal S4x4096x3072 .f32) : FVec Ideal S16384x512 .f32 :=
  shapeCast _ (turnedK (keyHeads P)) shapeCasts_S4x4096x4x128_S16384x512

/-- The values, the rows in one list. -/
def values (P : FVec Ideal S4x4096x3072 .f32) : FVec Ideal S16384x512 .f32 :=
  shapeCast _ (extractStridedSlice S4x4096x512 ![0, 0, 2560] P slices_S4x4096x3072_S4x4096x512_0_0_2560) shapeCasts_S4x4096x512_S16384x512

/-- Queries, keys and values side by side. -/
def joined (P : FVec Ideal S4x4096x3072 .f32) : FVec Ideal S16384x3072 .bf16 :=
  truncf .bf16 (concatenate S16384x3072 1 [⟨S16384x2048, queries P⟩, ⟨S16384x512, keys P⟩, ⟨S16384x512, values P⟩]
    concatenates_S16384x2048_S16384x512_S16384x512_S16384x3072_d1 : FVec Ideal S16384x3072 .f32) bitsLt_bf16_f32

/-- The product of the normalised, modulated rows. -/
def all (x : FVec Ideal S16384x2048 .f32) (md : FVec Ideal S4x8x2048 .f32) (g : FVec Ideal S2048 .f32)
    (w : FVec Ideal S2x2048x3072 .f32) : FVec Ideal S4x4096x3072 .f32 :=
  projected (modulated (scaled (byStream x) g) md) w

/-- The reference's result in these stages. -/
theorem result_eq (m : (ℓ : Loc nD τ sig) → Buf (Elt Ideal) ℓ) (c : Dev nD) : Value.res_out0 m c
    = joined (all (m ((c.tc : Thread nD τ).loc main_arg0)) (m ((c.tc : Thread nD τ).loc main_arg1))
      (m ((c.tc : Thread nD τ).loc main_arg2)) (m ((c.tc : Thread nD τ).loc main_arg3))) := by
  unfold Value.res_out0 Value.res_main_v147
  rfl

theorem projected_at (H : FVec Ideal S4x4096x2048 .f32) (w : FVec Ideal S2x2048x3072 .f32) (s : Fin 4) (q : Fin 4096) (n : Fin 3072) :
    projected H w (ix3 s q n) = ∑ k : Fin 2048, H (ix3 s q k) * w (ix3 0 k n) := by
  pointwise [projected]

/-- The product is the specification's. -/
theorem all_at (x : FVec Ideal S16384x2048 .f32) (md : FVec Ideal S4x8x2048 .f32) (g : FVec Ideal S2048 .f32) (w : FVec Ideal S2x2048x3072 .f32)
    (s : Fin 4) (q : Fin 4096) (n : Fin 3072) : all x md g w (ix3 s q n) = projAt x md g w (flat s q) n := by
  rw [all, projected_at]
  unfold projAt
  exact Fin.sum_fin_congr fun k => congrArg (· * w (ix3 0 k n)) (hidden_at x md g s q k)

theorem tableQ_at (t : FVec Ideal S4096x32 .f32) (s : Fin 4) (q : Fin 4096) (a b : Fin 4) (l : Fin 32) :
    tableQ t (ix5 s q a b l) = t (ix2 q l) := by
  pointwise [tableQ]

theorem tableK_at (t : FVec Ideal S4096x32 .f32) (s : Fin 4) (q : Fin 4096) (a : Fin 4) (l : Fin 32) :
    tableK t (ix4 s q a l) = t (ix2 q l) := by
  pointwise [tableK]

/-- The halves and quarters of a head, as the specification names its lanes. -/
theorem turned_quarters (q : Fin 4096) (y : Fin 128 → EReal) (l : Fin 128) :
    (if h : l.val < 64 then
      if h1 : l.val < 32 then
        y l * Ideal.cos (rowAngles (ix2 q ⟨l.val, h1⟩)) - y ⟨32 + l.val, by omega⟩ * Ideal.sin (rowAngles (ix2 q ⟨l.val, h1⟩))
      else
        y ⟨32 + (l.val - 32), by omega⟩ * Ideal.cos (rowAngles (ix2 q ⟨l.val - 32, by omega⟩))
          + y ⟨l.val - 32, by omega⟩ * Ideal.sin (rowAngles (ix2 q ⟨l.val - 32, by omega⟩))
    else
      if h1 : l.val - 64 < 32 then
        y ⟨64 + (l.val - 64), by omega⟩ * Ideal.cos (colAngles (ix2 q ⟨l.val - 64, h1⟩))
          - y ⟨64 + (32 + (l.val - 64)), by omega⟩ * Ideal.sin (colAngles (ix2 q ⟨l.val - 64, h1⟩))
      else
        y ⟨64 + (32 + (l.val - 64 - 32)), by omega⟩ * Ideal.cos (colAngles (ix2 q ⟨l.val - 64 - 32, by omega⟩))
          + y ⟨64 + (l.val - 64 - 32), by omega⟩ * Ideal.sin (colAngles (ix2 q ⟨l.val - 64 - 32, by omega⟩)))
      = turned q y l := by
  have hl := l.isLt
  have ey : ∀ (i j : Nat) (hi : i < 128) (hj : j < 128), i = j → y ⟨i, hi⟩ = y ⟨j, hj⟩ := fun i j hi hj e => by subst e; rfl
  have ea : ∀ (t : FVec Ideal S4096x32 .f32) (i : Nat) (hi : i < 32), i = l.val % 32 →
      t (ix2 q ⟨i, hi⟩) = t (ix2 q ⟨l.val % 32, by omega⟩) := fun t i hi e => by subst e; rfl
  unfold turned laneAngles
  by_cases h : l.val < 64
  · rw [dif_pos h, if_pos h]
    by_cases h1 : l.val < 32
    · rw [dif_pos h1, if_pos (by omega), ea rowAngles l.val h1 (by omega), ey (32 + l.val) ((l.val + 32) % 128) (by omega) (by omega) (by omega)]
      rfl
    · rw [dif_neg h1, if_neg (by omega), ea rowAngles (l.val - 32) (by omega) (by omega),
        ey (32 + (l.val - 32)) l.val (by omega) (by omega) (by omega),
        ey (l.val - 32) ((l.val + 96) % 128) (by omega) (by omega) (by omega)]
      rfl
  · rw [dif_neg h, if_neg h]
    by_cases h1 : l.val - 64 < 32
    · rw [dif_pos h1, if_pos (by omega), ea colAngles (l.val - 64) h1 (by omega),
        ey (64 + (l.val - 64)) l.val (by omega) (by omega) (by omega),
        ey (64 + (32 + (l.val - 64))) ((l.val + 32) % 128) (by omega) (by omega) (by omega)]
      rfl
    · rw [dif_neg h1, if_neg (by omega), ea colAngles (l.val - 64 - 32) (by omega) (by omega),
        ey (64 + (32 + (l.val - 64 - 32))) l.val (by omega) (by omega) (by omega),
        ey (64 + (l.val - 64 - 32)) ((l.val + 96) % 128) (by omega) (by omega) (by omega)]
      rfl

theorem turnedQ_at (X : FVec Ideal S4x4096x4x4x128 .f32) (s : Fin 4) (q : Fin 4096) (a b : Fin 4) (l : Fin 128) :
    turnedQ X (ix5 s q a b l) = turned q (fun l => X (ix5 s q a b l)) l := by
  rw [← turned_quarters]
  pointwise [turnedQ, halfQ, tableQ_at]

theorem turnedK_at (X : FVec Ideal S4x4096x4x128 .f32) (s : Fin 4) (q : Fin 4096) (a : Fin 4) (l : Fin 128) :
    turnedK X (ix4 s q a l) = turned q (fun l => X (ix4 s q a l)) l := by
  rw [← turned_quarters]
  pointwise [turnedK, halfK, tableK_at]

theorem queries_at (P : FVec Ideal S4x4096x3072 .f32) (r : Fin 16384) (n : Fin 2048) : queries P (ix2 r n)
    = turnedQ (queryHeads P) (ix5 ⟨r.val / 4096, by omega⟩ ⟨r.val % 4096, by omega⟩ ⟨n.val / 512, by omega⟩ ⟨n.val / 128 % 4, by omega⟩
      ⟨n.val % 128, by omega⟩) := by
  pointwise [queries]

theorem keys_at (P : FVec Ideal S4x4096x3072 .f32) (r : Fin 16384) (n : Fin 512) : keys P (ix2 r n)
    = turnedK (keyHeads P) (ix4 ⟨r.val / 4096, by omega⟩ ⟨r.val % 4096, by omega⟩ ⟨n.val / 128, by omega⟩
      ⟨n.val % 128, by omega⟩) := by
  pointwise [keys]

theorem values_at (P : FVec Ideal S4x4096x3072 .f32) (r : Fin 16384) (n : Fin 512) : values P (ix2 r n)
    = P (ix3 ⟨r.val / 4096, by omega⟩ ⟨r.val % 4096, by omega⟩ ⟨2560 + n.val, by omega⟩) := by
  pointwise [values]

theorem queryHeads_at (P : FVec Ideal S4x4096x3072 .f32) (s : Fin 4) (q : Fin 4096) (a b : Fin 4) (l : Fin 128) :
    queryHeads P (ix5 s q a b l) = P (ix3 s q ⟨a.val * 512 + b.val * 128 + l.val, by omega⟩) := by
  pointwise [queryHeads]

theorem keyHeads_at (P : FVec Ideal S4x4096x3072 .f32) (s : Fin 4) (q : Fin 4096) (a : Fin 4) (l : Fin 128) :
    keyHeads P (ix4 s q a l) = P (ix3 s q ⟨2048 + (a.val * 128 + l.val), by omega⟩) := by
  pointwise [keyHeads]

theorem joined_at (P : FVec Ideal S4x4096x3072 .f32) (r : Fin 16384) (n : Fin 3072) : joined P (ix2 r n)
    = if h : n.val < 2048 then queries P (ix2 r ⟨n.val, h⟩)
      else if h1 : n.val - 2048 < 512 then keys P (ix2 r ⟨n.val - 2048, h1⟩) else values P (ix2 r ⟨n.val - 2048 - 512, by omega⟩) := by
  pointwise [joined]

/-- The reference's result at row `r`, column `n`, is the specification's. -/
theorem result_at (x : FVec Ideal S16384x2048 .f32) (md : FVec Ideal S4x8x2048 .f32) (g : FVec Ideal S2048 .f32) (w : FVec Ideal S2x2048x3072 .f32)
    (r : Fin 16384) (n : Fin 3072) : joined (all x md g w) (ix2 r n) = outAt x md g w r n := by
  have hn := n.isLt
  have hr : flat ⟨r.val / 4096, by omega⟩ ⟨r.val % 4096, by omega⟩ = r := Fin.ext (by
    show r.val / 4096 * 4096 + r.val % 4096 = r.val
    omega)
  have hp : ∀ (k : Nat) (hk : k < 3072) (j : Fin 3072), k = j.val →
      all x md g w (ix3 ⟨r.val / 4096, by omega⟩ ⟨r.val % 4096, by omega⟩ ⟨k, hk⟩) = projAt x md g w r j := fun k hk j e => by
    rw [all_at, hr]
    exact congrArg (projAt x md g w r) (Fin.ext e)
  have lane : ∀ (k : Nat) (hk : k < 128), k = n.val % 128 → (⟨k, hk⟩ : Fin 128) = ⟨n.val % 128, by omega⟩ := fun k hk e => Fin.ext e
  rw [joined_at]
  unfold outAt
  by_cases h : n.val < 2048
  · rw [dif_pos h, if_pos (by omega), queries_at, turnedQ_at]
    refine congrArg (fun y => turned _ y _) (funext fun l => ?_)
    rw [queryHeads_at]
    refine hp _ _ _ ?_
    show n.val / 512 * 512 + n.val / 128 % 4 * 128 + l.val = n.val / 128 * 128 + l.val
    omega
  · rw [dif_neg h]
    by_cases h1 : n.val - 2048 < 512
    · rw [dif_pos h1, if_pos (by omega), keys_at, turnedK_at, lane ((n.val - 2048) % 128) (by omega) (by omega)]
      refine congrArg (fun y => turned _ y _) (funext fun l => ?_)
      rw [keyHeads_at]
      refine hp _ _ _ ?_
      show 2048 + ((n.val - 2048) / 128 * 128 + l.val) = n.val / 128 * 128 + l.val
      omega
    · rw [dif_neg h1, if_neg (by omega), values_at]
      refine hp _ _ _ ?_
      show 2560 + (n.val - 2048 - 512) = n.val
      omega

end Cert.Reference6Ideal.Qkv
-- ==== Proof.Qkv.Kernel.lean ====
module

public import proofs.«01_k».proof.Proof.Gen.Kernel6Ideal.Value
public import proofs.«01_k».proof.Proof.Qkv.Spec
public import Idealize.ShloMosaic.Lib.Pipeline.ValueKit
public import Idealize.ShloMosaic.Lib.Pipeline.ReadBack
public import Idealize.ShloMosaic.Lib.Pointwise

/-! The query, key and value projection kernel. Every grid point stores the normalised rows of its tile in one of two
    buffers, multiplies the rows that the point before stored in the other, and turns the heads of queries and keys. -/

@[expose] public section

set_option maxRecDepth 16384

noncomputable section

namespace Cert.Kernel6Ideal.Qkv

open Idealize.ShloMosaic Idealize.ShloMosaic.TcCoe Idealize.SL.Sem
open Idealize.ShloMosaic.Pipeline (Dat)
open Cert.Kernel6Ideal Cert.Kernel6Ideal.Gen
open Cert.Qkv (rowAngles colAngles laneAngles)

variable (m : (ℓ : Loc nD τ sig) → Buf (Elt Ideal) ℓ)

/-- One row of the sample's modulations. -/
abbrev modRow (M : Vec Ideal S1x8x2048 .f32) (a : ℕ) (h : ∀ b, (![0, a, 0] : Fin 3 → Nat) b + S1x1x2048.size b ≤ S1x8x2048.size b) :
    Vec Ideal S1x1x2048 .f32 :=
  View.ld (Val := Elt Ideal) (e' := .f32) M (Rect.unit (s := S1x8x2048) ![0, a, 0] S1x1x2048.size h)

/-- The rows a grid point normalises and stores. -/
def newRows (X : Vec Ideal S512x2048 .f32) (M : Vec Ideal S1x8x2048 .f32) (G : Vec Ideal S1x2048 .f32) : FVec Ideal S512x2048 .bf16 :=
  k0_pay2 (k0_pay35 X G (modRow M 1 inb_S1x8x2048_S1x1x2048_0_1_0) (modRow M 0 inb_S1x8x2048_S1x1x2048_0_0_0))

/-- 1024 columns of the weights. -/
abbrev cols (w : Vec Ideal S1x2048x3072 .bf16) (o : ℕ) (h : ∀ b, (![0, 0, o] : Fin 3 → Nat) b + S1x2048x1024.size b ≤ S1x2048x3072.size b) :
    Vec Ideal S1x2048x1024 .bf16 :=
  View.ld (Val := Elt Ideal) (e' := .bf16) w (Rect.unit (s := S1x2048x3072) ![0, 0, o] S1x2048x1024.size h)

/-- Every head of 128 columns lies in the 1024 of a product. -/
theorem headFits (n : Fin 8) : S512x1024.Slices ![0, n.val * 128] S512x128 := by
  decide +revert

/-- Head `n` of a product. -/
def headOf (Y : FVec Ideal S512x1024 .f32) (n : Fin 8) : FVec Ideal S512x128 .f32 :=
  extractStridedSlice S512x128 ![0, n.val * 128] Y (headFits n)

/-- A head and its two rotations, each times a table. -/
def turnedHead (A B C : Vec Ideal S512x128 .f32) (v : FVec Ideal S512x128 .f32) : FVec Ideal S512x128 .f32 :=
  addf (addf (mulf v (k0_pay4 A)) (mulf (dynamicRotate 1 96#32 none v rotates_S512x128_d1) (k0_pay5 B)))
    (mulf (dynamicRotate 1 32#32 none v rotates_S512x128_d1) (k0_pay6 C))

/-- Head `n` of the 1024 columns from `o` on: turned when it is a query's or a key's. -/
def part (A B C : Vec Ideal S512x128 .f32) (Y : FVec Ideal S512x1024 .f32) (o : ℕ) (n : Fin 8) : FVec Ideal S512x128 .f32 :=
  if o + n.val * 128 < 2560 then turnedHead A B C (headOf Y n) else headOf Y n

/-- The 1024 columns from `o` on, head by head. -/
def chunk (A B C : Vec Ideal S512x128 .f32) (H : FVec Ideal S512x2048 .bf16) (w : Vec Ideal S1x2048x1024 .bf16) (o : ℕ) : FVec Ideal S512x1024 .bf16 :=
  truncf .bf16 (concatenate S512x1024 1 (List.ofFn fun n : Fin 8 => ⟨S512x128, part A B C (k0_pay7 H w) o n⟩)
    concatenates_S512x128_S512x128_S512x128_S512x128_S512x128_S512x128_S512x128_S512x128_S512x1024_d1 : FVec Ideal S512x1024 .f32) bitsLt_bf16_f32

/-- Row `q` times column `n` of the weights. -/
def product (H : FVec Ideal S512x2048 .bf16) (w : Vec Ideal S1x2048x3072 .bf16) (q : Fin 512) (n : Fin 3072) : EReal :=
  ∑ k : Fin 2048, H (ix2 q k) * w (ix3 0 k n)

/-- Lane `l` of a head `y` times the first table, its neighbours times the other two. -/
def mixed (a b c : EReal) (y : Fin 128 → EReal) (l : Fin 128) : EReal :=
  y l * a + y ⟨(l.val + 32) % 128, by omega⟩ * b + y ⟨(l.val + 96) % 128, by omega⟩ * c

/-- What a grid point leaves in its output window, at row `q`, column `n`. -/
def resultAt (A B C : Vec Ideal S512x128 .f32) (H : FVec Ideal S512x2048 .bf16) (w : Vec Ideal S1x2048x3072 .bf16) (q : Fin 512) (n : Fin 3072) : EReal :=
  if n.val < 2560 then
    mixed (A (ix2 q ⟨n.val % 128, by omega⟩)) (B (ix2 q ⟨n.val % 128, by omega⟩)) (C (ix2 q ⟨n.val % 128, by omega⟩))
      (fun l => product H w q ⟨n.val / 128 * 128 + l.val, by omega⟩) ⟨n.val % 128, by omega⟩
  else product H w q n

theorem columns_at (H : FVec Ideal S512x2048 .bf16) (w : Vec Ideal S1x2048x3072 .bf16) (o : ℕ)
    (h : ∀ b, (![0, 0, o] : Fin 3 → Nat) b + S1x2048x1024.size b ≤ S1x2048x3072.size b) (ho : o + 1024 ≤ 3072) (q : Fin 512) (n : Fin 1024) :
    k0_pay7 H (cols w o h) (ix2 q n) = product H w q ⟨o + n.val, by omega⟩ := by
  pointwise [k0_pay7, cols, product]

theorem headOf_at (Y : FVec Ideal S512x1024 .f32) (n : Fin 8) (q : Fin 512) (l : Fin 128) :
    headOf Y n (ix2 q l) = Y (ix2 q ⟨n.val * 128 + l.val, by omega⟩) := by
  pointwise [headOf]

theorem turnedHead_at (A B C : Vec Ideal S512x128 .f32) (v : FVec Ideal S512x128 .f32) (q : Fin 512) (l : Fin 128) :
    turnedHead A B C v (ix2 q l) = mixed (A (ix2 q l)) (B (ix2 q l)) (C (ix2 q l)) (fun l => v (ix2 q l)) l := by
  unfold mixed
  pointwise [turnedHead, k0_pay4, k0_pay5, k0_pay6]
  simp only [show l.val + 128 - 96 = l.val + 32 from by omega, show l.val + 128 - 32 = l.val + 96 from by omega]

theorem chunk_at (A B C : Vec Ideal S512x128 .f32) (H : FVec Ideal S512x2048 .bf16) (w : Vec Ideal S1x2048x1024 .bf16) (o : ℕ) (q : Fin 512) (n : Fin 1024) :
    chunk A B C H w o (ix2 q n) = part A B C (k0_pay7 H w) o ⟨n.val / 128, by omega⟩ (ix2 q ⟨n.val % 128, by omega⟩) := by
  refine concatenate_ofFn_apply (t := S512x1024) (1 : Fin 2) (s₁ := S512x128) (fun n : Fin 8 => part A B C (k0_pay7 H w) o n)
    concatenates_S512x128_S512x128_S512x128_S512x128_S512x128_S512x128_S512x128_S512x128_S512x1024_d1 rfl 128 rfl
    (ix2 q n) ⟨n.val / 128, by omega⟩ rfl (ix2 q ⟨n.val % 128, by omega⟩) rfl (by
      intro b hb; fin_cases b
      · rfl
      · exact absurd rfl hb)

/-- The columns of one store. -/
theorem chunk_eq (A B C : Vec Ideal S512x128 .f32) (H : FVec Ideal S512x2048 .bf16) (w : Vec Ideal S1x2048x3072 .bf16) (o : ℕ) (hd : o % 128 = 0)
    (h : ∀ b, (![0, 0, o] : Fin 3 → Nat) b + S1x2048x1024.size b ≤ S1x2048x3072.size b) (ho : o + 1024 ≤ 3072) (q : Fin 512) (n : Fin 1024)
    (n' : Fin 3072) (hn : n'.val = o + n.val) : chunk A B C H (cols w o h) o (ix2 q n) = resultAt A B C H w q n' := by
  have el : (⟨n.val % 128, by omega⟩ : Fin 128) = ⟨n'.val % 128, by omega⟩ := Fin.ext (by dsimp only; omega)
  have ec : ∀ l : Fin 128, headOf (k0_pay7 H (cols w o h)) ⟨n.val / 128, by omega⟩ (ix2 q l) = product H w q ⟨n'.val / 128 * 128 + l.val, by omega⟩ := fun l => by
    rw [headOf_at, columns_at _ _ _ _ ho]
    exact congrArg (product H w q) (Fin.ext (by dsimp only; omega))
  rw [chunk_at]
  unfold part resultAt
  by_cases hv : n'.val < 2560
  · rw [if_pos hv, if_pos (by dsimp only; omega), turnedHead_at, el]
    exact congrArg (fun y => mixed _ _ _ y _) (funext ec)
  · rw [if_neg hv, if_neg (by dsimp only; omega), ec]
    exact congrArg (product H w q) (Fin.ext (by dsimp only; omega))

/-- The three stores leave the result. -/
theorem stores (A B C : Vec Ideal S512x128 .f32) (H : FVec Ideal S512x2048 .bf16) (w : Vec Ideal S1x2048x3072 .bf16) :
    View.canon (Val := Elt Ideal) (s := S512x3072) (e := .bf16)
      [⟨Rect.unit ![0, 2048] ![512, 1024] inb_S512x3072_S512x1024_0_2048, chunk A B C H (cols w 2048 inb_S1x2048x3072_S1x2048x1024_0_0_2048) 2048⟩,
        ⟨Rect.unit ![0, 1024] ![512, 1024] inb_S512x3072_S512x1024_0_1024, chunk A B C H (cols w 1024 inb_S1x2048x3072_S1x2048x1024_0_0_1024) 1024⟩,
        ⟨Rect.unit ![0, 0] ![512, 1024] inb_S512x3072_S512x1024_0_0, chunk A B C H (cols w 0 inb_S1x2048x3072_S1x2048x1024_0_0_0) 0⟩]
      = fun y => resultAt A B C H w (y 0) (y 1) := by
  funext y
  idx_vars y
  canon_tiles x hx
  all_goals
    idx_vars x
    obtain rfl : x0 = y0 := (Fin.ext hx0).symm
    exact chunk_eq A B C H w _ (by decide) _ (by decide) x0 x1 _ (by omega)

/-- There are 33 grid points. -/
theorem lt33 (t : Fin cfg0.N) : t.val < 33 := t.isLt

/-- An even point stores its rows in the first buffer. -/
theorem stored_even (c : Dev nD) (t : Fin cfg0.N) (h : t.val % 2 = 0) :
    (outsAt0 m c t.val t.isLt).2.1 = newRows (iblk m c 0 t) (iblk m c 1 t) (iblk m c 2 t) := by
  have ht := lt33 t
  by_cases h0 : t.val % 33 = 0
  · rw [outsAt0_A m c t h0 h (by omega)]
    frame_out
    rfl
  · rw [outsAt0_C m c t h0 h (by omega)]
    frame_out
    rfl

/-- An odd point stores its rows in the second buffer. -/
theorem stored_odd (c : Dev nD) (t : Fin cfg0.N) (h : t.val % 2 = 1) :
    (outsAt0 m c t.val t.isLt).2.2 = newRows (iblk m c 0 t) (iblk m c 1 t) (iblk m c 2 t) := by
  have ht := lt33 t
  rw [outsAt0_B m c t (by omega) (by omega) h]
  frame_out
  rfl

/-- The block every window sits at, at every grid point. -/
theorem idx : ∀ t : Fin cfg0.N, win0_0.index t = ![min t.val 31, 0] ∧ win0_1.index t = ![min t.val 31 / 8, 0, 0]
    ∧ win0_2.index t = ![0, 0] ∧ win0_3.index t = ![0, 0, 0] ∧ win0_4.index t = ![(t.val - 1) % 8, 0] ∧ win0_5.index t = ![(t.val - 1) % 8, 0]
    ∧ win0_6.index t = ![(t.val - 1) % 8, 0] ∧ win0_7.index t = ![t.val - 1, 0] :=
  (by decide +kernel : ∀ t : Fin grid0.N, _)

/-- The point before. -/
abbrev prev (t : Fin cfg0.N) : Fin cfg0.N := ⟨t.val - 1, Nat.lt_of_le_of_lt (Nat.sub_le _ _) t.isLt⟩

/-- The rows that a point multiplies: those of the point before. -/
abbrev rowsBefore (c : Dev nD) (t : Fin cfg0.N) : FVec Ideal S512x2048 .bf16 :=
  newRows (iblk m c 0 (prev t)) (iblk m c 1 (prev t)) (iblk m c 2 (prev t))

/-- Every point after the first leaves the result for the rows of the point before. -/
theorem outs (c : Dev nD) (t : Fin cfg0.N) (hz : t.val ≠ 0) : (outsAt0 m c t.val t.isLt).1
    = fun y => resultAt (iblk m c 4 t) (iblk m c 5 t) (iblk m c 6 t) (rowsBefore m c t) (iblk m c 3 t) (y 0) (y 1) := by
  have ht := lt33 t
  have p := fun H => stores (iblk m c 4 t) (iblk m c 5 t) (iblk m c 6 t) H (iblk m c 3 t)
  by_cases h : t.val % 2 = 1
  · have e : rowsBefore m c t = _ := (stored_even m c (prev t) (by show (t.val - 1) % 2 = 0; omega)).symm
    rw [outsAt0_B m c t (by omega) (by omega) h, e]
    frame_out
    simp (disch := decide) only [read_unread_whole]
    exact p _
  · have e : rowsBefore m c t = _ := (stored_odd m c (prev t) (by show (t.val - 1) % 2 = 1; omega)).symm
    rw [outsAt0_C m c t (by omega) (by omega) h, e]
    frame_out
    simp (disch := decide) only [read_unread_whole]
    exact p _

/-- The residual stream of the run. -/
abbrev arr0 (c : Dev nD) : FVec Ideal S16384x2048 .f32 := m ((c : Thread nD τ).loc main_arg0)
/-- The modulations. -/
abbrev arr1 (c : Dev nD) : FVec Ideal S4x8x2048 .f32 := m ((c : Thread nD τ).loc main_arg1)
/-- The norm's gains. -/
abbrev arr2 (c : Dev nD) : FVec Ideal S2048 .f32 := m ((c : Thread nD τ).loc main_arg2)
/-- The weights. -/
abbrev arr3 (c : Dev nD) : FVec Ideal S2x2048x3072 .f32 := m ((c : Thread nD τ).loc main_arg3)

/-- The tile whose rows a point normalises. -/
abbrev tileAt (t : Fin cfg0.N) (q : Fin 512) : Fin 16384 := ⟨min t.val 31 * 512 + q.val, by omega⟩

theorem read0 (c : Dev nD) (t : Fin cfg0.N) (q : Fin 512) (k : Fin 2048) :
    (iblk m c 0 t : Vec Ideal S512x2048 .f32) (ix2 q k) = arr0 m c (ix2 (tileAt t q) k) := by
  blk_ext [iblk, V, idx t]

theorem read1 (c : Dev nD) (t : Fin cfg0.N) (a : Fin 8) (k : Fin 2048) :
    (iblk m c 1 t : Vec Ideal S1x8x2048 .f32) (ix3 0 a k) = arr1 m c (ix3 ⟨min t.val 31 / 8, by omega⟩ a k) := by
  blk_ext [iblk, V, idx t]

theorem read2 (c : Dev nD) (t : Fin cfg0.N) (k : Fin 2048) :
    (iblk m c 2 t : Vec Ideal S1x2048 .f32) (ix2 0 k) = arr2 m c (ix1 k) := by
  blk_simp [iblk, idx t]
  entry_read
  pointwise
  refine congrArg (fun k => arr2 m c (ix1 k)) (Fin.ext ?_)
  have h : ((win0_2.blk t).view.emb (ix2 0 k) 1).val = k.val := by blk_simp [idx t]
  exact h

/-- The first layer's weights. -/
theorem read3 (c : Dev nD) (t : Fin cfg0.N) (k : Fin 2048) (n : Fin 3072) :
    (iblk m c 3 t : Vec Ideal S1x2048x3072 .bf16) (ix3 0 k n) = arr3 m c (ix3 0 k n) := by
  blk_simp [iblk, idx t]
  entry_read
  pointwise
  have h0 : ((View.whole main_v0).slice (win0_3.rect t)).emb (ix3 0 k n) 0 = (0 : Fin 2) := Fin.ext (by
    have h : ((win0_3.blk t).view.emb (ix3 0 k n) 0).val = 0 := by
      blk_simp [idx t]
      rfl
    exact h)
  have h1 : ((View.whole main_v0).slice (win0_3.rect t)).emb (ix3 0 k n) 1 = k := Fin.ext (by
    have h : ((win0_3.blk t).view.emb (ix3 0 k n) 1).val = k.val := by blk_simp [idx t]
    exact h)
  have h2 : ((View.whole main_v0).slice (win0_3.rect t)).emb (ix3 0 k n) 2 = n := Fin.ext (by
    have h : ((win0_3.blk t).view.emb (ix3 0 k n) 2).val = n.val := by blk_simp [idx t]
    exact h)
  exact congrArg (arr3 m c) (funext fun a => by fin_cases a; exacts [h0, h1, h2])

/-- The table of cosines, 32 lanes at a time. -/
def cosTable : Fin 4 → FVec Ideal S4096x32 .f32 := ![Host.cos rowAngles, Host.cos rowAngles, Host.cos colAngles, Host.cos colAngles]

/-- The table of zeros. -/
def zeroTable : FVec Ideal S4096x32 .f32 := broadcastInDim S4096x32 ![] bcast_S_S4096x32 (constant S_ .f32 0x00000000#32)

/-- The sines of the lanes that subtract, negated. -/
def minusTable : Fin 4 → FVec Ideal S4096x32 .f32 := ![Host.negf (Host.sin rowAngles), zeroTable, Host.negf (Host.sin colAngles), zeroTable]

/-- The sines of the lanes that add. -/
def plusTable : Fin 4 → FVec Ideal S4096x32 .f32 := ![zeroTable, Host.sin rowAngles, zeroTable, Host.sin colAngles]

/-- Four tables side by side. -/
def beside (f : Fin 4 → FVec Ideal S4096x32 .f32) : FVec Ideal S4096x128 .f32 :=
  concatenate S4096x128 1 (List.ofFn fun n : Fin 4 => ⟨S4096x32, f n⟩) concatenates_S4096x32_S4096x32_S4096x32_S4096x32_S4096x128_d1

theorem beside_at (f : Fin 4 → FVec Ideal S4096x32 .f32) (q : Fin 4096) (l : Fin 128) :
    beside f (ix2 q l) = f ⟨l.val / 32, by omega⟩ (ix2 q ⟨l.val % 32, by omega⟩) := by
  refine concatenate_ofFn_apply (t := S4096x128) (1 : Fin 2) (s₁ := S4096x32) f
    concatenates_S4096x32_S4096x32_S4096x32_S4096x32_S4096x128_d1 rfl 32 rfl
    (ix2 q l) ⟨l.val / 32, by omega⟩ rfl (ix2 q ⟨l.val % 32, by omega⟩) rfl (by
      intro b hb; fin_cases b
      · rfl
      · exact absurd rfl hb)

theorem zeroTable_at (q : Fin 4096) (l : Fin 32) : zeroTable (ix2 q l) = 0 := by
  pointwise [zeroTable]

/-- The token of row `q` of the tile that a point multiplies. -/
abbrev tokenAt (t : Fin cfg0.N) (q : Fin 512) : Fin 4096 := ⟨(t.val - 1) % 8 * 512 + q.val, by omega⟩

theorem table4 (c : Dev nD) : (V m c main_v31 : FVec Ideal S4096x128 .f32) = beside cosTable := rfl

theorem table5 (c : Dev nD) : (V m c main_v36 : FVec Ideal S4096x128 .f32) = beside minusTable := rfl

theorem table6 (c : Dev nD) : (V m c main_v39 : FVec Ideal S4096x128 .f32) = beside plusTable := rfl

/-- Where the tables' blocks lie. -/
theorem place (t : Fin cfg0.N) (q : Fin 512) (l : Fin 128) : (win0_4.blk t).view.emb (ix2 q l) = ix2 (tokenAt t q) l
    ∧ (win0_5.blk t).view.emb (ix2 q l) = ix2 (tokenAt t q) l ∧ (win0_6.blk t).view.emb (ix2 q l) = ix2 (tokenAt t q) l := by
  refine ⟨?_, ?_, ?_⟩
  all_goals
    funext a
    refine Fin.ext ?_
    fin_cases a
    all_goals
      blk_simp [idx t]
      rfl

theorem read4 (c : Dev nD) (t : Fin cfg0.N) (q : Fin 512) (l : Fin 128) :
    (iblk m c 4 t : Vec Ideal S512x128 .f32) (ix2 q l) = beside cosTable (ix2 (tokenAt t q) l) := by
  rw [← table4 m c, ← (place t q l).1]
  rfl

theorem read5 (c : Dev nD) (t : Fin cfg0.N) (q : Fin 512) (l : Fin 128) :
    (iblk m c 5 t : Vec Ideal S512x128 .f32) (ix2 q l) = beside minusTable (ix2 (tokenAt t q) l) := by
  rw [← table5 m c, ← (place t q l).2.1]
  rfl

theorem read6 (c : Dev nD) (t : Fin cfg0.N) (q : Fin 512) (l : Fin 128) :
    (iblk m c 6 t : Vec Ideal S512x128 .f32) (ix2 q l) = beside plusTable (ix2 (tokenAt t q) l) := by
  rw [← table6 m c, ← (place t q l).2.2]
  rfl

/-- The tables turn a head by its token's angles. -/
theorem mixed_eq (q : Fin 4096) (y : Fin 128 → EReal) (l : Fin 128) :
    mixed (beside cosTable (ix2 q l)) (beside minusTable (ix2 q l)) (beside plusTable (ix2 q l)) y l = Cert.Qkv.turned q y l := by
  have hl := l.isLt
  have cases : l.val / 32 = 0 ∨ l.val / 32 = 1 ∨ l.val / 32 = 2 ∨ l.val / 32 = 3 := by omega
  rw [beside_at, beside_at, beside_at]
  unfold mixed Cert.Qkv.turned laneAngles
  generalize ei : (ix2 q ⟨l.val % 32, by omega⟩ : S4096x32.Idx) = i
  have ez : zeroTable i = 0 := by rw [← ei, zeroTable_at]
  rcases cases with h | h | h | h
  · rw [if_pos (by omega), if_pos (by omega)]
    have e : (⟨l.val / 32, by omega⟩ : Fin 4) = 0 := Fin.ext h
    rw [e]
    show _ * Host.cos rowAngles i + _ * (-(Host.sin rowAngles i)) + _ * zeroTable i = _
    rw [ez, mul_zero, add_zero, mul_neg, sub_eq_add_neg]
  · rw [if_neg (by omega), if_pos (by omega)]
    have e : (⟨l.val / 32, by omega⟩ : Fin 4) = 1 := Fin.ext h
    rw [e]
    show _ * Host.cos rowAngles i + _ * zeroTable i + _ * Host.sin rowAngles i = _
    rw [ez, mul_zero, add_zero]
  · rw [if_pos (by omega), if_neg (by omega)]
    have e : (⟨l.val / 32, by omega⟩ : Fin 4) = 2 := Fin.ext h
    rw [e]
    show _ * Host.cos colAngles i + _ * (-(Host.sin colAngles i)) + _ * zeroTable i = _
    rw [ez, mul_zero, add_zero, mul_neg, sub_eq_add_neg]
  · rw [if_neg (by omega), if_neg (by omega)]
    have e : (⟨l.val / 32, by omega⟩ : Fin 4) = 3 := Fin.ext h
    rw [e]
    show _ * Host.cos colAngles i + _ * zeroTable i + _ * Host.sin colAngles i = _
    rw [ez, mul_zero, add_zero]

/-- The rows a point stores, at one index. -/
theorem newRows_at (X : Vec Ideal S512x2048 .f32) (M : Vec Ideal S1x8x2048 .f32) (G : Vec Ideal S1x2048 .f32) (q : Fin 512) (k : Fin 2048) :
    newRows X M G (ix2 q k) = X (ix2 q k) * Cert.Ffn.invRms (fun k => X (ix2 q k)) * (G (ix2 0 k) * (1 + M (ix3 0 1 k))) + M (ix3 0 0 k) := by
  unfold Cert.Ffn.invRms
  pointwise [newRows, k0_pay2, k0_pay35, modRow]

/-- The rows a point stores are the specification's. -/
theorem newRows_eq (c : Dev nD) (t : Fin cfg0.N) (q : Fin 512) (k : Fin 2048) :
    newRows (iblk m c 0 t) (iblk m c 1 t) (iblk m c 2 t) (ix2 q k) = Cert.GlaIn.hid (arr0 m c) (arr1 m c) (arr2 m c) (tileAt t q) k := by
  rw [newRows_at, read1, read1, read2]
  simp only [read0]
  have e : (⟨min t.val 31 / 8, by omega⟩ : Fin 4) = Cert.Ffn.sample (tileAt t q) := Fin.ext (by dsimp only; omega)
  rw [e]
  rfl

/-- The result that a point leaves is the specification's. -/
theorem resultAt_eq (c : Dev nD) (t : Fin cfg0.N) (hz : t.val ≠ 0) (q : Fin 512) (n : Fin 3072) :
    resultAt (iblk m c 4 t) (iblk m c 5 t) (iblk m c 6 t) (rowsBefore m c t) (iblk m c 3 t) q n
      = Cert.Qkv.outAt (arr0 m c) (arr1 m c) (arr2 m c) (arr3 m c) ⟨(t.val - 1) * 512 + q.val, by have := lt33 t; omega⟩ n := by
  have ht := lt33 t
  have e : tileAt (prev t) q = ⟨(t.val - 1) * 512 + q.val, by omega⟩ := Fin.ext (by dsimp only; omega)
  have ep : ∀ n : Fin 3072, product (rowsBefore m c t) (iblk m c 3 t) q n
      = Cert.Qkv.projAt (arr0 m c) (arr1 m c) (arr2 m c) (arr3 m c) ⟨(t.val - 1) * 512 + q.val, by omega⟩ n := fun n => by
    unfold product Cert.Qkv.projAt
    rw [← e]
    refine Fin.sum_fin_congr fun k => ?_
    rw [read3]
    exact congrArg (· * _) (newRows_eq m c (prev t) q k)
  have et : tokenAt t q = ⟨((t.val - 1) * 512 + q.val) % 4096, by omega⟩ := Fin.ext (by dsimp only; omega)
  unfold resultAt Cert.Qkv.outAt
  by_cases hn : n.val < 2560
  · rw [if_pos hn, if_pos hn, read4, read5, read6, mixed_eq, et]
    exact congrArg (fun y => Cert.Qkv.turned _ y _) (funext fun l => ep _)
  · rw [if_neg hn, if_neg hn, ep]

/-- Points that write back come after the first. -/
theorem flush_pos : ∀ t : Fin cfg0.N, (cfg0.win 7).flush t = true → t.val ≠ 0 :=
  (by decide +kernel : ∀ t : Fin grid0.N, _)

/-- The result array. -/
theorem final7 (c : Dev nD) : (dats m 0 c).arrAt 7 (cfgs 0).N = fun y : S16384x3072.Idx =>
    Cert.Qkv.outAt (arr0 m c) (arr1 m c) (arr2 m c) (arr3 m c) (y 0) (y 1) := by
  refine (dats m 0 c).arrAt_eq_of_covers 7 _ (by decide +kernel) fun t hf y => ?_
  have hz := flush_pos t hf
  idx_vars y
  blk_simp
  rw [after0_7, outs m c t hz]
  have ht := lt33 t
  refine (resultAt_eq m c t hz y0 y1).trans ?_
  refine congrArg₂ (Cert.Qkv.outAt _ _ _ _) (Fin.ext ?_) (Fin.ext ?_)
  · have h : ((win0_7.blk t).view.emb (ix2 y0 y1) 0).val = (t.val - 1) * 512 + y0.val := by blk_simp [idx t]
    exact h.symm
  · have h : ((win0_7.blk t).view.emb (ix2 y0 y1) 1).val = y1.val := by blk_simp [idx t]
    exact h.symm

end Cert.Kernel6Ideal.Qkv
-- ==== Proof.Claims.QkvProjection.lean ====
module

public import proofs.«01_k».proof.Defs
public import proofs.«01_k».proof.Proof.Qkv.Reference
public import proofs.«01_k».proof.Proof.Qkv.Kernel
public import Idealize.ShloMosaic.Lib.Claim

/-! The projection kernel of the queries, keys and values and its reference return the same array. -/

@[expose] public section

set_option maxRecDepth 16384

noncomputable section

namespace Cert.Proof

open Idealize.ShloMosaic Idealize.SL.Sem Cert.Kernel6Ideal.Qkv

/-- The reference's whole result is the specification's. -/
theorem qkv_result (x : FVec Ideal Cert.Reference6Ideal.S16384x2048 .f32) (md : FVec Ideal Cert.Reference6Ideal.S4x8x2048 .f32)
    (g : FVec Ideal Cert.Reference6Ideal.S2048 .f32) (w : FVec Ideal Cert.Reference6Ideal.S2x2048x3072 .f32) :
    Cert.Reference6Ideal.Qkv.joined (Cert.Reference6Ideal.Qkv.all x md g w)
      = fun y : Cert.Reference6Ideal.S16384x3072.Idx => Cert.Qkv.outAt x md g w (y 0) (y 1) := by
  funext y
  idx_vars y
  exact Cert.Reference6Ideal.Qkv.result_at x md g w y0 y1

/-- From memories that agree on the arguments, the projection kernel and the plain lines return the same queries, keys and
    values, the queries and keys turned by their tokens' angles. -/
theorem qkv_projection : Cert.algebraic_Kernel6Ideal_Reference6Ideal := by
  pair_intro
  · run_from Cert.Kernel6Ideal.Gen.run_main m g
  · run_from Cert.Reference6Ideal.Value.run m' g'
    refine (Cert.Reference6Ideal.Qkv.result_eq m' c).trans ?_
    rw [(hagree c).1, (hagree c).2.1, (hagree c).2.2.1, (hagree c).2.2.2]
    exact (qkv_result _ _ _ _).trans (final7 m c).symm

end Cert.Proof
-- ==== Proof.GlaQk.Spec.lean ====
module

public import proofs.«01_k».proof.Proof.GlaIn.Spec

/-! The decay gates of a gated linear attention layer over its argument arrays: the normalised and modulated rows
    through a product of rank 16, plus a bias. -/

@[expose] public section

noncomputable section

namespace Cert.GlaQk

open Idealize.ShloMosaic

variable (x : FVec Ideal (⟨2, ![16384, 2048]⟩ : Shape) .f32) (md : FVec Ideal (⟨3, ![4, 8, 2048]⟩ : Shape) .f32)
  (g : FVec Ideal (⟨1, ![2048]⟩ : Shape) .f32) (u : FVec Ideal (⟨3, ![2, 2048, 16]⟩ : Shape) .f32)
  (v : FVec Ideal (⟨3, ![2, 16, 1024]⟩ : Shape) .f32) (b : FVec Ideal (⟨2, ![2, 1024]⟩ : Shape) .f32)

/-- Coordinate `i` of a row in the 16 inner ones. -/
def innerAt (r : Fin 16384) (i : Fin 16) : EReal := ∑ k : Fin 2048, Cert.GlaIn.hid x md g r k * u (ix3 0 k i)

/-- Column `n` of a row's decay gate, before the sigmoid. -/
def gateAt (r : Fin 16384) (n : Fin 1024) : EReal := (∑ i : Fin 16, innerAt x md g u r i * v (ix3 0 i n)) + b (ix2 0 n)

end Cert.GlaQk
-- ==== Proof.GlaQk.Reference.lean ====
module

public import proofs.«01_k».proof.Proof.Gen.Reference7Ideal.Run
public import proofs.«01_k».proof.Proof.GlaIn.Reference
public import proofs.«01_k».proof.Proof.GlaQk.Spec

/-! The reference of the query, key and decay gate projection in stages, each read at one index. -/

@[expose] public section

set_option maxRecDepth 16384

noncomputable section

namespace Cert.Reference7Ideal.GlaQk

open Idealize.ShloMosaic Idealize.ShloMosaic.TcCoe Idealize.SL.Sem
open Cert.Reference7Ideal Cert.Reference7Ideal.Gen
open Cert.Reference2Ideal.Ffn (byStream scaled flat)
open Cert.Reference5Ideal.GlaIn (modulated all all_at hidden_at)

/-- The queries' and the keys' columns of the projection side by side, the rows in one list. -/
def joined (P : FVec Ideal S4x4096x6144 .f32) : FVec Ideal S16384x2048 .f32 :=
  shapeCast S16384x2048 (concatenate S4x4096x2048 2 [
    ⟨S4x4096x1024, extractStridedSlice S4x4096x1024 ![0, 0, 0] P slices_S4x4096x6144_S4x4096x1024_0_0_0⟩,
    ⟨S4x4096x1024, extractStridedSlice S4x4096x1024 ![0, 0, 1024] P slices_S4x4096x6144_S4x4096x1024_0_0_1024⟩]
    concatenates_S4x4096x1024_S4x4096x1024_S4x4096x2048_d2 : FVec Ideal S4x4096x2048 .f32) shapeCasts_S4x4096x2048_S16384x2048

/-- The product with the first layer's inner gate weights. -/
def narrow (H : FVec Ideal S4x4096x2048 .f32) (u : FVec Ideal S2x2048x16 .f32) : FVec Ideal S4x4096x16 .f32 :=
  Host.dotGeneral dot_S4x4096x2048_S2048x16_S4x4096x16_2_0_01_1_n_n none H
    (shapeCast _ (extractStridedSlice S1x2048x16 ![0, 0, 0] u slices_S2x2048x16_S1x2048x16_0_0_0) shapeCasts_S1x2048x16_S2048x16)

/-- The product with the first layer's outer gate weights. -/
def widened (Z : FVec Ideal S4x4096x16 .f32) (v : FVec Ideal S2x16x1024 .f32) : FVec Ideal S4x4096x1024 .f32 :=
  Host.dotGeneral dot_S4x4096x16_S16x1024_S4x4096x1024_2_0_01_1_n_n none Z
    (shapeCast _ (extractStridedSlice S1x16x1024 ![0, 0, 0] v slices_S2x16x1024_S1x16x1024_0_0_0) shapeCasts_S1x16x1024_S16x1024)

/-- The first layer's gate bias in every row. -/
def biases (b : FVec Ideal S2x1024 .f32) : FVec Ideal S4x4096x1024 .f32 :=
  broadcastInDim S4x4096x1024 ![0, 1, 2] bcast_S1x1x1024_S4x4096x1024_0_1_2 (broadcastInDim S1x1x1024 ![2] bcast_S1024_S1x1x1024_2
    (shapeCast S1024 (extractStridedSlice S1x1024 ![0, 0] b slices_S2x1024_S1x1024_0_0 : FVec Ideal S1x1024 .f32) shapeCasts_S1x1024_S1024))

/-- The rows in one list. -/
def listed (Z : FVec Ideal S4x4096x1024 .f32) : FVec Ideal S16384x1024 .f32 :=
  shapeCast S16384x1024 Z shapeCasts_S4x4096x1024_S16384x1024

/-- One direction's gates, the rows in one list. -/
def gate (H : FVec Ideal S4x4096x2048 .f32) (u : FVec Ideal S2x2048x16 .f32) (v : FVec Ideal S2x16x1024 .f32) (b : FVec Ideal S2x1024 .f32) :
    FVec Ideal S16384x1024 .f32 :=
  listed (addf (widened (narrow H u) v) (biases b))

theorem narrow_at (H : FVec Ideal S4x4096x2048 .f32) (u : FVec Ideal S2x2048x16 .f32) (s : Fin 4) (q : Fin 4096) (i : Fin 16) :
    narrow H u (ix3 s q i) = ∑ k : Fin 2048, H (ix3 s q k) * u (ix3 0 k i) := by
  pointwise [narrow]

theorem widened_at (Z : FVec Ideal S4x4096x16 .f32) (v : FVec Ideal S2x16x1024 .f32) (s : Fin 4) (q : Fin 4096) (n : Fin 1024) :
    widened Z v (ix3 s q n) = ∑ i : Fin 16, Z (ix3 s q i) * v (ix3 0 i n) := by
  pointwise [widened]

theorem biases_at (b : FVec Ideal S2x1024 .f32) (s : Fin 4) (q : Fin 4096) (n : Fin 1024) : biases b (ix3 s q n) = b (ix2 0 n) := by
  pointwise [biases]

theorem listed_at (Z : FVec Ideal S4x4096x1024 .f32) (r : Fin 16384) (n : Fin 1024) :
    listed Z (ix2 r n) = Z (ix3 ⟨r.val / 4096, by omega⟩ ⟨r.val % 4096, by omega⟩ n) := by
  pointwise [listed]

theorem joined_at (P : FVec Ideal S4x4096x6144 .f32) (r : Fin 16384) (n : Fin 2048) :
    joined P (ix2 r n) = P (ix3 ⟨r.val / 4096, by omega⟩ ⟨r.val % 4096, by omega⟩ ⟨n.val, by omega⟩) := by
  pointwise [joined]
  split
  · rfl
  · exact congrArg (fun i => P (ix3 _ _ i)) (Fin.ext (by dsimp only; omega))

/-- A row's sample and place in it make up the row again. -/
theorem flat_row (r : Fin 16384) : flat ⟨r.val / 4096, by omega⟩ ⟨r.val % 4096, by omega⟩ = r := Fin.ext (by dsimp only; omega)

/-- The queries and keys of the reference are the specification's. -/
theorem joined_eq (x : FVec Ideal S16384x2048 .f32) (md : FVec Ideal S4x8x2048 .f32) (g : FVec Ideal S2048 .f32) (w : FVec Ideal S2x2048x6144 .f32) :
    joined (all x md g w) = fun y : S16384x2048.Idx =>
      Cert.GlaIn.projAt x md g w (y 0) ⟨(y 1).val, by have := (y 1).isLt; have e : S16384x2048.size 1 = 2048 := rfl; omega⟩ := by
  funext y
  idx_vars y
  rw [joined_at, all_at, flat_row]

/-- The gates of the reference are the specification's. -/
theorem gate_eq (x : FVec Ideal S16384x2048 .f32) (md : FVec Ideal S4x8x2048 .f32) (g : FVec Ideal S2048 .f32) (u : FVec Ideal S2x2048x16 .f32)
    (v : FVec Ideal S2x16x1024 .f32) (b : FVec Ideal S2x1024 .f32) : gate (modulated (scaled (byStream x) g) md) u v b
      = fun y : S16384x1024.Idx => Cert.GlaQk.gateAt x md g u v b (y 0) (y 1) := by
  funext y
  idx_vars y
  rw [gate, listed_at]
  show widened _ v _ + biases b _ = _
  rw [widened_at, biases_at]
  unfold Cert.GlaQk.gateAt Cert.GlaQk.innerAt
  simp only [narrow_at, hidden_at, flat_row]

end Cert.Reference7Ideal.GlaQk
-- ==== Proof.GlaQk.Blocks.lean ====
module

public import proofs.«01_k».proof.Proof.Ffn.Spec
public import Idealize.ShloMosaic.Lib.Routing.OpsOne

/-! Writing a matrix into a block of another, and a sum whose terms vanish outside a run of lanes. -/

@[expose] public section

noncomputable section

namespace Cert.GlaQk

open Idealize.ShloMosaic Idealize.ShloMosaic.Routing

/-- Writing a matrix into the block whose corner is `(o, p)`: an entry of the block is the matrix's. -/
theorem block_hit {R C r c : ℕ} (d : ScatterDims (⟨2, ![R, C]⟩ : Shape) (⟨1, ![1]⟩ : Shape) (⟨2, ![r, c]⟩ : Shape)) (x : FVec Ideal (⟨2, ![R, C]⟩ : Shape) .f32)
    (idx : IVec (⟨1, ![1]⟩ : Shape) 32) (u : FVec Ideal (⟨2, ![r, c]⟩ : Shape) .f32) (o p : ℕ) (h0 : ∀ j, d.start j idx 0 + d.window j 0 = ((o + (j 0).val : ℕ) : ℤ))
    (h1 : ∀ j, d.start j idx 1 + d.window j 1 = ((p + (j 1).val : ℕ) : ℤ)) (a : Fin R) (b : Fin C) (i : Fin r) (k : Fin c) (ha : a.val = o + i.val)
    (hb : b.val = p + k.val) : Host.scatter d (fun _ v => v) x idx u (ix2 a b) = u (ix2 i k) := by
  refine scatter_set_hit d x idx u _ _ (fun j hj => ?_) (ix2 i k) ?_
  · change d.resultIdx? j idx = some (ValueIdx.ix2 a b) at hj
    rw [resultIdx?_ix2, h0, h1] at hj
    have e0 : j 0 = i := Fin.ext (by omega)
    have e1 : j 1 = k := Fin.ext (by omega)
    rw [← e0, ← e1]
    exact congrArg u (ValueIdx.eq_ix2 j)
  · change d.resultIdx? (ix2 i k) idx = some (ValueIdx.ix2 a b)
    rw [resultIdx?_ix2, h0, h1]
    show ((o + i.val : ℕ) : ℤ) = _ ∧ ((p + k.val : ℕ) : ℤ) = _
    omega

/-- An entry outside the block stays. -/
theorem block_miss {R C r c : ℕ} (d : ScatterDims (⟨2, ![R, C]⟩ : Shape) (⟨1, ![1]⟩ : Shape) (⟨2, ![r, c]⟩ : Shape)) (x : FVec Ideal (⟨2, ![R, C]⟩ : Shape) .f32)
    (idx : IVec (⟨1, ![1]⟩ : Shape) 32) (u : FVec Ideal (⟨2, ![r, c]⟩ : Shape) .f32) (o p : ℕ) (h0 : ∀ j, d.start j idx 0 + d.window j 0 = ((o + (j 0).val : ℕ) : ℤ))
    (h1 : ∀ j, d.start j idx 1 + d.window j 1 = ((p + (j 1).val : ℕ) : ℤ)) (a : Fin R) (b : Fin C)
    (h : a.val < o ∨ o + r ≤ a.val ∨ b.val < p ∨ p + c ≤ b.val) : Host.scatter d (fun _ v => v) x idx u (ix2 a b) = x (ix2 a b) := by
  refine scatter_set_miss d x idx u _ fun j hj => ?_
  change d.resultIdx? j idx = some (ValueIdx.ix2 a b) at hj
  rw [resultIdx?_ix2, h0, h1] at hj
  have b0 : (j 0).val < r := (j 0).isLt
  have b1 : (j 1).val < c := (j 1).isLt
  omega

/-- A sum over 128 lanes whose terms vanish outside 16 of them. -/
theorem sum_run (o : ℕ) (ho : o + 16 ≤ 128) (f : Fin 128 → EReal) (h : ∀ l, l.val < o ∨ o + 16 ≤ l.val → f l = 0) :
    ∑ l : Fin 128, f l = ∑ i : Fin 16, f ⟨o + i.val, by omega⟩ := by
  refine (Fintype.sum_of_injective (fun i : Fin 16 => (⟨o + i.val, by omega⟩ : Fin 128)) (fun i i' e => Fin.ext (by have := congrArg Fin.val e; dsimp only at this; omega))
    _ _ (fun l hl => h l ?_) fun i => rfl).symm
  by_contra hn
  exact hl ⟨⟨l.val - o, by omega⟩, Fin.ext (by dsimp only; omega)⟩

end Cert.GlaQk
-- ==== Proof.GlaQk.Kernel.lean ====
module

public import proofs.«01_k».proof.Proof.Gen.Kernel7Ideal.Value
public import proofs.«01_k».proof.Proof.GlaQk.Spec
public import proofs.«01_k».proof.Proof.GlaQk.Blocks
public import Idealize.ShloMosaic.Lib.Pipeline.ValueKit
public import Idealize.ShloMosaic.Lib.Pipeline.ReadBack
public import Idealize.ShloMosaic.Lib.Pointwise

/-! The query, key and decay gate projection kernel of gated linear attention. Every grid point stores the normalised rows
    of its tile in one of two buffers, and multiplies the rows that the point before stored in the other. -/

@[expose] public section

set_option maxRecDepth 16384

noncomputable section

namespace Cert.Kernel7Ideal.GlaQk

open Idealize.ShloMosaic Idealize.ShloMosaic.TcCoe Idealize.SL.Sem
open Idealize.ShloMosaic.Pipeline (Dat)
open Cert.Kernel7Ideal Cert.Kernel7Ideal.Gen

variable (m : (ℓ : Loc nD τ sig) → Buf (Elt Ideal) ℓ)

/-- One row of the sample's modulations. -/
abbrev modRow (M : Vec Ideal S1x8x2048 .f32) (a : ℕ) (h : ∀ b, (![0, a, 0] : Fin 3 → Nat) b + S1x1x2048.size b ≤ S1x8x2048.size b) :
    Vec Ideal S1x1x2048 .f32 :=
  View.ld (Val := Elt Ideal) (e' := .f32) M (Rect.unit (s := S1x8x2048) ![0, a, 0] S1x1x2048.size h)

/-- The rows a grid point normalises and stores. -/
def newRows (X : Vec Ideal S512x2048 .f32) (M : Vec Ideal S1x8x2048 .f32) (G : Vec Ideal S1x2048 .f32) : FVec Ideal S512x2048 .bf16 :=
  k0_pay2 X G (modRow M 1 inb_S1x8x2048_S1x1x2048_0_1_0) (modRow M 0 inb_S1x8x2048_S1x1x2048_0_0_0)

/-- The products of rows with the columns of the weights. -/
def products (H : FVec Ideal S512x2048 .bf16) (w : Vec Ideal S1x2048x2048 .bf16) : FVec Ideal S512x2048 .f32 :=
  fun y => ∑ k : Fin 2048, H (ix2 (y 0) k) * w (ix3 0 k (y 1))

/-- 1024 columns of the weights. -/
abbrev cols (w : Vec Ideal S1x2048x2048 .bf16) (o : ℕ) (h : ∀ b, (![0, 0, o] : Fin 3 → Nat) b + S1x2048x1024.size b ≤ S1x2048x2048.size b) :
    Vec Ideal S1x2048x1024 .bf16 :=
  View.ld (Val := Elt Ideal) (e' := .bf16) w (Rect.unit (s := S1x2048x2048) ![0, 0, o] S1x2048x1024.size h)

/-- A product with 1024 columns. -/
theorem chunk_at (H : FVec Ideal S512x2048 .bf16) (w : Vec Ideal S1x2048x2048 .bf16) (o : ℕ)
    (h : ∀ b, (![0, 0, o] : Fin 3 → Nat) b + S1x2048x1024.size b ≤ S1x2048x2048.size b) (ho : o + 1024 ≤ 2048) (q : Fin 512) (n : Fin 1024) :
    k0_pay7 H (cols w o h) (ix2 q n) = ∑ k : Fin 2048, H (ix2 q k) * w (ix3 0 k ⟨o + n.val, by omega⟩) := by
  pointwise [k0_pay7, cols]

/-- The two stores of 1024 columns leave the products. -/
theorem product_stores (H : FVec Ideal S512x2048 .bf16) (w : Vec Ideal S1x2048x2048 .bf16) :
    View.canon (Val := Elt Ideal) (s := S512x2048) (e := .f32)
      [⟨Rect.unit ![0, 1024] ![512, 1024] inb_S512x2048_S512x1024_0_1024, k0_pay7 H (cols w 1024 inb_S1x2048x2048_S1x2048x1024_0_0_1024)⟩,
        ⟨Rect.unit ![0, 0] ![512, 1024] inb_S512x2048_S512x1024_0_0, k0_pay7 H (cols w 0 inb_S1x2048x2048_S1x2048x1024_0_0_0)⟩] = products H w := by
  funext y
  idx_vars y
  canon_tiles x hx
  all_goals
    idx_vars x
    obtain rfl : x0 = y0 := (Fin.ext hx0).symm
    refine (chunk_at H w _ _ (by decide) x0 x1).trans (Fin.sum_fin_congr fun k => ?_)
    exact congrArg (fun n => H (ix2 x0 k) * w (ix3 0 k n)) (Fin.ext (by show _ + x1.val = y1.val; omega))

/-- The decay gates of rows: the product through 128 lanes, plus the bias. -/
def gates (H : FVec Ideal S512x2048 .bf16) (A : Vec Ideal S2048x128 .bf16) (B : Vec Ideal S128x1024 .bf16) (b : Vec Ideal S1x1024 .f32) : FVec Ideal S512x1024 .f32 :=
  fun y => (∑ l : Fin 128, (∑ k : Fin 2048, H (ix2 (y 0) k) * A (ix2 k l)) * B (ix2 l (y 1))) + b (ix2 0 (y 1))

theorem gates_eq (H : FVec Ideal S512x2048 .bf16) (A : Vec Ideal S2048x128 .bf16) (B : Vec Ideal S128x1024 .bf16) (b : Vec Ideal S1x1024 .f32) :
    k0_pay5 H A B b = gates H A B b := by
  funext y
  idx_vars y
  unfold gates
  pointwise [k0_pay5, k0_pay4]

/-- There are 33 grid points. -/
theorem lt33 (t : Fin cfg0.N) : t.val < 33 := t.isLt

/-- An even point stores its rows in the first buffer. -/
theorem stored_even (c : Dev nD) (t : Fin cfg0.N) (h : t.val % 2 = 0) :
    (outsAt0 m c t.val t.isLt).2.2.2.1 = newRows (iblk m c 0 t) (iblk m c 1 t) (iblk m c 2 t) := by
  have ht := lt33 t
  by_cases h0 : t.val % 33 = 0
  · rw [outsAt0_A m c t h0 h (by omega)]
    frame_out
    rfl
  · rw [outsAt0_C m c t h0 h (by omega)]
    frame_out
    rfl

/-- An odd point stores its rows in the second buffer. -/
theorem stored_odd (c : Dev nD) (t : Fin cfg0.N) (h : t.val % 2 = 1) :
    (outsAt0 m c t.val t.isLt).2.2.2.2 = newRows (iblk m c 0 t) (iblk m c 1 t) (iblk m c 2 t) := by
  have ht := lt33 t
  rw [outsAt0_B m c t (by omega) (by omega) h]
  frame_out
  rfl

/-- The block every window sits at, at every grid point. -/
theorem idx : ∀ t : Fin cfg0.N, win0_0.index t = ![min t.val 31, 0] ∧ win0_1.index t = ![min t.val 31 / 8, 0, 0]
    ∧ win0_2.index t = ![0, 0] ∧ win0_3.index t = ![0, 0, 0] ∧ win0_4.index t = ![0, 0] ∧ win0_5.index t = ![0, 0]
    ∧ win0_6.index t = ![0, 0] ∧ win0_7.index t = ![0, 0] ∧ win0_8.index t = ![0, 0] ∧ win0_9.index t = ![t.val - 1, 0]
    ∧ win0_10.index t = ![t.val - 1, 0] ∧ win0_11.index t = ![t.val - 1, 0] :=
  (by decide +kernel : ∀ t : Fin grid0.N, _)

/-- The point before. -/
abbrev prev (t : Fin cfg0.N) : Fin cfg0.N := ⟨t.val - 1, Nat.lt_of_le_of_lt (Nat.sub_le _ _) t.isLt⟩

/-- The rows that a point multiplies: those of the point before. -/
abbrev rowsBefore (c : Dev nD) (t : Fin cfg0.N) : FVec Ideal S512x2048 .bf16 :=
  newRows (iblk m c 0 (prev t)) (iblk m c 1 (prev t)) (iblk m c 2 (prev t))

/-- Every point after the first leaves the products and the gates of the rows of the point before in the three output windows. -/
theorem outs (c : Dev nD) (t : Fin cfg0.N) (hz : t.val ≠ 0) :
    (outsAt0 m c t.val t.isLt).1 = products (rowsBefore m c t) (iblk m c 3 t)
    ∧ (outsAt0 m c t.val t.isLt).2.1 = gates (rowsBefore m c t) (iblk m c 4 t) (iblk m c 5 t) (iblk m c 7 t)
    ∧ (outsAt0 m c t.val t.isLt).2.2.1 = gates (rowsBefore m c t) (iblk m c 4 t) (iblk m c 6 t) (iblk m c 8 t) := by
  have ht := lt33 t
  have p := fun H => product_stores H (iblk m c 3 t)
  have p1 := fun H => gates_eq H (iblk m c 4 t) (iblk m c 5 t) (iblk m c 7 t)
  have p2 := fun H => gates_eq H (iblk m c 4 t) (iblk m c 6 t) (iblk m c 8 t)
  by_cases h : t.val % 2 = 1
  · have e : rowsBefore m c t = _ := (stored_even m c (prev t) (by show (t.val - 1) % 2 = 0; omega)).symm
    rw [outsAt0_B m c t (by omega) (by omega) h, e]
    refine ⟨?_, ?_, ?_⟩ <;> frame_out <;> simp (disch := decide) only [read_unread_whole]
    exacts [p _, p1 _, p2 _]
  · have e : rowsBefore m c t = _ := (stored_odd m c (prev t) (by show (t.val - 1) % 2 = 1; omega)).symm
    rw [outsAt0_C m c t (by omega) (by omega) h, e]
    refine ⟨?_, ?_, ?_⟩ <;> frame_out <;> simp (disch := decide) only [read_unread_whole]
    exacts [p _, p1 _, p2 _]

end Cert.Kernel7Ideal.GlaQk
-- ==== Proof.GlaQk.Host.lean ====
module

public import proofs.«01_k».proof.Proof.GlaQk.Kernel

/-! What the query, key and decay gate projection kernel is given: the two inner weights side by side in 128 lanes, each
    outer weight below or above zeros, and the arrays read at the blocks of a grid point. -/

@[expose] public section

set_option maxRecDepth 16384
set_option maxHeartbeats 1000000

noncomputable section

namespace Cert.Kernel7Ideal.GlaQk

open Idealize.ShloMosaic Idealize.ShloMosaic.TcCoe Idealize.SL.Sem
open Idealize.ShloMosaic.Pipeline (Dat)
open Cert.Kernel7Ideal Cert.Kernel7Ideal.Gen

variable (m : (ℓ : Loc nD τ sig) → Buf (Elt Ideal) ℓ)

/-- A block's place along its axis. -/
def place1 (o : BitVec 32) : IVec S1 32 := broadcastInDim S1 ![] bcast_S_S1 (constantI S_ 32 o)

/-- The first layer's inner weights. -/
def cutInner (U : FVec Ideal S2x2048x16 .f32) : FVec Ideal S2048x16 .f32 :=
  shapeCast _ (extractStridedSlice S1x2048x16 ![0, 0, 0] U slices_S2x2048x16_S1x2048x16_0_0_0) shapeCasts_S1x2048x16_S2048x16

/-- The first layer's outer weights. -/
def cutOuter (U : FVec Ideal S2x16x1024 .f32) : FVec Ideal S16x1024 .f32 :=
  shapeCast _ (extractStridedSlice S1x16x1024 ![0, 0, 0] U slices_S2x16x1024_S1x16x1024_0_0_0) shapeCasts_S1x16x1024_S16x1024

/-- Inner weights written into 16 lanes. -/
def putInner (X : FVec Ideal S2048x128 .f32) (o : BitVec 32) (U : FVec Ideal S2x2048x16 .f32) : FVec Ideal S2048x128 .f32 :=
  Host.scatter scatter_S2048x128_S1_S2048x16_01_n_1_0 (fun _ b => b) X (place1 o) (cutInner U)

/-- The inner lanes in the kernel's format. -/
def lanesBf (X : FVec Ideal S2048x128 .f32) : FVec Ideal S2048x128 .bf16 := truncf .bf16 X bitsLt_bf16_f32

theorem lanesBf_at (X : FVec Ideal S2048x128 .f32) (i : S2048x128.Idx) : lanesBf X i = X i := rfl

/-- Outer rows in the kernel's format. -/
def rowsBf (X : FVec Ideal S128x1024 .f32) : FVec Ideal S128x1024 .bf16 := truncf .bf16 X bitsLt_bf16_f32

theorem rowsBf_at (X : FVec Ideal S128x1024 .f32) (i : S128x1024.Idx) : rowsBf X i = X i := rfl

/-- The two inner weights side by side. -/
def inner (U1 U2 : FVec Ideal S2x2048x16 .f32) : FVec Ideal S2048x128 .bf16 :=
  lanesBf (putInner (putInner (broadcastInDim S2048x128 ![] bcast_S_S2048x128 (constant S_ .f32 0x00000000#32)) 0#32 U1) 16#32 U2)

/-- Outer weights in 16 rows, zeros elsewhere. -/
def outer (o : BitVec 32) (U : FVec Ideal S2x16x1024 .f32) : FVec Ideal S128x1024 .bf16 :=
  rowsBf (Host.scatter scatter_S128x1024_S1_S16x1024_01_n_0_0 (fun _ b => b)
    (broadcastInDim S128x1024 ![] bcast_S_S128x1024 (constant S_ .f32 0x00000000#32)) (place1 o) (cutOuter U))

theorem cutInner_at (U : FVec Ideal S2x2048x16 .f32) (k : Fin 2048) (i : Fin 16) : cutInner U (ix2 k i) = U (ix3 0 k i) := by
  pointwise [cutInner]

theorem cutOuter_at (U : FVec Ideal S2x16x1024 .f32) (i : Fin 16) (n : Fin 1024) : cutOuter U (ix2 i n) = U (ix3 0 i n) := by
  pointwise [cutOuter]

theorem innerPlace (o : BitVec 32) (p : ℕ) (hp : o.toInt = p) (j : S2048x16.Idx) :
    scatter_S2048x128_S1_S2048x16_01_n_1_0.start j (place1 o) 0 + scatter_S2048x128_S1_S2048x16_01_n_1_0.window j 0 = ((0 + (j 0).val : ℕ) : ℤ)
    ∧ scatter_S2048x128_S1_S2048x16_01_n_1_0.start j (place1 o) 1 + scatter_S2048x128_S1_S2048x16_01_n_1_0.window j 1 = ((p + (j 1).val : ℕ) : ℤ) := by
  constructor
  · show (0 : ℤ) + ((j 0).val : ℤ) = _
    push_cast
    rfl
  · show o.toInt + ((j 1).val : ℤ) = _
    rw [hp]
    push_cast
    rfl

theorem outerPlace (o : BitVec 32) (p : ℕ) (hp : o.toInt = p) (j : S16x1024.Idx) :
    scatter_S128x1024_S1_S16x1024_01_n_0_0.start j (place1 o) 0 + scatter_S128x1024_S1_S16x1024_01_n_0_0.window j 0 = ((p + (j 0).val : ℕ) : ℤ)
    ∧ scatter_S128x1024_S1_S16x1024_01_n_0_0.start j (place1 o) 1 + scatter_S128x1024_S1_S16x1024_01_n_0_0.window j 1 = ((0 + (j 1).val : ℕ) : ℤ) := by
  constructor
  · show o.toInt + ((j 0).val : ℤ) = _
    rw [hp]
    push_cast
    rfl
  · show (0 : ℤ) + ((j 1).val : ℤ) = _
    push_cast
    rfl

theorem putInner_hit (X : FVec Ideal S2048x128 .f32) (o : BitVec 32) (p : ℕ) (hp : o.toInt = p) (U : FVec Ideal S2x2048x16 .f32) (k : Fin 2048) (l : Fin 128)
    (i : Fin 16) (h : l.val = p + i.val) : putInner X o U (ix2 k l) = U (ix3 0 k i) :=
  (Cert.GlaQk.block_hit _ X (place1 o) _ 0 p (fun j => (innerPlace o p hp j).1) (fun j => (innerPlace o p hp j).2) k l k i (Nat.zero_add _).symm h).trans
    (cutInner_at U k i)

theorem putInner_miss (X : FVec Ideal S2048x128 .f32) (o : BitVec 32) (p : ℕ) (hp : o.toInt = p) (U : FVec Ideal S2x2048x16 .f32) (k : Fin 2048) (l : Fin 128)
    (h : l.val < p ∨ p + 16 ≤ l.val) : putInner X o U (ix2 k l) = X (ix2 k l) :=
  Cert.GlaQk.block_miss _ X (place1 o) _ 0 p (fun j => (innerPlace o p hp j).1) (fun j => (innerPlace o p hp j).2) k l (.inr (.inr h))

/-- The first inner weights lie in the first 16 lanes. -/
theorem inner_first (U1 U2 : FVec Ideal S2x2048x16 .f32) (k : Fin 2048) (i : Fin 16) : inner U1 U2 (ix2 k ⟨0 + i.val, by omega⟩) = U1 (ix3 0 k i) := by
  rw [inner, lanesBf_at, putInner_miss _ _ 16 (by decide) _ _ _ (.inl (by dsimp only; omega)), putInner_hit _ _ 0 (by decide) _ _ _ i rfl]

/-- The second inner weights lie in the next 16. -/
theorem inner_second (U1 U2 : FVec Ideal S2x2048x16 .f32) (k : Fin 2048) (i : Fin 16) : inner U1 U2 (ix2 k ⟨16 + i.val, by omega⟩) = U2 (ix3 0 k i) := by
  rw [inner, lanesBf_at, putInner_hit _ _ 16 (by decide) _ _ _ i rfl]

theorem outer_hit (o : BitVec 32) (p : ℕ) (hp : o.toInt = p) (U : FVec Ideal S2x16x1024 .f32) (l : Fin 128) (n : Fin 1024) (i : Fin 16)
    (h : l.val = p + i.val) : outer o U (ix2 l n) = U (ix3 0 i n) := by
  rw [outer, rowsBf_at]
  exact (Cert.GlaQk.block_hit _ _ (place1 o) _ p 0 (fun j => (outerPlace o p hp j).1) (fun j => (outerPlace o p hp j).2) l n i n h (Nat.zero_add _).symm).trans
    (cutOuter_at U i n)

theorem outer_miss (o : BitVec 32) (p : ℕ) (hp : o.toInt = p) (U : FVec Ideal S2x16x1024 .f32) (l : Fin 128) (n : Fin 1024)
    (h : l.val < p ∨ p + 16 ≤ l.val) : outer o U (ix2 l n) = 0 := by
  rw [outer, rowsBf_at]
  refine (Cert.GlaQk.block_miss _ _ (place1 o) _ p 0 (fun j => (outerPlace o p hp j).1) (fun j => (outerPlace o p hp j).2) l n
    (h.elim .inl fun h => .inr (.inl h))).trans ?_
  pointwise

/-- The residual stream of the run. -/
abbrev arr0 (c : Dev nD) : FVec Ideal S16384x2048 .f32 := m ((c : Thread nD τ).loc main_arg0)
/-- The modulations. -/
abbrev arr1 (c : Dev nD) : FVec Ideal S4x8x2048 .f32 := m ((c : Thread nD τ).loc main_arg1)
/-- The norm's gains. -/
abbrev arr2 (c : Dev nD) : FVec Ideal S2048 .f32 := m ((c : Thread nD τ).loc main_arg2)
/-- The input weights. -/
abbrev arr3 (c : Dev nD) : FVec Ideal S2x2048x6144 .f32 := m ((c : Thread nD τ).loc main_arg3)
/-- The forward gate's inner weights. -/
abbrev arr4 (c : Dev nD) : FVec Ideal S2x2048x16 .f32 := m ((c : Thread nD τ).loc main_arg4)
/-- The forward gate's outer weights. -/
abbrev arr5 (c : Dev nD) : FVec Ideal S2x16x1024 .f32 := m ((c : Thread nD τ).loc main_arg5)
/-- The forward gate's bias. -/
abbrev arr6 (c : Dev nD) : FVec Ideal S2x1024 .f32 := m ((c : Thread nD τ).loc main_arg6)
/-- The backward gate's inner weights. -/
abbrev arr7 (c : Dev nD) : FVec Ideal S2x2048x16 .f32 := m ((c : Thread nD τ).loc main_arg7)
/-- The backward gate's outer weights. -/
abbrev arr8 (c : Dev nD) : FVec Ideal S2x16x1024 .f32 := m ((c : Thread nD τ).loc main_arg8)
/-- The backward gate's bias. -/
abbrev arr9 (c : Dev nD) : FVec Ideal S2x1024 .f32 := m ((c : Thread nD τ).loc main_arg9)

/-- The first layer's bias as a row. -/
def biasRow (b : FVec Ideal S2x1024 .f32) : FVec Ideal S1x1024 .f32 :=
  shapeCast S1x1024 (shapeCast S1024 (extractStridedSlice S1x1024 ![0, 0] b slices_S2x1024_S1x1024_0_0 : FVec Ideal S1x1024 .f32) shapeCasts_S1x1024_S1024 : FVec Ideal S1024 .f32)
    shapeCasts_S1024_S1x1024

theorem biasRow_at (b : FVec Ideal S2x1024 .f32) (n : Fin 1024) : biasRow b (ix2 0 n) = b (ix2 0 n) := by
  pointwise [biasRow]

theorem table2 (c : Dev nD) : (V m c main_v28 : FVec Ideal S1x2048 .f32) = shapeCast S1x2048 (arr2 m c) shapeCasts_S2048_S1x2048 := rfl

theorem table3 (c : Dev nD) : (V m c main_v27 : FVec Ideal S2x2048x2048 .bf16)
    = truncf .bf16 (extractStridedSlice S2x2048x2048 ![0, 0, 0] (arr3 m c) slices_S2x2048x6144_S2x2048x2048_0_0_0 : FVec Ideal S2x2048x2048 .f32) bitsLt_bf16_f32 := rfl

theorem table4 (c : Dev nD) : (V m c main_v19 : FVec Ideal S2048x128 .bf16) = inner (arr4 m c) (arr7 m c) := by
  entry_read
  rfl

theorem table5 (c : Dev nD) : (V m c main_v20 : FVec Ideal S128x1024 .bf16) = outer 0#32 (arr5 m c) := by
  entry_read
  rfl

theorem table6 (c : Dev nD) : (V m c main_v21 : FVec Ideal S128x1024 .bf16) = outer 16#32 (arr8 m c) := by
  entry_read
  rfl

theorem table7 (c : Dev nD) : (V m c main_v29 : FVec Ideal S1x1024 .f32) = biasRow (arr6 m c) := rfl

theorem table8 (c : Dev nD) : (V m c main_v30 : FVec Ideal S1x1024 .f32) = biasRow (arr9 m c) := rfl

end Cert.Kernel7Ideal.GlaQk
-- ==== Proof.GlaQk.Result.lean ====
module

public import proofs.«01_k».proof.Proof.GlaQk.Host

/-! The three arrays that the query, key and decay gate projection kernel returns. -/

@[expose] public section

set_option maxRecDepth 16384

noncomputable section

namespace Cert.Kernel7Ideal.GlaQk

open Idealize.ShloMosaic Idealize.ShloMosaic.TcCoe Idealize.SL.Sem
open Idealize.ShloMosaic.Pipeline (Dat)
open Cert.Kernel7Ideal Cert.Kernel7Ideal.Gen

variable (m : (ℓ : Loc nD τ sig) → Buf (Elt Ideal) ℓ)

/-- The tile whose rows a point normalises. -/
abbrev tileAt (t : Fin cfg0.N) (q : Fin 512) : Fin 16384 := ⟨min t.val 31 * 512 + q.val, by omega⟩

theorem read0 (c : Dev nD) (t : Fin cfg0.N) (q : Fin 512) (k : Fin 2048) :
    (iblk m c 0 t : Vec Ideal S512x2048 .f32) (ix2 q k) = arr0 m c (ix2 (tileAt t q) k) := by
  blk_ext [iblk, V, idx t]

theorem read1 (c : Dev nD) (t : Fin cfg0.N) (a : Fin 8) (k : Fin 2048) :
    (iblk m c 1 t : Vec Ideal S1x8x2048 .f32) (ix3 0 a k) = arr1 m c (ix3 ⟨min t.val 31 / 8, by omega⟩ a k) := by
  blk_ext [iblk, V, idx t]

/-- Where the blocks of the gains, the inner and outer weights and the biases lie. -/
theorem place (t : Fin cfg0.N) : (∀ k : Fin 2048, (win0_2.blk t).view.emb (ix2 0 k) = ix2 0 k)
    ∧ (∀ (k : Fin 2048) (l : Fin 128), (win0_4.blk t).view.emb (ix2 k l) = ix2 k l)
    ∧ (∀ (l : Fin 128) (n : Fin 1024), (win0_5.blk t).view.emb (ix2 l n) = ix2 l n)
    ∧ (∀ (l : Fin 128) (n : Fin 1024), (win0_6.blk t).view.emb (ix2 l n) = ix2 l n)
    ∧ (∀ n : Fin 1024, (win0_7.blk t).view.emb (ix2 0 n) = ix2 0 n)
    ∧ (∀ n : Fin 1024, (win0_8.blk t).view.emb (ix2 0 n) = ix2 0 n) := by
  refine ⟨?_, ?_, ?_, ?_, ?_, ?_⟩
  all_goals
    intros
    funext a
    refine Fin.ext ?_
    fin_cases a
    all_goals
      blk_simp [idx t]
      try rfl

/-- Where the block of the weights lies. -/
theorem place3 (t : Fin cfg0.N) (k : Fin 2048) (n : Fin 2048) : (win0_3.blk t).view.emb (ix3 0 k n) = ix3 0 k n := by
  funext a
  refine Fin.ext ?_
  fin_cases a
  all_goals
    blk_simp [idx t]
    try rfl

theorem read2 (c : Dev nD) (t : Fin cfg0.N) (k : Fin 2048) :
    (iblk m c 2 t : Vec Ideal S1x2048 .f32) (ix2 0 k) = arr2 m c (ix1 k) := by
  have e : (iblk m c 2 t : Vec Ideal S1x2048 .f32) (ix2 0 k) = (V m c main_v28 : FVec Ideal S1x2048 .f32) ((win0_2.blk t).view.emb (ix2 0 k)) := rfl
  rw [e, table2, (place t).1]
  pointwise

/-- The first layer's weights of the queries and keys. -/
theorem read3 (c : Dev nD) (t : Fin cfg0.N) (k : Fin 2048) (n : Fin 2048) :
    (iblk m c 3 t : Vec Ideal S1x2048x2048 .bf16) (ix3 0 k n) = arr3 m c (ix3 0 k ⟨n.val, by omega⟩) := by
  have e : (iblk m c 3 t : Vec Ideal S1x2048x2048 .bf16) (ix3 0 k n) = (V m c main_v27 : FVec Ideal S2x2048x2048 .bf16) ((win0_3.blk t).view.emb (ix3 0 k n)) := rfl
  rw [e, table3, place3]
  pointwise

theorem read4 (c : Dev nD) (t : Fin cfg0.N) (k : Fin 2048) (l : Fin 128) :
    (iblk m c 4 t : Vec Ideal S2048x128 .bf16) (ix2 k l) = inner (arr4 m c) (arr7 m c) (ix2 k l) := by
  have e : (iblk m c 4 t : Vec Ideal S2048x128 .bf16) (ix2 k l) = (V m c main_v19 : FVec Ideal S2048x128 .bf16) ((win0_4.blk t).view.emb (ix2 k l)) := rfl
  rw [e, table4, (place t).2.1]

theorem read5 (c : Dev nD) (t : Fin cfg0.N) (l : Fin 128) (n : Fin 1024) :
    (iblk m c 5 t : Vec Ideal S128x1024 .bf16) (ix2 l n) = outer 0#32 (arr5 m c) (ix2 l n) := by
  have e : (iblk m c 5 t : Vec Ideal S128x1024 .bf16) (ix2 l n) = (V m c main_v20 : FVec Ideal S128x1024 .bf16) ((win0_5.blk t).view.emb (ix2 l n)) := rfl
  rw [e, table5, (place t).2.2.1]

theorem read6 (c : Dev nD) (t : Fin cfg0.N) (l : Fin 128) (n : Fin 1024) :
    (iblk m c 6 t : Vec Ideal S128x1024 .bf16) (ix2 l n) = outer 16#32 (arr8 m c) (ix2 l n) := by
  have e : (iblk m c 6 t : Vec Ideal S128x1024 .bf16) (ix2 l n) = (V m c main_v21 : FVec Ideal S128x1024 .bf16) ((win0_6.blk t).view.emb (ix2 l n)) := rfl
  rw [e, table6, (place t).2.2.2.1]

theorem read7 (c : Dev nD) (t : Fin cfg0.N) (n : Fin 1024) : (iblk m c 7 t : Vec Ideal S1x1024 .f32) (ix2 0 n) = arr6 m c (ix2 0 n) := by
  have e : (iblk m c 7 t : Vec Ideal S1x1024 .f32) (ix2 0 n) = (V m c main_v29 : FVec Ideal S1x1024 .f32) ((win0_7.blk t).view.emb (ix2 0 n)) := rfl
  rw [e, table7, (place t).2.2.2.2.1, biasRow_at]

theorem read8 (c : Dev nD) (t : Fin cfg0.N) (n : Fin 1024) : (iblk m c 8 t : Vec Ideal S1x1024 .f32) (ix2 0 n) = arr9 m c (ix2 0 n) := by
  have e : (iblk m c 8 t : Vec Ideal S1x1024 .f32) (ix2 0 n) = (V m c main_v30 : FVec Ideal S1x1024 .f32) ((win0_8.blk t).view.emb (ix2 0 n)) := rfl
  rw [e, table8, (place t).2.2.2.2.2, biasRow_at]

/-- The rows a point stores, at one index. -/
theorem newRows_at (X : Vec Ideal S512x2048 .f32) (M : Vec Ideal S1x8x2048 .f32) (G : Vec Ideal S1x2048 .f32) (q : Fin 512) (k : Fin 2048) :
    newRows X M G (ix2 q k) = X (ix2 q k) * Cert.Ffn.invRms (fun k => X (ix2 q k)) * (G (ix2 0 k) * (1 + M (ix3 0 1 k))) + M (ix3 0 0 k) := by
  unfold Cert.Ffn.invRms
  pointwise [newRows, k0_pay2, modRow]

/-- The rows a point multiplies are the specification's. -/
theorem rows_eq (c : Dev nD) (t : Fin cfg0.N) (q : Fin 512) (r : Fin 16384) (hr : r.val = (t.val - 1) * 512 + q.val) (k : Fin 2048) :
    rowsBefore m c t (ix2 q k) = Cert.GlaIn.hid (arr0 m c) (arr1 m c) (arr2 m c) r k := by
  have ht := lt33 t
  obtain rfl : tileAt (prev t) q = r := Fin.ext (by dsimp only; omega)
  rw [rowsBefore, newRows_at, read1, read1, read2]
  simp only [read0]
  have e : (⟨min (prev t).val 31 / 8, by omega⟩ : Fin 4) = Cert.Ffn.sample (tileAt (prev t) q) := Fin.ext (by dsimp only; omega)
  rw [e]
  rfl

/-- The products a point leaves are the specification's columns. -/
theorem products_eq (c : Dev nD) (t : Fin cfg0.N) (q : Fin 512) (n : Fin 2048) (r : Fin 16384) (hr : r.val = (t.val - 1) * 512 + q.val) :
    products (rowsBefore m c t) (iblk m c 3 t) (ix2 q n) = Cert.GlaIn.projAt (arr0 m c) (arr1 m c) (arr2 m c) (arr3 m c) r ⟨n.val, by omega⟩ := by
  unfold Cert.GlaIn.projAt products
  refine Fin.sum_fin_congr fun k => ?_
  exact congrArg₂ (· * ·) (rows_eq m c t q r hr k) (read3 m c t k n)

/-- Gates through 16 of the 128 lanes are the specification's. -/
theorem gates_at (c : Dev nD) (t : Fin cfg0.N) (q : Fin 512) (n : Fin 1024) (r : Fin 16384) (hr : r.val = (t.val - 1) * 512 + q.val)
    (A : Vec Ideal S2048x128 .bf16) (B : Vec Ideal S128x1024 .bf16) (b : Vec Ideal S1x1024 .f32) (U : FVec Ideal S2x2048x16 .f32)
    (W : FVec Ideal S2x16x1024 .f32) (β : FVec Ideal S2x1024 .f32) (p : ℕ) (hp : p + 16 ≤ 128)
    (hA : ∀ (k : Fin 2048) (i : Fin 16), A (ix2 k ⟨p + i.val, by omega⟩) = U (ix3 0 k i))
    (hB : ∀ i : Fin 16, B (ix2 ⟨p + i.val, by omega⟩ n) = W (ix3 0 i n)) (h0 : ∀ l : Fin 128, l.val < p ∨ p + 16 ≤ l.val → B (ix2 l n) = 0)
    (hb : b (ix2 0 n) = β (ix2 0 n)) :
    gates (rowsBefore m c t) A B b (ix2 q n) = Cert.GlaQk.gateAt (arr0 m c) (arr1 m c) (arr2 m c) U W β r n := by
  show (∑ l : Fin 128, (∑ k : Fin 2048, rowsBefore m c t (ix2 q k) * A (ix2 k l)) * B (ix2 l n)) + b (ix2 0 n) = _
  unfold Cert.GlaQk.gateAt Cert.GlaQk.innerAt
  rw [hb, Cert.GlaQk.sum_run p hp _ fun l hl => by rw [h0 l hl, mul_zero]]
  refine congrArg (· + _) (Fin.sum_fin_congr fun i => ?_)
  rw [hB]
  refine congrArg (· * _) (Fin.sum_fin_congr fun k => ?_)
  rw [hA, rows_eq m c t q r hr k]

/-- The forward gates that a point leaves. -/
theorem forward_eq (c : Dev nD) (t : Fin cfg0.N) (q : Fin 512) (n : Fin 1024) (r : Fin 16384) (hr : r.val = (t.val - 1) * 512 + q.val) :
    gates (rowsBefore m c t) (iblk m c 4 t) (iblk m c 5 t) (iblk m c 7 t) (ix2 q n)
      = Cert.GlaQk.gateAt (arr0 m c) (arr1 m c) (arr2 m c) (arr4 m c) (arr5 m c) (arr6 m c) r n :=
  gates_at m c t q n r hr _ _ _ _ _ _ 0 (by omega) (fun k i => (read4 m c t k _).trans (inner_first _ _ k i))
    (fun i => (read5 m c t _ n).trans (outer_hit _ 0 (by decide) _ _ n i rfl))
    (fun l hl => (read5 m c t l n).trans (outer_miss _ 0 (by decide) _ l n hl)) (read7 m c t n)

/-- The backward gates that a point leaves. -/
theorem backward_eq (c : Dev nD) (t : Fin cfg0.N) (q : Fin 512) (n : Fin 1024) (r : Fin 16384) (hr : r.val = (t.val - 1) * 512 + q.val) :
    gates (rowsBefore m c t) (iblk m c 4 t) (iblk m c 6 t) (iblk m c 8 t) (ix2 q n)
      = Cert.GlaQk.gateAt (arr0 m c) (arr1 m c) (arr2 m c) (arr7 m c) (arr8 m c) (arr9 m c) r n :=
  gates_at m c t q n r hr _ _ _ _ _ _ 16 (by omega) (fun k i => (read4 m c t k _).trans (inner_second _ _ k i))
    (fun i => (read6 m c t _ n).trans (outer_hit _ 16 (by decide) _ _ n i rfl))
    (fun l hl => (read6 m c t l n).trans (outer_miss _ 16 (by decide) _ l n hl)) (read8 m c t n)

/-- Points that write back come after the first. -/
theorem flush_pos : ∀ t : Fin cfg0.N, (cfg0.win 9).flush t = true ∨ (cfg0.win 10).flush t = true ∨ (cfg0.win 11).flush t = true → t.val ≠ 0 :=
  (by decide +kernel : ∀ t : Fin grid0.N, _)

/-- Where the output blocks lie. -/
theorem placeOut (t : Fin cfg0.N) (q : Fin 512) : (∀ n : Fin 2048, ((win0_9.blk t).view.emb (ix2 q n) 0).val = (t.val - 1) * 512 + q.val
      ∧ (win0_9.blk t).view.emb (ix2 q n) 1 = n)
    ∧ (∀ n : Fin 1024, ((win0_10.blk t).view.emb (ix2 q n) 0).val = (t.val - 1) * 512 + q.val ∧ (win0_10.blk t).view.emb (ix2 q n) 1 = n)
    ∧ (∀ n : Fin 1024, ((win0_11.blk t).view.emb (ix2 q n) 0).val = (t.val - 1) * 512 + q.val ∧ (win0_11.blk t).view.emb (ix2 q n) 1 = n) := by
  refine ⟨?_, ?_, ?_⟩
  all_goals
    intro n
    constructor
    · blk_simp [idx t]
    · refine Fin.ext ?_
      blk_simp [idx t]

/-- The queries and keys. -/
theorem final9 (c : Dev nD) : (dats m 0 c).arrAt 9 (cfgs 0).N = fun y : S16384x2048.Idx =>
    Cert.GlaIn.projAt (arr0 m c) (arr1 m c) (arr2 m c) (arr3 m c) (y 0) ⟨(y 1).val, by have := (y 1).isLt; have e : S16384x2048.size 1 = 2048 := rfl; omega⟩ := by
  refine (dats m 0 c).arrAt_eq_of_covers 9 _ (by decide +kernel) fun t hf y => ?_
  have hz := flush_pos t (.inl hf)
  idx_vars y
  obtain ⟨e0, e1⟩ := (placeOut t y0).1 y1
  blk_simp
  rw [after0_9, (outs m c t hz).1]
  refine (products_eq m c t y0 y1 _ e0).trans ?_
  refine congrArg (Cert.GlaIn.projAt _ _ _ _ _) (Fin.ext ?_)
  blk_simp [idx t]

/-- The forward decay gates. -/
theorem final10 (c : Dev nD) : (dats m 0 c).arrAt 10 (cfgs 0).N = fun y : S16384x1024.Idx =>
    Cert.GlaQk.gateAt (arr0 m c) (arr1 m c) (arr2 m c) (arr4 m c) (arr5 m c) (arr6 m c) (y 0) (y 1) := by
  refine (dats m 0 c).arrAt_eq_of_covers 10 _ (by decide +kernel) fun t hf y => ?_
  have hz := flush_pos t (.inr (.inl hf))
  idx_vars y
  obtain ⟨e0, e1⟩ := (placeOut t y0).2.1 y1
  blk_simp
  rw [after0_10, (outs m c t hz).2.1]
  refine (forward_eq m c t y0 y1 _ e0).trans ?_
  exact congrArg (Cert.GlaQk.gateAt _ _ _ _ _ _ _) e1.symm

/-- The backward decay gates. -/
theorem final11 (c : Dev nD) : (dats m 0 c).arrAt 11 (cfgs 0).N = fun y : S16384x1024.Idx =>
    Cert.GlaQk.gateAt (arr0 m c) (arr1 m c) (arr2 m c) (arr7 m c) (arr8 m c) (arr9 m c) (y 0) (y 1) := by
  refine (dats m 0 c).arrAt_eq_of_covers 11 _ (by decide +kernel) fun t hf y => ?_
  have hz := flush_pos t (.inr (.inr hf))
  idx_vars y
  obtain ⟨e0, e1⟩ := (placeOut t y0).2.2 y1
  blk_simp
  rw [after0_11, (outs m c t hz).2.2]
  refine (backward_eq m c t y0 y1 _ e0).trans ?_
  exact congrArg (Cert.GlaQk.gateAt _ _ _ _ _ _ _) e1.symm

end Cert.Kernel7Ideal.GlaQk
-- ==== Proof.Claims.GlaQueryKeys.lean ====
module

public import proofs.«01_k».proof.Defs
public import proofs.«01_k».proof.Proof.GlaQk.Reference
public import proofs.«01_k».proof.Proof.GlaQk.Result
public import Idealize.ShloMosaic.Lib.Claim

/-! The query, key and decay gate projection kernel of gated linear attention and its reference return the same three arrays. -/

@[expose] public section

set_option maxRecDepth 16384
set_option maxHeartbeats 4000000

noncomputable section

namespace Cert.Proof

open Idealize.ShloMosaic Idealize.SL.Sem Cert.Kernel7Ideal.GlaQk
open Cert.Reference2Ideal.Ffn (byStream scaled)
open Cert.Reference5Ideal.GlaIn (modulated all)

/-- From memories that agree on the arguments, the projection kernel of the queries, keys and decay gates of gated linear
    attention and the plain lines return the same queries and keys and the same gates of both directions. -/
theorem gla_query_keys : Cert.algebraic_Kernel7Ideal_Reference7Ideal := by
  pair_intro
  · run_from Cert.Kernel7Ideal.Gen.run_main m g
  · run_from Cert.Reference7Ideal.Value.run m' g'
    · change Cert.Reference7Ideal.GlaQk.joined (all (arr0 m c) (arr1 m c) (arr2 m c) (arr3 m c)) = _
      exact (Cert.Reference7Ideal.GlaQk.joined_eq _ _ _ _).trans (Cert.Kernel7Ideal.GlaQk.final9 m c).symm
    · change Cert.Reference7Ideal.GlaQk.gate (modulated (scaled (byStream (arr0 m c)) (arr2 m c)) (arr1 m c)) (arr4 m c) (arr5 m c) (arr6 m c) = _
      exact (Cert.Reference7Ideal.GlaQk.gate_eq _ _ _ _ _ _).trans (Cert.Kernel7Ideal.GlaQk.final10 m c).symm
    · change Cert.Reference7Ideal.GlaQk.gate (modulated (scaled (byStream (arr0 m c)) (arr2 m c)) (arr1 m c)) (arr7 m c) (arr8 m c) (arr9 m c) = _
      exact (Cert.Reference7Ideal.GlaQk.gate_eq _ _ _ _ _ _).trans (Cert.Kernel7Ideal.GlaQk.final11 m c).symm

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Loops
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Loops
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Pre_finite_scores
public import proofs.«01_k».proof.Proof.Gen.KernelIdeal.Value
public import proofs.«01_k».proof.Proof.Gen.ReferenceIdeal.Run
public import proofs.«01_k».proof.Proof.Gen.Reference2Ideal.Run
public import proofs.«01_k».proof.Proof.Claims.Attention
public import proofs.«01_k».proof.Proof.Claims.FeedForward
public import proofs.«01_k».proof.Proof.Claims.FeedForwardMid
public import proofs.«01_k».proof.Proof.Claims.GlaOutput
public import proofs.«01_k».proof.Proof.Claims.GlaProjection
public import proofs.«01_k».proof.Proof.Claims.QkvProjection
public import proofs.«01_k».proof.Proof.Claims.GlaQueryKeys
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The plain attention terminates and leaves its arguments unchanged. -/
theorem attention_reference : Cert.quiescent_ReferenceIdeal := by
  intro m g _
  run_from Cert.ReferenceIdeal.Value.run m g
  · exact fun c => by simp
  · exact sem_eq_zero_of_no_sems rfl _

/-- The plain feed-forward part terminates and leaves its arguments unchanged. -/
theorem feedforward_reference : Cert.quiescent_Reference2Ideal := by
  intro m g _
  run_from Cert.Reference2Ideal.Value.run m g
  · exact fun c => by simp
  · exact sem_eq_zero_of_no_sems rfl _

/-- The plain feed-forward part without the last norm terminates and leaves its arguments unchanged. -/
theorem feedforward_mid_reference : Cert.quiescent_Reference3Ideal := by
  intro m g _
  run_from Cert.Reference3Ideal.Value.run m g
  · exact fun c => by simp
  · exact sem_eq_zero_of_no_sems rfl _

/-- The plain output part of the gated linear attention terminates and leaves its arguments unchanged. -/
theorem gla_output_reference : Cert.quiescent_Reference4Ideal := by
  intro m g _
  run_from Cert.Reference4Ideal.Value.run m g
  · exact fun c => by simp
  · exact sem_eq_zero_of_no_sems rfl _

/-- The plain value and gate projection of the gated linear attention terminates and leaves its arguments unchanged. -/
theorem gla_projection_reference : Cert.quiescent_Reference5Ideal := by
  intro m g _
  run_from Cert.Reference5Ideal.Value.run m g
  · exact fun c => by simp
  · exact sem_eq_zero_of_no_sems rfl _

/-- The plain projection of the attention's queries, keys and values terminates and leaves its arguments unchanged. -/
theorem qkv_projection_reference : Cert.quiescent_Reference6Ideal := by
  intro m g _
  run_from Cert.Reference6Ideal.Value.run m g
  · exact fun c => by simp
  · exact sem_eq_zero_of_no_sems rfl _

/-- The plain query, key and decay gate projection of the gated linear attention terminates and leaves its arguments unchanged. -/
theorem gla_query_keys_reference : Cert.quiescent_Reference7Ideal := by
  intro m g _
  run_from Cert.Reference7Ideal.Value.run m g
  · exact fun c => by simp
  · exact sem_eq_zero_of_no_sems rfl _

/-- Every claim about the programs. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Pre_finite_scores.Gen.facts,
  fun m ρ _ => Cert.Kernel.Gen.frame m ρ,
  fun m ρ _ => Cert.KernelIdeal.Gen.frame m ρ,
  fun m ρ _ => Cert.KernelIdeal.Gen.frame m ρ,
  attention_reference,
  fun m ρ _ => attention_reference m ρ trivial,
  fun m ρ _ => Cert.Kernel2.Gen.frame m ρ,
  fun m ρ _ => Cert.Kernel2Ideal.Gen.frame m ρ,
  feedforward_reference,
  fun m ρ _ => Cert.Kernel3.Gen.frame m ρ,
  fun m ρ _ => Cert.Kernel3Ideal.Gen.frame m ρ,
  feedforward_mid_reference,
  fun m ρ _ => Cert.Kernel4.Gen.frame m ρ,
  fun m ρ _ => Cert.Kernel4Ideal.Gen.frame m ρ,
  gla_output_reference,
  fun m ρ _ => Cert.Kernel5.Gen.frame m ρ,
  fun m ρ _ => Cert.Kernel5Ideal.Gen.frame m ρ,
  gla_projection_reference,
  fun m ρ _ => Cert.Kernel6.Gen.frame m ρ,
  fun m ρ _ => Cert.Kernel6Ideal.Gen.frame m ρ,
  qkv_projection_reference,
  fun m ρ _ => Cert.Kernel7.Gen.frame m ρ,
  fun m ρ _ => Cert.Kernel7Ideal.Gen.frame m ρ,
  gla_query_keys_reference,
  trivial,
  attention,
  trivial,
  feedforward,
  trivial,
  feedforward_mid,
  trivial,
  gla_output,
  trivial,
  gla_projection,
  trivial,
  qkv_projection,
  trivial,
  gla_query_keys⟩

end Cert.Proof

end
